-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)) (v3 : (c : Dev Cert.Kernel20Ideal.nD) → Buf (Elt Ideal) ((c.tc : Thread Cert.Kernel20Ideal.nD Cert.Kernel20Ideal.τ).loc Cert.Kernel20Ideal.main_v1_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_v1_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_v19) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)) (v2 : (c : Dev Cert.Kernel21Ideal.nD) → Buf (Elt Ideal) ((c.tc : Thread Cert.Kernel21Ideal.nD Cert.Kernel21Ideal.τ).loc Cert.Kernel21Ideal.main_v1_2)) (v3 : (c : Dev Cert.Kernel21Ideal.nD) → Buf (Elt Ideal) ((c.tc : Thread Cert.Kernel21Ideal.nD Cert.Kernel21Ideal.τ).loc Cert.Kernel21Ideal.main_v1_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_v1_2) = v2 c
          ∧ r.2.mem ((c.tc : Thread Cert.Kernel21Ideal.nD Cert.Kernel21Ideal.τ).loc Cert.Kernel21Ideal.main_v1_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v8) = v0 c
          ∧ r.2.mem ((c.tc : Thread Cert.Reference21Ideal.nD Cert.Reference21Ideal.τ).loc Cert.Reference21Ideal.main_v32) = v1 c
          ∧ r.2.mem ((c.tc : Thread Cert.Reference21Ideal.nD Cert.Reference21Ideal.τ).loc Cert.Reference21Ideal.main_v13) = v2 c
          ∧ r.2.mem ((c.tc : Thread Cert.Reference21Ideal.nD Cert.Reference21Ideal.τ).loc Cert.Reference21Ideal.main_v19) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_v32) = v1 c
          ∧ r.2.mem ((c.tc : Thread Cert.Reference22Ideal.nD Cert.Reference22Ideal.τ).loc Cert.Reference22Ideal.main_v13) = v2 c
          ∧ r.2.mem ((c.tc : Thread Cert.Reference22Ideal.nD Cert.Reference22Ideal.τ).loc Cert.Reference22Ideal.main_v19) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_v32) = v1 c
          ∧ r.2.mem ((c.tc : Thread Cert.Reference23Ideal.nD Cert.Reference23Ideal.τ).loc Cert.Reference23Ideal.main_v13) = v2 c
          ∧ r.2.mem ((c.tc : Thread Cert.Reference23Ideal.nD Cert.Reference23Ideal.τ).loc Cert.Reference23Ideal.main_v19) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v1_0)) (v1 : (c : Dev Cert.Kernel24Ideal.nD) → Buf (Elt Ideal) ((c.tc : Thread Cert.Kernel24Ideal.nD Cert.Kernel24Ideal.τ).loc Cert.Kernel24Ideal.main_v1_1)) (v2 : (c : Dev Cert.Kernel24Ideal.nD) → Buf (Elt Ideal) ((c.tc : Thread Cert.Kernel24Ideal.nD Cert.Kernel24Ideal.τ).loc Cert.Kernel24Ideal.main_v1_2)) (v3 : (c : Dev Cert.Kernel24Ideal.nD) → Buf (Elt Ideal) ((c.tc : Thread Cert.Kernel24Ideal.nD Cert.Kernel24Ideal.τ).loc Cert.Kernel24Ideal.main_v1_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1_0) = v0 c
          ∧ r.2.mem ((c.tc : Thread Cert.Kernel24Ideal.nD Cert.Kernel24Ideal.τ).loc Cert.Kernel24Ideal.main_v1_1) = v1 c
          ∧ r.2.mem ((c.tc : Thread Cert.Kernel24Ideal.nD Cert.Kernel24Ideal.τ).loc Cert.Kernel24Ideal.main_v1_2) = v2 c
          ∧ r.2.mem ((c.tc : Thread Cert.Kernel24Ideal.nD Cert.Kernel24Ideal.τ).loc Cert.Kernel24Ideal.main_v1_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)) (v3 : (c : Dev Cert.Kernel25Ideal.nD) → Buf (Elt Ideal) ((c.tc : Thread Cert.Kernel25Ideal.nD Cert.Kernel25Ideal.τ).loc Cert.Kernel25Ideal.main_v1_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_v1_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v2) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_v8) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v37) = v0 c
          ∧ r.2.mem ((c.tc : Thread Cert.Reference27Ideal.nD Cert.Reference27Ideal.τ).loc Cert.Reference27Ideal.main_v38) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel8_Kernel8Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel8_Kernel8Ideal
-- ==== Kernel.lean ====
abbrev S8192x1024 : Shape := ⟨2, ![8192, 1024]⟩
abbrev S8192x256 : Shape := ⟨2, ![8192, 256]⟩
abbrev S16x128x384 : Shape := ⟨3, ![16, 128, 384]⟩
abbrev S16 : Shape := ⟨1, ![16]⟩
abbrev S8192x12288 : Shape := ⟨2, ![8192, 12288]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩
abbrev S8192x4x64 : Shape := ⟨3, ![8192, 4, 64]⟩
abbrev S8192x4x128 : Shape := ⟨3, ![8192, 4, 128]⟩
abbrev S8192x512 : Shape := ⟨2, ![8192, 512]⟩
abbrev S8192x9216 : Shape := ⟨2, ![8192, 9216]⟩
abbrev S64x128x4x4x64 : Shape := ⟨5, ![64, 128, 4, 4, 64]⟩
abbrev S128x4x64 : Shape := ⟨3, ![128, 4, 64]⟩
abbrev S8448x4x64 : Shape := ⟨3, ![8448, 4, 64]⟩
abbrev S66x128x4x64 : Shape := ⟨4, ![66, 128, 4, 64]⟩
abbrev S64x128x4x64 : Shape := ⟨4, ![64, 128, 4, 64]⟩
abbrev S64x384x4x64 : Shape := ⟨4, ![64, 384, 4, 64]⟩
abbrev S64x4x384x128x4 : Shape := ⟨5, ![64, 4, 384, 128, 4]⟩
abbrev S64x4x4x128x384 : Shape := ⟨5, ![64, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S4x4x128x384 : Shape := ⟨4, ![4, 4, 128, 384]⟩
abbrev S64x1x1x128x384 : Shape := ⟨5, ![64, 1, 1, 128, 384]⟩
abbrev S1x4x4x128x384 : Shape := ⟨5, ![1, 4, 4, 128, 384]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S64x128x4x4 : Shape := ⟨4, ![64, 128, 4, 4]⟩
abbrev S8192x16 : Shape := ⟨2, ![8192, 16]⟩
abbrev S4x512x384 : Shape := ⟨3, ![4, 512, 384]⟩
abbrev S8192x128 : Shape := ⟨2, ![8192, 128]⟩
abbrev S1x128 : Shape := ⟨2, ![1, 128]⟩
abbrev S128x2048 : Shape := ⟨2, ![128, 2048]⟩
abbrev S128x512 : Shape := ⟨2, ![128, 512]⟩
abbrev S128x128 : Shape := ⟨2, ![128, 128]⟩
abbrev S128x3072 : Shape := ⟨2, ![128, 3072]⟩
abbrev S384x128 : Shape := ⟨2, ![384, 128]⟩
abbrev S512x128 : Shape := ⟨2, ![512, 128]⟩
abbrev S512x384 : Shape := ⟨2, ![512, 384]⟩
abbrev S1x512x384 : Shape := ⟨3, ![1, 512, 384]⟩
abbrev S512x1 : Shape := ⟨2, ![512, 1]⟩
abbrev S512 : Shape := ⟨1, ![512]⟩
abbrev S1x1 : Shape := ⟨2, ![1, 1]⟩
abbrev S1 : Shape := ⟨1, ![1]⟩

abbrev nBuf : Space → Nat
  | .hbm => 167
  | .vmem => 31
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S16x128x384, .f32⟩
  | 4 => ⟨S16, .f32⟩
  | 5 => ⟨S8192x1024, .f32⟩
  | 6 => ⟨S8192x12288, .bf16⟩
  | 7 => ⟨S8192x16x64, .f32⟩
  | 8 => ⟨S_, .i32⟩
  | 9 => ⟨S_, .f32⟩
  | 10 => ⟨S8192x16x128, .f32⟩
  | 11 => ⟨S8192x2048, .f32⟩
  | 12 => ⟨S8192x4x64, .f32⟩
  | 13 => ⟨S_, .i32⟩
  | 14 => ⟨S_, .f32⟩
  | 15 => ⟨S8192x4x128, .f32⟩
  | 16 => ⟨S8192x512, .f32⟩
  | 17 => ⟨S8192x4x64, .f32⟩
  | 18 => ⟨S_, .i32⟩
  | 19 => ⟨S_, .f32⟩
  | 20 => ⟨S8192x4x128, .f32⟩
  | 21 => ⟨S8192x512, .f32⟩
  | 22 => ⟨S_, .f32⟩
  | 23 => ⟨S8192x9216, .f32⟩
  | 24 => ⟨S8192x12288, .f32⟩
  | 25 => ⟨S8192x12288, .bf16⟩
  | 26 => ⟨S64x128x4x4x64, .f32⟩
  | 27 => ⟨S8192x4x64, .f32⟩
  | 28 => ⟨S_, .f32⟩
  | 29 => ⟨S128x4x64, .f32⟩
  | 30 => ⟨S8448x4x64, .f32⟩
  | 31 => ⟨S66x128x4x64, .f32⟩
  | 32 => ⟨S64x128x4x64, .f32⟩
  | 33 => ⟨S64x128x4x64, .f32⟩
  | 34 => ⟨S64x128x4x64, .f32⟩
  | 35 => ⟨S64x384x4x64, .f32⟩
  | 36 => ⟨S8192x4x64, .f32⟩
  | 37 => ⟨S_, .f32⟩
  | 38 => ⟨S128x4x64, .f32⟩
  | 39 => ⟨S8448x4x64, .f32⟩
  | 40 => ⟨S66x128x4x64, .f32⟩
  | 41 => ⟨S64x128x4x64, .f32⟩
  | 42 => ⟨S64x128x4x64, .f32⟩
  | 43 => ⟨S64x128x4x64, .f32⟩
  | 44 => ⟨S64x384x4x64, .f32⟩
  | 45 => ⟨S64x4x384x128x4, .f32⟩
  | 46 => ⟨S64x4x4x128x384, .f32⟩
  | 47 => ⟨S_, .f32⟩
  | 48 => ⟨S64x4x4x128x384, .f32⟩
  | 49 => ⟨S64x4x4x128x384, .f32⟩
  | 50 => ⟨S128, .i32⟩
  | 51 => ⟨S128x1, .i32⟩
  | 52 => ⟨S384, .i32⟩
  | 53 => ⟨S1x384, .i32⟩
  | 54 => ⟨S_, .i32⟩
  | 55 => ⟨S1x384, .i32⟩
  | 56 => ⟨S1x384, .i32⟩
  | 57 => ⟨S128x384, .i32⟩
  | 58 => ⟨S128x384, .i32⟩
  | 59 => ⟨S128x384, .i32⟩
  | 60 => ⟨S128x384, .i32⟩
  | 61 => ⟨S_, .i32⟩
  | 62 => ⟨S128x384, .i32⟩
  | 63 => ⟨S128x384, .i1⟩
  | 64 => ⟨S384, .i32⟩
  | 65 => ⟨S1x384, .i32⟩
  | 66 => ⟨S64, .i32⟩
  | 67 => ⟨S64x1, .i32⟩
  | 68 => ⟨S_, .i32⟩
  | 69 => ⟨S64x1, .i32⟩
  | 70 => ⟨S64x1, .i32⟩
  | 71 => ⟨S64x384, .i32⟩
  | 72 => ⟨S64x384, .i32⟩
  | 73 => ⟨S64x384, .i32⟩
  | 74 => ⟨S_, .i32⟩
  | 75 => ⟨S64x384, .i32⟩
  | 76 => ⟨S64x384, .i32⟩
  | 77 => ⟨S1x128x384, .i1⟩
  | 78 => ⟨S_, .i32⟩
  | 79 => ⟨S64x384, .i32⟩
  | 80 => ⟨S64x384, .i1⟩
  | 81 => ⟨S_, .i32⟩
  | 82 => ⟨S64x384, .i32⟩
  | 83 => ⟨S64x384, .i1⟩
  | 84 => ⟨S64x384, .i1⟩
  | 85 => ⟨S64x1x384, .i1⟩
  | 86 => ⟨S64x128x384, .i1⟩
  | 87 => ⟨S64x128x384, .i1⟩
  | 88 => ⟨S64x128x384, .i1⟩
  | 89 => ⟨S4x4x128x384, .f32⟩
  | 90 => ⟨S64x1x1x128x384, .i1⟩
  | 91 => ⟨S1x4x4x128x384, .f32⟩
  | 92 => ⟨S64x4x4x128x384, .f32⟩
  | 93 => ⟨S64x4x4x128x384, .f32⟩
  | 94 => ⟨S_, .f32⟩
  | 95 => ⟨S_, .f32⟩
  | 96 => ⟨S64x4x4x128x384, .i1⟩
  | 97 => ⟨S64x4x4x128x384, .f32⟩
  | 98 => ⟨S64x4x4x128x384, .f32⟩
  | 99 => ⟨S1x4x4x1x1, .f32⟩
  | 100 => ⟨S_, .f32⟩
  | 101 => ⟨S64x4x4x128, .f32⟩
  | 102 => ⟨S64x4x4x128x1, .f32⟩
  | 103 => ⟨S64x4x4x128x1, .f32⟩
  | 104 => ⟨S64x4x4x128x1, .f32⟩
  | 105 => ⟨S64x4x4x128x384, .f32⟩
  | 106 => ⟨S64x4x4x128x384, .f32⟩
  | 107 => ⟨S64x4x4x128x384, .f32⟩
  | 108 => ⟨S_, .f32⟩
  | 109 => ⟨S64x4x4x128, .f32⟩
  | 110 => ⟨S64x4x4x128x1, .f32⟩
  | 111 => ⟨S64x4x4x128x1, .f32⟩
  | 112 => ⟨S64x4x4x128x1, .f32⟩
  | 113 => ⟨S64x4x4x128x1, .f32⟩
  | 114 => ⟨S64x4x4x128x1, .f32⟩
  | 115 => ⟨S64x4x4x128x384, .f32⟩
  | 116 => ⟨S64x4x4x128x384, .f32⟩
  | 117 => ⟨S64x4x64x4x128, .f32⟩
  | 118 => ⟨S64x128x4x4x64, .f32⟩
  | 119 => ⟨S8192x1024, .f32⟩
  | 120 => ⟨S64x4x4x128x1, .f32⟩
  | 121 => ⟨S64x4x4x128x1, .f32⟩
  | 122 => ⟨S64x4x4x128, .f32⟩
  | 123 => ⟨S64x128x4x4, .f32⟩
  | 124 => ⟨S8192x16, .f32⟩
  | 125 => ⟨S8192x16x64, .f32⟩
  | 126 => ⟨S_, .i32⟩
  | 127 => ⟨S_, .f32⟩
  | _ => ⟨S8192x1024, .f32⟩

abbrev hbmTy0_1 (i : Nat) : BufTy := match i % 128 with
  | 0 => ⟨S8192x16x128, .f32⟩
  | 1 => ⟨S8192x2048, .f32⟩
  | 2 => ⟨S8192x2048, .bf16⟩
  | 3 => ⟨S128, .i32⟩
  | 4 => ⟨S128x1, .i32⟩
  | 5 => ⟨S384, .i32⟩
  | 6 => ⟨S1x384, .i32⟩
  | 7 => ⟨S_, .i32⟩
  | 8 => ⟨S1x384, .i32⟩
  | 9 => ⟨S1x384, .i32⟩
  | 10 => ⟨S128x384, .i32⟩
  | 11 => ⟨S128x384, .i32⟩
  | 12 => ⟨S128x384, .i32⟩
  | 13 => ⟨S128x384, .i32⟩
  | 14 => ⟨S_, .i32⟩
  | 15 => ⟨S128x384, .i32⟩
  | 16 => ⟨S128x384, .i1⟩
  | 17 => ⟨S_, .f32⟩
  | 18 => ⟨S_, .f32⟩
  | 19 => ⟨S16x128x384, .i1⟩
  | 20 => ⟨S16x128x384, .f32⟩
  | 21 => ⟨S16x128x384, .f32⟩
  | 22 => ⟨S4x512x384, .f32⟩
  | 23 => ⟨S_, .i32⟩
  | 24 => ⟨S_, .f32⟩
  | 25 => ⟨S8192x128, .f32⟩
  | 26 => ⟨S_, .i32⟩
  | 27 => ⟨S_, .f32⟩
  | 28 => ⟨S128, .f32⟩
  | 29 => ⟨S1x128, .f32⟩
  | 30 => ⟨S8192x16x64, .f32⟩
  | 31 => ⟨S_, .i32⟩
  | 32 => ⟨S_, .f32⟩
  | 33 => ⟨S8192x16x128, .f32⟩
  | 34 => ⟨S8192x2048, .f32⟩
  | 35 => ⟨S8192x2048, .bf16⟩
  | 36 => ⟨S8192x12288, .bf16⟩
  | 37 => ⟨S4x512x384, .f32⟩
  | 38 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S4x512x384, .f32⟩
  | .local _ .vmem, ⟨15, _⟩ => ⟨S1x128, .f32⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x128, .f32⟩
  | .local _ .vmem, ⟨21, _⟩ => ⟨S128x128, .f32⟩
  | .local _ .vmem, ⟨22, _⟩ => ⟨S128x3072, .bf16⟩
  | .local _ .vmem, ⟨23, _⟩ => ⟨S128x3072, .bf16⟩
  | .local _ .vmem, ⟨24, _⟩ => ⟨S4x512x384, .f32⟩
  | .local _ .vmem, ⟨25, _⟩ => ⟨S1x128, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_14 : Ref sig .tc := ⟨.hbm, 126, rfl⟩
abbrev main_call4_v0 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_15 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_16 : Ref sig .tc := ⟨.hbm, 142, rfl⟩
abbrev main_v110 : Ref sig .tc := ⟨.hbm, 143, rfl⟩
abbrev main_v111 : Ref sig .tc := ⟨.hbm, 144, rfl⟩
abbrev main_cst_17 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v112 : Ref sig .tc := ⟨.hbm, 149, rfl⟩
abbrev main_v113 : Ref sig .tc := ⟨.hbm, 150, rfl⟩
abbrev main_c_18 : Ref sig .tc := ⟨.hbm, 151, rfl⟩
abbrev main_call6_v0 : Ref sig .tc := ⟨.hbm, 152, rfl⟩
abbrev main_v114 : Ref sig .tc := ⟨.hbm, 153, rfl⟩
abbrev main_c_19 : Ref sig .tc := ⟨.hbm, 154, rfl⟩
abbrev main_call7_v0 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_20 : Ref sig .tc := ⟨.hbm, 159, rfl⟩
abbrev main_call8_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121_0 : Ref sig .tc := ⟨.hbm, 164, rfl⟩
abbrev main_v121_1 : Ref sig .tc := ⟨.hbm, 165, rfl⟩
abbrev main_v121_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c64_i32 : BitVec 32 := 64#32
  let v5 : BitVec 1 := Scalar.cmpi .slt arg0 c64_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.addi v0 c1_i32
  let c63_i32_0 : BitVec 32 := 63#32
  let v2 : BitVec 32 := Scalar.minsi v1 c63_i32_0
  let c4_i32 : BitVec 32 := 4#32
  let c0_i32 : BitVec 32 := 0#32
  ![v2.toNat, c4_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c5_i32 : BitVec 32 := 5#32
  let c0_i32 : BitVec 32 := 0#32
  ![v0.toNat, c5_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.addi v0 c1_i32
  let c63_i32_0 : BitVec 32 := 63#32
  let v2 : BitVec 32 := Scalar.minsi v1 c63_i32_0
  let c5_i32 : BitVec 32 := 5#32
  let c0_i32 : BitVec 32 := 0#32
  ![v2.toNat, c5_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x512x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "mask" => some ⊥
  | _ => none
-- ==== Kernel2.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩
abbrev S2048x1024 : Shape := ⟨2, ![2048, 1024]⟩
abbrev S1024x2048 : Shape := ⟨2, ![1024, 2048]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .bf16⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024x12288 : Shape := ⟨2, ![1024, 12288]⟩
abbrev S8192x12288 : Shape := ⟨2, ![8192, 12288]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x12288, .bf16⟩
  | .hbm, ⟨3, _⟩ => ⟨S1024x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x12288 : Shape := ⟨2, ![1024, 12288]⟩
abbrev S8192x12288 : Shape := ⟨2, ![8192, 12288]⟩
abbrev S12288x1024 : Shape := ⟨2, ![12288, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x12288, .bf16⟩
  | .hbm, ⟨3, _⟩ => ⟨S1024x12288, .f32⟩
  | .hbm, ⟨4, _⟩ => ⟨S8192x1024, .f32⟩
  | .hbm, ⟨5, _⟩ => ⟨S8192x12288, .f32⟩
  | .hbm, ⟨6, _⟩ => ⟨S8192x12288, .f32⟩
  | .hbm, ⟨7, _⟩ => ⟨S12288x1024, .f32⟩
  | .hbm, ⟨8, _⟩ => ⟨S1024x12288, .f32⟩
  | .hbm, ⟨9, _⟩ => ⟨S1024x12288, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x12288 : Shape := ⟨2, ![1024, 12288]⟩
abbrev S8192x12288 : Shape := ⟨2, ![8192, 12288]⟩
abbrev S1024x4096 : Shape := ⟨2, ![1024, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x12288, .bf16⟩
  | .hbm, ⟨3, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x12288 : Shape := ⟨2, ![1024, 12288]⟩
abbrev S8192x12288 : Shape := ⟨2, ![8192, 12288]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x12288, .bf16⟩
  | .hbm, ⟨3, _⟩ => ⟨S8192x1024, .f32⟩
  | .hbm, ⟨4, _⟩ => ⟨S1024x12288, .f32⟩
  | .hbm, ⟨5, _⟩ => ⟨S8192x12288, .f32⟩
  | .hbm, ⟨6, _⟩ => ⟨S8192x12288, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S2048x1024 : Shape := ⟨2, ![2048, 1024]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x1024 : Shape := ⟨2, ![2048, 1024]⟩
abbrev S8192x1024 : Shape := ⟨2, ![8192, 1024]⟩
abbrev S2048x2048 : Shape := ⟨2, ![2048, 2048]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x2048, .bf16⟩
  | .local _ .vmem, ⟨4, _⟩ => ⟨S2048x2048, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .bf16⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x4096, .f32⟩
  | .hbm, ⟨3, _⟩ => ⟨S4096x1024, .f32⟩
  | .hbm, ⟨4, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1024x12288 : Shape := ⟨2, ![1024, 12288]⟩
abbrev S8192x12288 : Shape := ⟨2, ![8192, 12288]⟩
abbrev S8192x128 : Shape := ⟨2, ![8192, 128]⟩
abbrev S2048x1024 : Shape := ⟨2, ![2048, 1024]⟩
abbrev S1024x2048 : Shape := ⟨2, ![1024, 2048]⟩
abbrev S2048x2048 : Shape := ⟨2, ![2048, 2048]⟩
abbrev S2048x128 : Shape := ⟨2, ![2048, 128]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x12288, .bf16⟩
  | .hbm, ⟨3, _⟩ => ⟨S8192x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x128, .f32⟩
  | .local _ .vmem, ⟨7, _⟩ => ⟨S2048x128, .f32⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 6, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference15Ideal.lean ====
abbrev S8192x1024 : Shape := ⟨2, ![8192, 1024]⟩
abbrev S1024x12288 : Shape := ⟨2, ![1024, 12288]⟩
abbrev S8192x12288 : Shape := ⟨2, ![8192, 12288]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x12288, .bf16⟩
  | .hbm, ⟨2, _⟩ => ⟨S8192x1024, .f32⟩
  | .hbm, ⟨3, _⟩ => ⟨S1024x12288, .f32⟩
  | .hbm, ⟨4, _⟩ => ⟨S8192x12288, .f32⟩
  | .hbm, ⟨5, _⟩ => ⟨S8192x12288, .bf16⟩
  | .hbm, ⟨6, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S8192x2048 : Shape := ⟨2, ![8192, 2048]⟩
abbrev S2048x1024 : Shape := ⟨2, ![2048, 1024]⟩
abbrev S8192x1024 : Shape := ⟨2, ![8192, 1024]⟩
abbrev S2048x2048 : Shape := ⟨2, ![2048, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S2048x1024, .f32⟩
  | .hbm, ⟨4, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8x520x128 : Shape := ⟨3, ![8, 520, 128]⟩
abbrev S520x128 : Shape := ⟨2, ![520, 128]⟩
abbrev S1x520x128 : Shape := ⟨3, ![1, 520, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x520x128, .f32⟩
  | .hbm, ⟨1, _⟩ => ⟨S520x128, .f32⟩
  | .hbm, ⟨2, _⟩ => ⟨S520x128, .f32⟩
  | .hbm, ⟨3, _⟩ => ⟨S520x128, .f32⟩
  | .hbm, ⟨4, _⟩ => ⟨S520x128, .f32⟩
  | .hbm, ⟨5, _⟩ => ⟨S520x128, .f32⟩
  | .hbm, ⟨6, _⟩ => ⟨S520x128, .f32⟩
  | .hbm, ⟨7, _⟩ => ⟨S520x128, .f32⟩
  | .local _ .vmem, ⟨0, _⟩ => ⟨S8x520x128, .f32⟩
  | .local _ .vmem, ⟨1, _⟩ => ⟨S520x128, .f32⟩
  | .local _ .vmem, ⟨2, _⟩ => ⟨S520x128, .f32⟩
  | .local _ .vmem, ⟨3, _⟩ => ⟨S520x128, .f32⟩
  | .local _ .vmem, ⟨4, _⟩ => ⟨S520x128, .f32⟩
  | .local _ .vmem, ⟨5, _⟩ => ⟨S520x128, .f32⟩
  | .local _ .vmem, ⟨6, _⟩ => ⟨S520x128, .f32⟩
  | .local _ .vmem, ⟨7, _⟩ => ⟨S520x128, .f32⟩
  | _, _ => ⟨S8x520x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x520x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S520x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S520x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S520x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S520x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S520x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x520x128 : Shape := ⟨3, ![8, 520, 128]⟩
abbrev S520x128 : Shape := ⟨2, ![520, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x520x128, .f32⟩
  | .hbm, ⟨1, _⟩ => ⟨S520x128, .f32⟩
  | .hbm, ⟨2, _⟩ => ⟨S520x128, .f32⟩
  | .hbm, ⟨3, _⟩ => ⟨S520x128, .f32⟩
  | .hbm, ⟨4, _⟩ => ⟨S_, .f32⟩
  | .hbm, ⟨5, _⟩ => ⟨S520x128, .f32⟩
  | .hbm, ⟨6, _⟩ => ⟨S_, .f32⟩
  | .hbm, ⟨7, _⟩ => ⟨S520x128, .f32⟩
  | .hbm, ⟨8, _⟩ => ⟨S520x128, .f32⟩
  | .hbm, ⟨9, _⟩ => ⟨S_, .f32⟩
  | .hbm, ⟨10, _⟩ => ⟨S520x128, .f32⟩
  | .hbm, ⟨11, _⟩ => ⟨S520x128, .f32⟩
  | .hbm, ⟨12, _⟩ => ⟨S520x128, .f32⟩
  | .hbm, ⟨13, _⟩ => ⟨S_, .f32⟩
  | .hbm, ⟨14, _⟩ => ⟨S520x128, .f32⟩
  | .hbm, ⟨15, _⟩ => ⟨S520x128, .f32⟩
  | .hbm, ⟨16, _⟩ => ⟨S520x128, .f32⟩
  | .hbm, ⟨17, _⟩ => ⟨S_, .f32⟩
  | .hbm, ⟨18, _⟩ => ⟨S520x128, .f32⟩
  | .hbm, ⟨19, _⟩ => ⟨S520x128, .f32⟩
  | .hbm, ⟨20, _⟩ => ⟨S520x128, .f32⟩
  | .hbm, ⟨21, _⟩ => ⟨S_, .f32⟩
  | .hbm, ⟨22, _⟩ => ⟨S520x128, .f32⟩
  | .hbm, ⟨23, _⟩ => ⟨S520x128, .f32⟩
  | .hbm, ⟨24, _⟩ => ⟨S_, .f32⟩
  | .hbm, ⟨25, _⟩ => ⟨S520x128, .f32⟩
  | .hbm, ⟨26, _⟩ => ⟨S520x128, .f32⟩
  | .hbm, ⟨27, _⟩ => ⟨S520x128, .f32⟩
  | .hbm, ⟨28, _⟩ => ⟨S_, .f32⟩
  | .hbm, ⟨29, _⟩ => ⟨S520x128, .f32⟩
  | .hbm, ⟨30, _⟩ => ⟨S520x128, .f32⟩
  | .hbm, ⟨31, _⟩ => ⟨S520x128, .f32⟩
  | .hbm, ⟨32, _⟩ => ⟨S_, .f32⟩
  | .hbm, ⟨33, _⟩ => ⟨S520x128, .f32⟩
  | .hbm, ⟨34, _⟩ => ⟨S520x128, .f32⟩
  | .hbm, ⟨35, _⟩ => ⟨S520x128, .f32⟩
  | .hbm, ⟨36, _⟩ => ⟨S_, .f32⟩
  | .hbm, ⟨37, _⟩ => ⟨S520x128, .f32⟩
  | .hbm, ⟨38, _⟩ => ⟨S520x128, .f32⟩
  | _, _ => ⟨S8x520x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S1x10x512 : Shape := ⟨3, ![1, 10, 512]⟩
abbrev S10x512 : Shape := ⟨2, ![10, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x10x512, .f32⟩
  | .hbm, ⟨1, _⟩ => ⟨S10x512, .f32⟩
  | .hbm, ⟨2, _⟩ => ⟨S10x512, .f32⟩
  | .hbm, ⟨3, _⟩ => ⟨S10x512, .f32⟩
  | .hbm, ⟨4, _⟩ => ⟨S10x512, .f32⟩
  | .hbm, ⟨5, _⟩ => ⟨S10x512, .f32⟩
  | .hbm, ⟨6, _⟩ => ⟨S10x512, .f32⟩
  | .hbm, ⟨7, _⟩ => ⟨S10x512, .f32⟩
  | .local _ .vmem, ⟨0, _⟩ => ⟨S1x10x512, .f32⟩
  | .local _ .vmem, ⟨1, _⟩ => ⟨S10x512, .f32⟩
  | .local _ .vmem, ⟨2, _⟩ => ⟨S10x512, .f32⟩
  | .local _ .vmem, ⟨3, _⟩ => ⟨S10x512, .f32⟩
  | .local _ .vmem, ⟨4, _⟩ => ⟨S10x512, .f32⟩
  | .local _ .vmem, ⟨5, _⟩ => ⟨S10x512, .f32⟩
  | .local _ .vmem, ⟨6, _⟩ => ⟨S10x512, .f32⟩
  | .local _ .vmem, ⟨7, _⟩ => ⟨S10x512, .f32⟩
  | _, _ => ⟨S1x10x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x10x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S10x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S10x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S10x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S1x10x512 : Shape := ⟨3, ![1, 10, 512]⟩
abbrev S10x512 : Shape := ⟨2, ![10, 512]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x10x512, .f32⟩
  | .hbm, ⟨1, _⟩ => ⟨S10x512, .f32⟩
  | .hbm, ⟨2, _⟩ => ⟨S10x512, .f32⟩
  | .hbm, ⟨3, _⟩ => ⟨S10x512, .f32⟩
  | .hbm, ⟨4, _⟩ => ⟨S10x512, .f32⟩
  | .hbm, ⟨5, _⟩ => ⟨S_, .f32⟩
  | .hbm, ⟨6, _⟩ => ⟨S10x512, .f32⟩
  | .hbm, ⟨7, _⟩ => ⟨S10x512, .f32⟩
  | .hbm, ⟨8, _⟩ => ⟨S_, .f32⟩
  | .hbm, ⟨9, _⟩ => ⟨S10x512, .f32⟩
  | .hbm, ⟨10, _⟩ => ⟨S10x512, .f32⟩
  | .hbm, ⟨11, _⟩ => ⟨S10x512, .f32⟩
  | .hbm, ⟨12, _⟩ => ⟨S_, .f32⟩
  | .hbm, ⟨13, _⟩ => ⟨S10x512, .f32⟩
  | .hbm, ⟨14, _⟩ => ⟨S10x512, .f32⟩
  | .hbm, ⟨15, _⟩ => ⟨S10x512, .f32⟩
  | .hbm, ⟨16, _⟩ => ⟨S_, .f32⟩
  | .hbm, ⟨17, _⟩ => ⟨S10x512, .f32⟩
  | .hbm, ⟨18, _⟩ => ⟨S10x512, .f32⟩
  | .hbm, ⟨19, _⟩ => ⟨S10x512, .f32⟩
  | .hbm, ⟨20, _⟩ => ⟨S_, .f32⟩
  | .hbm, ⟨21, _⟩ => ⟨S10x512, .f32⟩
  | .hbm, ⟨22, _⟩ => ⟨S10x512, .f32⟩
  | .hbm, ⟨23, _⟩ => ⟨S_, .f32⟩
  | .hbm, ⟨24, _⟩ => ⟨S10x512, .f32⟩
  | .hbm, ⟨25, _⟩ => ⟨S10x512, .f32⟩
  | .hbm, ⟨26, _⟩ => ⟨S10x512, .f32⟩
  | .hbm, ⟨27, _⟩ => ⟨S_, .f32⟩
  | .hbm, ⟨28, _⟩ => ⟨S10x512, .f32⟩
  | .hbm, ⟨29, _⟩ => ⟨S10x512, .f32⟩
  | .hbm, ⟨30, _⟩ => ⟨S10x512, .f32⟩
  | .hbm, ⟨31, _⟩ => ⟨S_, .f32⟩
  | .hbm, ⟨32, _⟩ => ⟨S10x512, .f32⟩
  | .hbm, ⟨33, _⟩ => ⟨S10x512, .f32⟩
  | .hbm, ⟨34, _⟩ => ⟨S10x512, .f32⟩
  | .hbm, ⟨35, _⟩ => ⟨S_, .f32⟩
  | .hbm, ⟨36, _⟩ => ⟨S10x512, .f32⟩
  | .hbm, ⟨37, _⟩ => ⟨S10x512, .f32⟩
  | _, _ => ⟨S1x10x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel20.lean ====
abbrev S8x1024x1024 : Shape := ⟨3, ![8, 1024, 1024]⟩
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference20Ideal.lean ====
abbrev S8x1024x1024 : Shape := ⟨3, ![8, 1024, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .f32⟩
  | .hbm, ⟨7, _⟩ => ⟨S_, .f32⟩
  | .hbm, ⟨8, _⟩ => ⟨S128x1024, .f32⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel21.lean ====
abbrev S8x1024x1024 : Shape := ⟨3, ![8, 1024, 1024]⟩
abbrev S2x128x1024 : Shape := ⟨3, ![2, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S8x128x1024, .bf16⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S8x128x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x128x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S1x128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S1x128x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S1x128x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]
-- ==== Reference21Ideal.lean ====
abbrev S8x1024x1024 : Shape := ⟨3, ![8, 1024, 1024]⟩
abbrev S2x128x1024 : Shape := ⟨3, ![2, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .f32⟩
  | .hbm, ⟨7, _⟩ => ⟨S_, .f32⟩
  | .hbm, ⟨8, _⟩ => ⟨S128x1024, .f32⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel22.lean ====
abbrev S8x1024x1024 : Shape := ⟨3, ![8, 1024, 1024]⟩
abbrev S2x256x1024 : Shape := ⟨3, ![2, 256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S8x128x1024, .bf16⟩
  | .local _ .vmem, ⟨17, _⟩ => ⟨S8x128x1024, .bf16⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference22Ideal.lean ====
abbrev S8x1024x1024 : Shape := ⟨3, ![8, 1024, 1024]⟩
abbrev S2x256x1024 : Shape := ⟨3, ![2, 256, 1024]⟩
abbrev S8x256x1024 : Shape := ⟨3, ![8, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S8x256x1024, .bf16⟩
  | .hbm, ⟨6, _⟩ => ⟨S8x256x1024, .f32⟩
  | .hbm, ⟨7, _⟩ => ⟨S_, .f32⟩
  | .hbm, ⟨8, _⟩ => ⟨S256x1024, .f32⟩
  | .hbm, ⟨9, _⟩ => ⟨S8x256x1024, .bf16⟩
  | .hbm, ⟨10, _⟩ => ⟨S8x256x1024, .f32⟩
  | .hbm, ⟨11, _⟩ => ⟨S_, .f32⟩
  | .hbm, ⟨12, _⟩ => ⟨S256x1024, .f32⟩
  | .hbm, ⟨13, _⟩ => ⟨S1x256x1024, .f32⟩
  | .hbm, ⟨14, _⟩ => ⟨S1x256x1024, .f32⟩
  | .hbm, ⟨15, _⟩ => ⟨S2x256x1024, .f32⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S_, .f32⟩
  | .hbm, ⟨47, _⟩ => ⟨S2x256x1024, .f32⟩
  | .hbm, ⟨48, _⟩ => ⟨S2x256x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel23.lean ====
abbrev S8x1024x1024 : Shape := ⟨3, ![8, 1024, 1024]⟩
abbrev S2x512x1024 : Shape := ⟨3, ![2, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S8x128x1024, .bf16⟩
  | .local _ .vmem, ⟨17, _⟩ => ⟨S8x128x1024, .bf16⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1024, .f32⟩
  | _, _ => ⟨S8x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference23Ideal.lean ====
abbrev S8x1024x1024 : Shape := ⟨3, ![8, 1024, 1024]⟩
abbrev S2x512x1024 : Shape := ⟨3, ![2, 512, 1024]⟩
abbrev S8x512x1024 : Shape := ⟨3, ![8, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S8x1024x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .bf16⟩
  | .hbm, ⟨6, _⟩ => ⟨S8x512x1024, .f32⟩
  | .hbm, ⟨7, _⟩ => ⟨S_, .f32⟩
  | .hbm, ⟨8, _⟩ => ⟨S512x1024, .f32⟩
  | .hbm, ⟨9, _⟩ => ⟨S8x512x1024, .bf16⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S1x512x1024, .f32⟩
  | .hbm, ⟨14, _⟩ => ⟨S1x512x1024, .f32⟩
  | .hbm, ⟨15, _⟩ => ⟨S2x512x1024, .f32⟩
  | .hbm, ⟨16, _⟩ => ⟨S_, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S2x512x1024, .f32⟩
  | .hbm, ⟨23, _⟩ => ⟨S_, .f32⟩
  | .hbm, ⟨24, _⟩ => ⟨S2x512x1024, .f32⟩
  | .hbm, ⟨25, _⟩ => ⟨S2x512x1024, .f32⟩
  | .hbm, ⟨26, _⟩ => ⟨S2x512x1024, .f32⟩
  | .hbm, ⟨27, _⟩ => ⟨S_, .f32⟩
  | .hbm, ⟨28, _⟩ => ⟨S2x512x1024, .f32⟩
  | .hbm, ⟨29, _⟩ => ⟨S2x512x1024, .f32⟩
  | .hbm, ⟨30, _⟩ => ⟨S2x512x1024, .f32⟩
  | .hbm, ⟨31, _⟩ => ⟨S_, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S2x512x1024, .f32⟩
  | .hbm, ⟨38, _⟩ => ⟨S_, .f32⟩
  | .hbm, ⟨39, _⟩ => ⟨S2x512x1024, .f32⟩
  | .hbm, ⟨40, _⟩ => ⟨S2x512x1024, .f32⟩
  | .hbm, ⟨41, _⟩ => ⟨S2x512x1024, .f32⟩
  | .hbm, ⟨42, _⟩ => ⟨S_, .f32⟩
  | .hbm, ⟨43, _⟩ => ⟨S2x512x1024, .f32⟩
  | .hbm, ⟨44, _⟩ => ⟨S2x512x1024, .f32⟩
  | .hbm, ⟨45, _⟩ => ⟨S2x512x1024, .f32⟩
  | .hbm, ⟨46, _⟩ => ⟨S_, .f32⟩
  | .hbm, ⟨47, _⟩ => ⟨S2x512x1024, .f32⟩
  | .hbm, ⟨48, _⟩ => ⟨S2x512x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel24.lean ====
abbrev S8x1024x1224 : Shape := ⟨3, ![8, 1024, 1224]⟩
abbrev S2x1024x1224 : Shape := ⟨3, ![2, 1024, 1224]⟩
abbrev S8x256x1224 : Shape := ⟨3, ![8, 256, 1224]⟩
abbrev S1x256x1224 : Shape := ⟨3, ![1, 256, 1224]⟩
abbrev S256x1224 : Shape := ⟨2, ![256, 1224]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x1224, .bf16⟩
  | .hbm, ⟨1, _⟩ => ⟨S8x1024x1224, .bf16⟩
  | .hbm, ⟨2, _⟩ => ⟨S2x1024x1224, .f32⟩
  | .hbm, ⟨3, _⟩ => ⟨S2x1024x1224, .f32⟩
  | .hbm, ⟨4, _⟩ => ⟨S2x1024x1224, .f32⟩
  | .hbm, ⟨5, _⟩ => ⟨S2x1024x1224, .f32⟩
  | .hbm, ⟨6, _⟩ => ⟨S2x1024x1224, .f32⟩
  | .hbm, ⟨7, _⟩ => ⟨S2x1024x1224, .f32⟩
  | .hbm, ⟨8, _⟩ => ⟨S2x1024x1224, .f32⟩
  | .hbm, ⟨9, _⟩ => ⟨S2x1024x1224, .f32⟩
  | .hbm, ⟨10, _⟩ => ⟨S2x1024x1224, .f32⟩
  | .hbm, ⟨11, _⟩ => ⟨S2x1024x1224, .f32⟩
  | .hbm, ⟨12, _⟩ => ⟨S2x1024x1224, .f32⟩
  | .local _ .vmem, ⟨0, _⟩ => ⟨S8x256x1224, .bf16⟩
  | .local _ .vmem, ⟨1, _⟩ => ⟨S8x256x1224, .bf16⟩
  | .local _ .vmem, ⟨2, _⟩ => ⟨S1x256x1224, .f32⟩
  | .local _ .vmem, ⟨3, _⟩ => ⟨S1x256x1224, .f32⟩
  | .local _ .vmem, ⟨4, _⟩ => ⟨S1x256x1224, .f32⟩
  | .local _ .vmem, ⟨5, _⟩ => ⟨S1x256x1224, .f32⟩
  | .local _ .vmem, ⟨6, _⟩ => ⟨S1x256x1224, .f32⟩
  | .local _ .vmem, ⟨7, _⟩ => ⟨S1x256x1224, .f32⟩
  | .local _ .vmem, ⟨8, _⟩ => ⟨S1x256x1224, .f32⟩
  | .local _ .vmem, ⟨9, _⟩ => ⟨S1x256x1224, .f32⟩
  | .local _ .vmem, ⟨10, _⟩ => ⟨S1x256x1224, .f32⟩
  | .local _ .vmem, ⟨11, _⟩ => ⟨S1x256x1224, .f32⟩
  | .local _ .vmem, ⟨12, _⟩ => ⟨S1x256x1224, .f32⟩
  | .local _ .vmem, ⟨13, _⟩ => ⟨S1x256x1224, .f32⟩
  | .local _ .vmem, ⟨14, _⟩ => ⟨S1x256x1224, .f32⟩
  | .local _ .vmem, ⟨15, _⟩ => ⟨S1x256x1224, .f32⟩
  | .local _ .vmem, ⟨16, _⟩ => ⟨S8x256x1224, .bf16⟩
  | .local _ .vmem, ⟨17, _⟩ => ⟨S8x256x1224, .bf16⟩
  | .local _ .vmem, ⟨18, _⟩ => ⟨S1x256x1224, .f32⟩
  | .local _ .vmem, ⟨19, _⟩ => ⟨S1x256x1224, .f32⟩
  | .local _ .vmem, ⟨20, _⟩ => ⟨S1x256x1224, .f32⟩
  | .local _ .vmem, ⟨21, _⟩ => ⟨S1x256x1224, .f32⟩
  | .local _ .vmem, ⟨22, _⟩ => ⟨S1x256x1224, .f32⟩
  | .local _ .vmem, ⟨23, _⟩ => ⟨S1x256x1224, .f32⟩
  | .local _ .vmem, ⟨24, _⟩ => ⟨S1x256x1224, .f32⟩
  | .local _ .vmem, ⟨25, _⟩ => ⟨S1x256x1224, .f32⟩
  | .local _ .vmem, ⟨26, _⟩ => ⟨S1x256x1224, .f32⟩
  | .local _ .vmem, ⟨27, _⟩ => ⟨S1x256x1224, .f32⟩
  | .local _ .vmem, ⟨28, _⟩ => ⟨S1x256x1224, .f32⟩
  | .local _ .vmem, ⟨29, _⟩ => ⟨S1x256x1224, .f32⟩
  | .local _ .vmem, ⟨30, _⟩ => ⟨S1x256x1224, .f32⟩
  | .local _ .vmem, ⟨31, _⟩ => ⟨S1x256x1224, .f32⟩
  | _, _ => ⟨S8x1024x1224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x1224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1224 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1224 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1224 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x1224 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x1224 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x1224 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1224 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1224 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference24Ideal.lean ====
abbrev S8x1024x1224 : Shape := ⟨3, ![8, 1024, 1224]⟩
abbrev S2x1024x1224 : Shape := ⟨3, ![2, 1024, 1224]⟩
abbrev S_ : Shape := ⟨0, ![]⟩
abbrev S1024x1224 : Shape := ⟨2, ![1024, 1224]⟩
abbrev S1x1024x1224 : Shape := ⟨3, ![1, 1024, 1224]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x1224, .bf16⟩
  | .hbm, ⟨1, _⟩ => ⟨S8x1024x1224, .bf16⟩
  | .hbm, ⟨2, _⟩ => ⟨S2x1024x1224, .f32⟩
  | .hbm, ⟨3, _⟩ => ⟨S2x1024x1224, .f32⟩
  | .hbm, ⟨4, _⟩ => ⟨S2x1024x1224, .f32⟩
  | .hbm, ⟨5, _⟩ => ⟨S8x1024x1224, .f32⟩
  | .hbm, ⟨6, _⟩ => ⟨S_, .f32⟩
  | .hbm, ⟨7, _⟩ => ⟨S1024x1224, .f32⟩
  | .hbm, ⟨8, _⟩ => ⟨S8x1024x1224, .f32⟩
  | .hbm, ⟨9, _⟩ => ⟨S_, .f32⟩
  | .hbm, ⟨10, _⟩ => ⟨S1024x1224, .f32⟩
  | .hbm, ⟨11, _⟩ => ⟨S1x1024x1224, .f32⟩
  | .hbm, ⟨12, _⟩ => ⟨S1x1024x1224, .f32⟩
  | .hbm, ⟨13, _⟩ => ⟨S2x1024x1224, .f32⟩
  | .hbm, ⟨14, _⟩ => ⟨S_, .f32⟩
  | .hbm, ⟨15, _⟩ => ⟨S2x1024x1224, .f32⟩
  | .hbm, ⟨16, _⟩ => ⟨S2x1024x1224, .f32⟩
  | .hbm, ⟨17, _⟩ => ⟨S_, .f32⟩
  | .hbm, ⟨18, _⟩ => ⟨S2x1024x1224, .f32⟩
  | .hbm, ⟨19, _⟩ => ⟨S2x1024x1224, .f32⟩
  | .hbm, ⟨20, _⟩ => ⟨S2x1024x1224, .f32⟩
  | .hbm, ⟨21, _⟩ => ⟨S_, .f32⟩
  | .hbm, ⟨22, _⟩ => ⟨S2x1024x1224, .f32⟩
  | .hbm, ⟨23, _⟩ => ⟨S2x1024x1224, .f32⟩
  | .hbm, ⟨24, _⟩ => ⟨S2x1024x1224, .f32⟩
  | .hbm, ⟨25, _⟩ => ⟨S_, .f32⟩
  | .hbm, ⟨26, _⟩ => ⟨S2x1024x1224, .f32⟩
  | .hbm, ⟨27, _⟩ => ⟨S2x1024x1224, .f32⟩
  | .hbm, ⟨28, _⟩ => ⟨S2x1024x1224, .f32⟩
  | .hbm, ⟨29, _⟩ => ⟨S_, .f32⟩
  | .hbm, ⟨30, _⟩ => ⟨S2x1024x1224, .f32⟩
  | .hbm, ⟨31, _⟩ => ⟨S2x1024x1224, .f32⟩
  | .hbm, ⟨32, _⟩ => ⟨S_, .f32⟩
  | .hbm, ⟨33, _⟩ => ⟨S2x1024x1224, .f32⟩
  | .hbm, ⟨34, _⟩ => ⟨S2x1024x1224, .f32⟩
  | .hbm, ⟨35, _⟩ => ⟨S2x1024x1224, .f32⟩
  | .hbm, ⟨36, _⟩ => ⟨S_, .f32⟩
  | .hbm, ⟨37, _⟩ => ⟨S2x1024x1224, .f32⟩
  | .hbm, ⟨38, _⟩ => ⟨S2x1024x1224, .f32⟩
  | .hbm, ⟨39, _⟩ => ⟨S2x1024x1224, .f32⟩
  | .hbm, ⟨40, _⟩ => ⟨S_, .f32⟩
  | .hbm, ⟨41, _⟩ => ⟨S2x1024x1224, .f32⟩
  | .hbm, ⟨42, _⟩ => ⟨S2x1024x1224, .f32⟩
  | .hbm, ⟨43, _⟩ => ⟨S2x1024x1224, .f32⟩
  | .hbm, ⟨44, _⟩ => ⟨S_, .f32⟩
  | .hbm, ⟨45, _⟩ => ⟨S2x1024x1224, .f32⟩
  | .hbm, ⟨46, _⟩ => ⟨S2x1024x1224, .f32⟩
  | _, _ => ⟨S8x1024x1224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel25.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 13
  | .vmem => 32
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S8x256x512, .bf16⟩
  | .local _ .vmem, ⟨17, _⟩ => ⟨S8x256x512, .bf16⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x512, .f32⟩
  | .local _ .vmem, ⟨27, _⟩ => ⟨S1x256x512, .f32⟩
  | .local _ .vmem, ⟨28, _⟩ => ⟨S1x256x512, .f32⟩
  | .local _ .vmem, ⟨29, _⟩ => ⟨S1x256x512, .f32⟩
  | .local _ .vmem, ⟨30, _⟩ => ⟨S1x256x512, .f32⟩
  | .local _ .vmem, ⟨31, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference25Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel26.lean ====
abbrev S8192x1024 : Shape := ⟨2, ![8192, 1024]⟩
abbrev S1x128 : Shape := ⟨2, ![1, 128]⟩
abbrev S512x1024 : Shape := ⟨2, ![512, 1024]⟩
abbrev S1024 : Shape := ⟨1, ![1024]⟩
abbrev S1x1024 : Shape := ⟨2, ![1, 1024]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference26Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel27.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel8.lean ====
abbrev S8192x1024 : Shape := ⟨2, ![8192, 1024]⟩
abbrev S8192x12288 : Shape := ⟨2, ![8192, 12288]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x12288, .bf16⟩
  | .hbm, ⟨2, _⟩ => ⟨S2048, .f32⟩
  | .hbm, ⟨3, _⟩ => ⟨S8192x1024, .f32⟩
  | .hbm, ⟨4, _⟩ => ⟨S8192x1024, .f32⟩
  | .hbm, ⟨5, _⟩ => ⟨S1x2048, .f32⟩
  | .hbm, ⟨6, _⟩ => ⟨S8192x1024, .bf16⟩
  | .hbm, ⟨7, _⟩ => ⟨S8192x1024, .bf16⟩
  | .hbm, ⟨8, _⟩ => ⟨S8192x12288, .bf16⟩
  | .hbm, ⟨9, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S8192x1024 : Shape := ⟨2, ![8192, 1024]⟩
abbrev S8192x12288 : Shape := ⟨2, ![8192, 12288]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩
abbrev S8192x10240 : Shape := ⟨2, ![8192, 10240]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x12288, .bf16⟩
  | .hbm, ⟨2, _⟩ => ⟨S2048, .f32⟩
  | .hbm, ⟨3, _⟩ => ⟨S8192x1024, .f32⟩
  | .hbm, ⟨4, _⟩ => ⟨S8192x1024, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x2048, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S8192x10240, .f32⟩
  | .hbm, ⟨45, _⟩ => ⟨S8192x12288, .f32⟩
  | .hbm, ⟨46, _⟩ => ⟨S8192x1024, .bf16⟩
  | .hbm, ⟨47, _⟩ => ⟨S8192x1024, .bf16⟩
  | .hbm, ⟨48, _⟩ => ⟨S8192x12288, .bf16⟩
  | .hbm, ⟨49, _⟩ => ⟨S1x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.Attn.Runs.lean ====
/- What the runs of the attention gradient share: the region's arrays, its blocks and the conditions of the grid in closed form. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points before point 64 — decided over the grid. -/
theorem hcond0_1 : ∀ t : Fin cfg0.N, cond0_1 (grid0.coords t) ↔ t.val < 64 :=
  (by decide +kernel : ∀ t : Fin grid0.N, cond0_1 (grid0.coords t) ↔ t.val < 64)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 64#32)) 0#32) = 1#1
/-- It holds at the last point only — by arithmetic of the point. -/
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, e0]
    word_cmp
   : ∀ t : Fin grid0.N, cond0_2 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an output stored at every point, under no condition). -/
theorem liveAt0_12 : ∀ t : Fin cfg0.N, cfg0.idle 12 (grid0.coords t) = false := fun _ => rfl
/-- Whether output 13's buffer is FRESH at each position `1 ‥ N` — holds nothing the body stored since the region's entry or the
    last write-back (written back at the point before, or idle there and fresh before it) —, as a bitmask the classifier
    computed, bit `n` for position `n + 1`; position 0 is fresh. `freshTab0_13_step` checks it against the configuration's own
    step point by point and Lib/Pipeline/TableIdle.lean `Cfg.fresh_tab` makes it `Cfg.fresh` (`fresh0_13_eq`). -/
def freshTab0_13 : ℕ → Bool
  | 0 => true
  | n + 1 => (0x10000000000000000 : ℕ).testBit n
theorem freshTab0_13_step : ∀ t : Fin cfg0.N,
    freshTab0_13 (t.val + 1) = ((cfg0.win 13).flush t || (cfg0.idle 13 (cfg0.grid.coords t) && freshTab0_13 t.val)) := by decide +kernel
theorem fresh0_13_eq (t : Fin cfg0.N) : cfg0.fresh 13 t.val = freshTab0_13 t.val :=
  Pipeline.Cfg.fresh_tab cfg0 13 freshTab0_13 rfl freshTab0_13_step t.val (Nat.le_of_lt t.isLt)
/-- At the points of case A the printed configuration (`Cfg.idle`) calls output 13 live: the case stores into it. -/
theorem liveAt0_13_A : ∀ t : Fin cfg0.N, cond0_0 (grid0.coords t) → cond0_1 (grid0.coords t) → ¬cond0_2 (grid0.coords t) → cfg0.idle 13 (grid0.coords t) = false := by decide +kernel
/-- At the points of case B the printed configuration (`Cfg.idle`) calls output 13 live: the case stores into it. -/
theorem liveAt0_13_B : ∀ t : Fin cfg0.N, ¬cond0_0 (grid0.coords t) → cond0_1 (grid0.coords t) → ¬cond0_2 (grid0.coords t) → cfg0.idle 13 (grid0.coords t) = false := by decide +kernel
/-- At the points of case B, which keeps output 13's prior contents (reads it before covering, or covers it in part), the
    window's buffer is not FRESH: something was stored into it since the region's entry or its last write-back, idle points
    between or not . -/
theorem notFresh0_13_B : ∀ t : Fin cfg0.N, ¬cond0_0 (grid0.coords t) → cond0_1 (grid0.coords t) → ¬cond0_2 (grid0.coords t) → cfg0.fresh 13 t.val = false := by
  intro t; rw [fresh0_13_eq t]; revert t; decide +kernel
/-- At the point of case C output 13 is idle: the case stores nothing into it. -/
theorem idleAt0_13_C : ∀ t : Fin cfg0.N, ¬cond0_0 (grid0.coords t) → ¬cond0_1 (grid0.coords t) → cond0_2 (grid0.coords t) → cfg0.idle 13 (grid0.coords t) = true := by decide +kernel
/-- At the point of case C output 13's block is written back. -/
theorem flushAt0_13_C : ∀ t : Fin cfg0.N, ¬cond0_0 (grid0.coords t) → ¬cond0_1 (grid0.coords t) → cond0_2 (grid0.coords t) → (cfg0.win 13).flush t = true := by decide +kernel
/-- At the points of case C, which keeps output 13's prior contents (reads it before covering, or covers it in part), the
    window's buffer is not FRESH: something was stored into it since the region's entry or its last write-back, idle points
    between or not . -/
theorem notFresh0_13_C : ∀ t : Fin cfg0.N, ¬cond0_0 (grid0.coords t) → ¬cond0_1 (grid0.coords t) → cond0_2 (grid0.coords t) → cfg0.fresh 13 t.val = false := by
  intro t; rw [fresh0_13_eq t]; revert t; decide +kernel
/-- Whether output 14's buffer is FRESH at each position `1 ‥ N` — holds nothing the body stored since the region's entry or the
    last write-back (written back at the point before, or idle there and fresh before it) —, as a bitmask the classifier
    computed, bit `n` for position `n + 1`; position 0 is fresh. `freshTab0_14_step` checks it against the configuration's own
    step point by point and Lib/Pipeline/TableIdle.lean `Cfg.fresh_tab` makes it `Cfg.fresh` (`fresh0_14_eq`). -/
def freshTab0_14 : ℕ → Bool
  | 0 => true
  | n + 1 => (0x10000000000000000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- At the points of case A the printed configuration (`Cfg.idle`) calls output 14 live: the case stores into it. -/
theorem liveAt0_14_A : ∀ t : Fin cfg0.N, cond0_0 (grid0.coords t) → cond0_1 (grid0.coords t) → ¬cond0_2 (grid0.coords t) → cfg0.idle 14 (grid0.coords t) = false := by decide +kernel
/-- At the points of case B the printed configuration (`Cfg.idle`) calls output 14 live: the case stores into it. -/
theorem liveAt0_14_B : ∀ t : Fin cfg0.N, ¬cond0_0 (grid0.coords t) → cond0_1 (grid0.coords t) → ¬cond0_2 (grid0.coords t) → cfg0.idle 14 (grid0.coords t) = false := by decide +kernel
/-- At the points of case B, which keeps output 14's prior contents (reads it before covering, or covers it in part), the
    window's buffer is not FRESH: something was stored into it since the region's entry or its last write-back, idle points
    between or not . -/
theorem notFresh0_14_B : ∀ t : Fin cfg0.N, ¬cond0_0 (grid0.coords t) → cond0_1 (grid0.coords t) → ¬cond0_2 (grid0.coords t) → cfg0.fresh 14 t.val = false := by
  intro t; rw [fresh0_14_eq t]; revert t; decide +kernel
/-- At the point of case C output 14 is idle: the case stores nothing into it. -/
theorem idleAt0_14_C : ∀ t : Fin cfg0.N, ¬cond0_0 (grid0.coords t) → ¬cond0_1 (grid0.coords t) → cond0_2 (grid0.coords t) → cfg0.idle 14 (grid0.coords t) = true := by decide +kernel
/-- At the point of case C output 14's block is written back. -/
theorem flushAt0_14_C : ∀ t : Fin cfg0.N, ¬cond0_0 (grid0.coords t) → ¬cond0_1 (grid0.coords t) → cond0_2 (grid0.coords t) → (cfg0.win 14).flush t = true := by decide +kernel
/-- At the points of case C, which keeps output 14's prior contents (reads it before covering, or covers it in part), the
    window's buffer is not FRESH: something was stored into it since the region's entry or its last write-back, idle points
    between or not . -/
theorem notFresh0_14_C : ∀ t : Fin cfg0.N, ¬cond0_0 (grid0.coords t) → ¬cond0_1 (grid0.coords t) → cond0_2 (grid0.coords t) → cfg0.fresh 14 t.val = false := by
  intro t; rw [fresh0_14_eq t]; revert t; decide +kernel

/-! ## The kernel body on any staging memrefs: a subtype the run finds -/

/-- One staging buffer of output window 12, through which its contents are stated (`View.read_writes_of_cover`: the
    choice does not matter). -/
abbrev VO0_12 : View sig .tc .vmem S128x3072 .bf16 := (Memref.whole cc0_stg12_0 : Memref sig .tc .vmem S128x3072 .bf16).view
/-- One staging buffer of output window 13, through which its contents are stated (`View.read_writes_of_cover`: the
    choice does not matter). -/
abbrev VO0_13 : View sig .tc .vmem S4x512x384 .f32 := (Memref.whole cc0_stg13_0 : Memref sig .tc .vmem S4x512x384 .f32).view
/-- One staging buffer of output window 14, through which its contents are stated (`View.read_writes_of_cover`: the
    choice does not matter). -/
abbrev VO0_14 : View sig .tc .vmem S1x128 .f32 := (Memref.whole cc0_stg14_0 : Memref sig .tc .vmem S1x128 .f32).view
/-- Each window's current staging memref at point `t`, spelled as the pipeline passes it (`bodyAt0`), and its wholeness. -/
abbrev ms0_0 (t : Fin cfg0.N) : Memref sig .tc .vmem S128x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x512x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x3072 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x512x384 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S128x512 .f32 := Memref.whole cc0_scratch0
abbrev scM0_1 : Memref sig .tc .vmem S128x512 .f32 := Memref.whole cc0_scratch1
abbrev scM0_2 : Memref sig .tc .vmem S128x512 .f32 := Memref.whole cc0_scratch2
abbrev scM0_3 : Memref sig .tc .vmem S128x512 .f32 := Memref.whole cc0_scratch3
abbrev scM0_4 : Memref sig .tc .vmem S128x2048 .bf16 := Memref.whole cc0_scratch4
/-- The scratch `arg17` the kernel carries between points, as a view: what it holds is stated through it. -/
abbrev VS0_0 : View sig .tc .vmem S128x512 .f32 := scM0_0.view
/-- The scratch `arg18` the kernel carries between points, as a view: what it holds is stated through it. -/
abbrev VS0_1 : View sig .tc .vmem S128x512 .f32 := scM0_1.view
/-- The scratch `arg19` the kernel carries between points, as a view: what it holds is stated through it. -/
abbrev VS0_2 : View sig .tc .vmem S128x512 .f32 := scM0_2.view
/-- The scratch `arg20` the kernel carries between points, as a view: what it holds is stated through it. -/
abbrev VS0_3 : View sig .tc .vmem S128x512 .f32 := scM0_3.view
/-- The scratch `arg21` the kernel carries between points, as a view: what it holds is stated through it. -/
abbrev VS0_4 : View sig .tc .vmem S128x2048 .bf16 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Attn.RunA.lean ====
/- The body's run at the first grid point. -/
module

public import proofs.«01_k».proof.Proof.Attn.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1468000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_A (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : cond0_0 i) (hc1 : cond0_1 i) (hc2 : ¬cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) :
    Σ' (L12 : List (View.Piece (Elt F) S128x3072 .bf16)), Σ' (L13 : List (View.Piece (Elt F) S4x512x384 .f32)), Σ' (L14 : List (View.Piece (Elt F) S1x128 .f32)), Σ' (LS0 : List (View.Piece (Elt F) S128x512 .f32)), Σ' (LS1 : List (View.Piece (Elt F) S128x512 .f32)), Σ' (LS2 : List (View.Piece (Elt F) S128x512 .f32)), Σ' (LS3 : List (View.Piece (Elt F) S128x512 .f32)), { LS4 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 (Memref.whole main_arg6) (Memref.isWhole_whole _) arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Attn.RunB.lean ====
/- The body's run at the points after the first and before the last. -/
module

public import proofs.«01_k».proof.Proof.Attn.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 taken, `scf.if` 2 not taken: points 1, 2, … 63: 63 of 65), WITH the
    proof that on whole staging memrefs — the inputs' at their contents, the outputs it reads before covering (13, 14) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_B (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : cond0_1 i) (hc2 : ¬cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) :
    Σ' (L12 : List (View.Piece (Elt F) S128x3072 .bf16)), Σ' (L13 : List (View.Piece (Elt F) S4x512x384 .f32)), Σ' (L14 : List (View.Piece (Elt F) S1x128 .f32)), Σ' (LS0 : List (View.Piece (Elt F) S128x512 .f32)), Σ' (LS1 : List (View.Piece (Elt F) S128x512 .f32)), Σ' (LS2 : List (View.Piece (Elt F) S128x512 .f32)), Σ' (LS3 : List (View.Piece (Elt F) S128x512 .f32)), { LS4 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg14 fullShare d) ∗ owns (c : Thread nD τ) arg15 fullShare xo13 ∗ owns (c : Thread nD τ) arg16 fullShare xo14 ∗ owns (c : Thread nD τ) arg17 fullShare xs0 ∗ owns (c : Thread nD τ) arg18 fullShare xs1 ∗ owns (c : Thread nD τ) arg19 fullShare xs2 ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1) ∗ (∃ f, arg19.view.loc (c : Thread nD τ) ↦[arg19.view.set]{fullShare} arg19.view.writes (Elt F) f LS2) ∗ (∃ f, arg20.view.loc (c : Thread nD τ) ↦[arg20.view.set]{fullShare} arg20.view.writes (Elt F) f LS3) ∗ (∃ f, arg21.view.loc (c : Thread nD τ) ↦[arg21.view.set]{fullShare} arg21.view.writes (Elt F) f LS4)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 (Memref.whole main_arg6) (Memref.isWhole_whole _) arg14 harg14 arg15 harg15 arg16 harg16 arg17 harg17 arg18 harg18 arg19 harg19 arg20 harg20 arg21 harg21) K } := by
  refine ⟨?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf13; obtain rfl := harg16.eq_unread hf14; obtain rfl := harg17.eq_unread hfs0; obtain rfl := harg18.eq_unread hfs1; obtain rfl := harg19.eq_unread hfs2; obtain rfl := harg20.eq_unread hfs3; obtain rfl := harg21.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.Attn.RunC.lean ====
/- The body's run at the last grid point. -/
module

public import proofs.«01_k».proof.Proof.Attn.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 not taken, `scf.if` 2 taken: points 64), WITH the
    proof that on whole staging memrefs — the inputs' at their contents, the outputs it reads before covering (13, 14) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs  — each `scf.if` decided by the case's hypotheses `hc·`; the pieces are
    the witness that run finds (assigned when `iexact` hands the buffer to the continuation). -/
noncomputable def kernelRun0_C (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) :
    Σ' (L12 : List (View.Piece (Elt F) S128x3072 .bf16)), Σ' (L13 : List (View.Piece (Elt F) S4x512x384 .f32)), Σ' (L14 : List (View.Piece (Elt F) S1x128 .f32)), Σ' (LS0 : List (View.Piece (Elt F) S128x512 .f32)), Σ' (LS1 : List (View.Piece (Elt F) S128x512 .f32)), Σ' (LS2 : List (View.Piece (Elt F) S128x512 .f32)), Σ' (LS3 : List (View.Piece (Elt F) S128x512 .f32)), { LS4 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg14 fullShare d) ∗ owns (c : Thread nD τ) arg15 fullShare xo13 ∗ owns (c : Thread nD τ) arg16 fullShare xo14 ∗ owns (c : Thread nD τ) arg17 fullShare xs0 ∗ owns (c : Thread nD τ) arg18 fullShare xs1 ∗ owns (c : Thread nD τ) arg19 fullShare xs2 ∗ owns (c : Thread nD τ) arg20 fullShare xs3 ∗ owns (c : Thread nD τ) arg21 fullShare xs4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg14.view.loc (c : Thread nD τ) ↦[arg14.view.set]{fullShare} arg14.view.writes (Elt F) f L12) ∗ owns (c : Thread nD τ) arg15 fullShare xo13 ∗ owns (c : Thread nD τ) arg16 fullShare xo14 ∗ owns (c : Thread nD τ) arg17 fullShare xs0 ∗ owns (c : Thread nD τ) arg18 fullShare xs1 ∗ owns (c : Thread nD τ) arg19 fullShare xs2 ∗ owns (c : Thread nD τ) arg20 fullShare xs3 ∗ owns (c : Thread nD τ) arg21 fullShare xs4) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 (Memref.whole main_arg6) (Memref.isWhole_whole _) arg14 harg14 arg15 harg15 arg16 harg16 arg17 harg17 arg18 harg18 arg19 harg19 arg20 harg20 arg21 harg21) K } := by
  refine ⟨?_, [], [], [], [], [], [], [], fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf13; obtain rfl := harg16.eq_unread hf14; obtain rfl := harg17.eq_unread hfs0; obtain rfl := harg18.eq_unread hfs1; obtain rfl := harg19.eq_unread hfs2; obtain rfl := harg20.eq_unread hfs3; obtain rfl := harg21.eq_unread hfs4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg15.read_unread _
      iexact H13
    isplitl [H14]
    · iexists _; isplitr; · ipureintro; exact harg16.read_unread _
      iexact H14
    isplitl [HS0]
    · iexists _; isplitr; · ipureintro; exact harg17.read_unread _
      iexact HS0
    isplitl [HS1]
    · iexists _; isplitr; · ipureintro; exact harg18.read_unread _
      iexact HS1
    isplitl [HS2]
    · iexists _; isplitr; · ipureintro; exact harg19.read_unread _
      iexact HS2
    isplitl [HS3]
    · iexists _; isplitr; · ipureintro; exact harg20.read_unread _
      iexact HS3
    iexists _; isplitr; · ipureintro; exact harg21.read_unread _
    iexact HS4

end Cert.KernelIdeal.Gen

end
-- ==== Proof.Attn.Outs.lean ====
/- What the outputs and the carried buffers hold after each grid point, and the proof data. -/
module

public import proofs.«01_k».proof.Proof.Attn.RunA
public import proofs.«01_k».proof.Proof.Attn.RunB
public import proofs.«01_k».proof.Proof.Attn.RunA
public import proofs.«01_k».proof.Proof.Attn.RunB
public import proofs.«01_k».proof.Proof.Attn.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA
variable (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : cond0_0 i) (hc1 : cond0_1 i) (hc2 : ¬cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32)

/-- Case A's pieces for output 12 are of SEVERAL sizes (9 stores of `S128x128`, `S128x2048`): cut into blocks of `![128, 128]` they tile its block (checked by the kernel's evaluation: Lib/Ring.lean `Piece.tiledBy`), so they cover it. -/
theorem cover0_A_12 (y : S128x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).1 ![128, 128] (by sl_kernel_rfl) y

/-- What case A leaves in output 12's staging buffer: its pieces read back over junk. -/
def out0_A_12 : Vec F S128x3072 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).1)

/-- Case A's pieces for output 13 are of SEVERAL sizes (5 stores of `S1x512x384`, `S4x512x384`): cut into blocks of `![1, 512, 384]` they tile its block (checked by the kernel's evaluation: Lib/Ring.lean `Piece.tiledBy`), so they cover it. -/
theorem cover0_A_13 (y : S4x512x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.1 ![1, 512, 384] (by sl_kernel_rfl) y

/-- What case A leaves in output 13's staging buffer: its pieces read back over junk. -/
def out0_A_13 : Vec F S4x512x384 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.1)

/-- Case A's pieces for output 14 tile its block (2 stores of `S1x128`, checked by the kernel's evaluation: Lib/Ring.lean `Piece.tiledL`, linear in the pieces, through a loop's `@[irreducible]` trip theorem too), so they cover it. -/
theorem cover0_A_14 (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.1 S1x128.size (by sl_kernel_rfl) y

/-- What case A leaves in output 14's staging buffer: its pieces read back over junk. -/
def out0_A_14 : Vec F S1x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.1)

/-- Case A's pieces for scratch `arg17`, which the kernel carries between points, cover it: one of them a store of the WHOLE buffer . -/
theorem scover0_A_0 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.1 (by sl_whole_mem) y

/-- What case A leaves in scratch `arg17`: its pieces read back over junk. -/
def sout0_A_0 : Vec F S128x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.1)

/-- Case A's pieces for scratch `arg18`, which the kernel carries between points, cover it: one of them a store of the WHOLE buffer . -/
theorem scover0_A_1 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.1 (by sl_whole_mem) y

/-- What case A leaves in scratch `arg18`: its pieces read back over junk. -/
def sout0_A_1 : Vec F S128x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.1)

/-- Case A's pieces for scratch `arg19`, which the kernel carries between points, cover it: one of them a store of the WHOLE buffer . -/
theorem scover0_A_2 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.1 (by sl_whole_mem) y

/-- What case A leaves in scratch `arg19`: its pieces read back over junk. -/
def sout0_A_2 : Vec F S128x512 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.1)

/-- Case A's pieces for scratch `arg20`, which the kernel carries between points, cover it: one of them a store of the WHOLE buffer . -/
theorem scover0_A_3 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.1 (by sl_whole_mem) y

/-- What case A leaves in scratch `arg20`: its pieces read back over junk. -/
def sout0_A_3 : Vec F S128x512 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.1)

/-- Case A's pieces for scratch `arg21`, which the kernel carries between points, cover it: one of them a store of the WHOLE buffer . -/
theorem scover0_A_4 (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.2.1 (by sl_whole_mem) y

/-- What case A leaves in scratch `arg21`: its pieces read back over junk. -/
def sout0_A_4 : Vec F S128x2048 .bf16 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11).2.2.2.2.2.2.2.1)

end CaseA

section CaseB
variable (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : cond0_1 i) (hc2 : ¬cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16)

/-- Case B's pieces for output 12 are of SEVERAL sizes (9 stores of `S128x128`, `S128x2048`): cut into blocks of `![128, 128]` they tile its block (checked by the kernel's evaluation: Lib/Ring.lean `Piece.tiledBy`), so they cover it. -/
theorem cover0_B_12 (y : S128x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1 ![128, 128] (by sl_kernel_rfl) y

/-- What case B leaves in output 12's staging buffer: its pieces read back over junk. -/
def out0_B_12 : Vec F S128x3072 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1)

/-- Case B's pieces for output 13 tile its block (4 stores of `S1x512x384`, checked by the kernel's evaluation: Lib/Ring.lean `Piece.tiledL`, linear in the pieces, through a loop's `@[irreducible]` trip theorem too), so they cover it. -/
theorem cover0_B_13 (y : S4x512x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.1 S1x512x384.size (by sl_kernel_rfl) y

/-- What case B leaves in output 13's staging buffer: its pieces read back over junk. -/
def out0_B_13 : Vec F S4x512x384 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.1)

/-- Case B's pieces for output 14 tile its block (1 store of `S1x128`, checked by the kernel's evaluation: Lib/Ring.lean `Piece.tiledL`, linear in the pieces, through a loop's `@[irreducible]` trip theorem too), so they cover it. -/
theorem cover0_B_14 (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.1 S1x128.size (by sl_kernel_rfl) y

/-- What case B leaves in output 14's staging buffer: its pieces read back over junk. -/
def out0_B_14 : Vec F S1x128 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.1)

/-- Case B's pieces for scratch `arg17`, which the kernel carries between points, cover it: 4 pieces of `S128x128` tiling it . -/
theorem scover0_B_0 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.1 S128x128.size (by sl_kernel_rfl) y

/-- What case B leaves in scratch `arg17`: its pieces read back over junk. -/
def sout0_B_0 : Vec F S128x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.1)

/-- Case B's pieces for scratch `arg18`, which the kernel carries between points, cover it: 4 pieces of `S128x128` tiling it . -/
theorem scover0_B_1 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.1 S128x128.size (by sl_kernel_rfl) y

/-- What case B leaves in scratch `arg18`: its pieces read back over junk. -/
def sout0_B_1 : Vec F S128x512 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.1)

/-- Case B's pieces for scratch `arg19`, which the kernel carries between points, cover it: 4 pieces of `S128x128` tiling it . -/
theorem scover0_B_2 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.1 S128x128.size (by sl_kernel_rfl) y

/-- What case B leaves in scratch `arg19`: its pieces read back over junk. -/
def sout0_B_2 : Vec F S128x512 .f32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.1)

/-- Case B's pieces for scratch `arg20`, which the kernel carries between points, cover it: 4 pieces of `S128x128` tiling it . -/
theorem scover0_B_3 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.1 S128x128.size (by sl_kernel_rfl) y

/-- What case B leaves in scratch `arg20`: its pieces read back over junk. -/
def sout0_B_3 : Vec F S128x512 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.1)

/-- Case B's pieces for scratch `arg21`, which the kernel carries between points, cover it: 16 pieces of `S128x128` tiling it . -/
theorem scover0_B_4 (y : S128x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.2.1 S128x128.size (by sl_kernel_rfl) y

/-- What case B leaves in scratch `arg21`: its pieces read back over junk. -/
def sout0_B_4 : Vec F S128x2048 .bf16 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).2.2.2.2.2.2.2.1)

end CaseB

section CaseC
variable (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16)

/-- Case C's pieces for output 12 are of SEVERAL sizes (3 stores of `S128x2048`, `S128x512`): cut into blocks of `![128, 512]` they tile its block (checked by the kernel's evaluation: Lib/Ring.lean `Piece.tiledBy`), so they cover it. -/
theorem cover0_C_12 (y : S128x3072.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1 ![128, 512] (by sl_kernel_rfl) y

/-- What case C leaves in output 12's staging buffer: its pieces read back over junk. -/
def out0_C_12 : Vec F S128x3072 .bf16 :=
  VO0_12.read (Elt F) (VO0_12.writes (Elt F) VO0_12.junk (kernelRun0_C c i arg1 harg1 arg2 harg2 arg3 harg3 arg4 harg4 arg5 harg5 arg6 harg6 arg7 harg7 arg8 harg8 arg9 harg9 arg10 harg10 arg11 harg11 arg12 harg12 arg14 harg14 arg15 harg15 arg16 harg16 arg17 harg17 arg18 harg18 arg19 harg19 arg20 harg20 arg21 harg21 hc0 hc1 hc2 x0 x1 x2 x3 x4 x5 x6 x7 x8 x9 x10 x11 xo13 xo14 xs0 xs1 xs2 xs3 xs4).1)

end CaseC

/-- Case C stores nothing into output 13, a live window: its staging buffer holds what the point before left. -/
def out0_C_13 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S4x512x384 .f32 := xo13

/-- Case C stores nothing into output 14, a live window: its staging buffer holds what the point before left. -/
def out0_C_14 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S1x128 .f32 := xo14

/-- Case C stores nothing into scratch `arg17`: it holds what the point before left. -/
def sout0_C_0 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S128x512 .f32 := xs0

/-- Case C stores nothing into scratch `arg18`: it holds what the point before left. -/
def sout0_C_1 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S128x512 .f32 := xs1

/-- Case C stores nothing into scratch `arg19`: it holds what the point before left. -/
def sout0_C_2 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S128x512 .f32 := xs2

/-- Case C stores nothing into scratch `arg20`: it holds what the point before left. -/
def sout0_C_3 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S128x512 .f32 := xs3

/-- Case C stores nothing into scratch `arg21`: it holds what the point before left. -/
def sout0_C_4 (c : Dev nD) (i : grid0.Coords) (arg1 : Memref sig .tc .vmem S128x2048 .bf16) (harg1 : arg1.IsWhole) (arg2 : Memref sig .tc .vmem S128x512 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .vmem S128x512 .bf16) (harg5 : arg5.IsWhole) (arg6 : Memref sig .tc .vmem S128x512 .bf16) (harg6 : arg6.IsWhole) (arg7 : Memref sig .tc .vmem S128x512 .bf16) (harg7 : arg7.IsWhole) (arg8 : Memref sig .tc .vmem S4x512x384 .f32) (harg8 : arg8.IsWhole) (arg9 : Memref sig .tc .vmem S1x128 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S128x128 .f32) (harg12 : arg12.IsWhole) (arg14 : Memref sig .tc .vmem S128x3072 .bf16) (harg14 : arg14.IsWhole) (arg15 : Memref sig .tc .vmem S4x512x384 .f32) (harg15 : arg15.IsWhole) (arg16 : Memref sig .tc .vmem S1x128 .f32) (harg16 : arg16.IsWhole) (arg17 : Memref sig .tc .vmem S128x512 .f32) (harg17 : arg17.IsWhole) (arg18 : Memref sig .tc .vmem S128x512 .f32) (harg18 : arg18.IsWhole) (arg19 : Memref sig .tc .vmem S128x512 .f32) (harg19 : arg19.IsWhole) (arg20 : Memref sig .tc .vmem S128x512 .f32) (harg20 : arg20.IsWhole) (arg21 : Memref sig .tc .vmem S128x2048 .bf16) (harg21 : arg21.IsWhole) (hc0 : ¬cond0_0 i) (hc1 : ¬cond0_1 i) (hc2 : cond0_2 i)
    (x0 : Vec F S128x2048 .bf16) (x1 : Vec F S128x512 .bf16) (x2 : Vec F S128x512 .bf16) (x3 : Vec F S128x512 .bf16) (x4 : Vec F S128x512 .bf16) (x5 : Vec F S128x512 .bf16) (x6 : Vec F S128x512 .bf16) (x7 : Vec F S4x512x384 .f32) (x8 : Vec F S1x128 .f32) (x9 : Vec F S128x2048 .bf16) (x10 : Vec F S128x2048 .bf16) (x11 : Vec F S128x128 .f32) (xo13 : Vec F S4x512x384 .f32) (xo14 : Vec F S1x128 .f32) (xs0 : Vec F S128x512 .f32) (xs1 : Vec F S128x512 .f32) (xs2 : Vec F S128x512 .f32) (xs3 : Vec F S128x512 .f32) (xs4 : Vec F S128x2048 .bf16) : Vec F S128x2048 .bf16 := xs4

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x3072 .bf16 × Vec F S4x512x384 .f32 × Vec F S1x128 .f32 × Vec F S128x512 .f32 × Vec F S128x512 .f32 × Vec F S128x512 .f32 × Vec F S128x512 .f32 × Vec F S128x2048 .bf16
  | 0, hn => (out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 65 = 0 then
      if h1 : (n + 1) < 64 then
        if h2 : (n + 1) % 65 = 64 then
          False.elim (by have hN : n + 1 < 65 := lt_of_lt_of_eq hn (show cfg0.N = 65 from N_0); omega)
        else
          (out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
      else
        False.elim (by have hN : n + 1 < 65 := lt_of_lt_of_eq hn (show cfg0.N = 65 from N_0); omega)
    else
      if h1 : (n + 1) < 64 then
        if h2 : (n + 1) % 65 = 64 then
          False.elim (by have hN : n + 1 < 65 := lt_of_lt_of_eq hn (show cfg0.N = 65 from N_0); omega)
        else
          (out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)
      else
        if h2 : (n + 1) % 65 = 64 then
          (out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)
        else
          False.elim (by have hN : n + 1 < 65 := lt_of_lt_of_eq hn (show cfg0.N = 65 from N_0); omega)

/-- `outsAt0` at a point of case A: that case's contents. -/
theorem outsAt0_A (c : Dev nD) (t : Fin cfg0.N) (h0 : t.val % 65 = 0) (h1 : t.val < 64) (h2 : ¬t.val % 65 = 64) :
    outsAt0 m c t.val t.isLt = (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (by exfalso; (try dsimp only at h0 h1); omega)

set_option maxHeartbeats 4000000 in
/-- `outsAt0` at a point of case B: that case's contents, over what the point before left. -/
theorem outsAt0_B (c : Dev nD) (t : Fin cfg0.N) (h0 : ¬t.val % 65 = 0) (h1 : t.val < 64) (h2 : ¬t.val % 65 = 64) :
    outsAt0 m c t.val t.isLt = (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 65 = 0) (h1 : ¬t.val < 64) (h2 : t.val % 65 = 64) :
    outsAt0 m c t.val t.isLt = (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's ; afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 65 := lt_of_lt_of_eq t.isLt (show cfg0.N = 65 from N_0)
  rw [after0_13, after0_13]
  by_cases h0 : t.val % 65 = 0
  · by_cases h1 : t.val < 64
    · by_cases h2 : t.val % 65 = 64
      · exfalso; omega
      · rw [liveAt0_13_A t ((hcond0_0 t).mpr h0) ((hcond0_1 t).mpr h1) (fun h => h2 ((hcond0_2 t).mp h))] at hi
        exact absurd hi Bool.false_ne_true
    · exfalso; omega
  · by_cases h1 : t.val < 64
    · by_cases h2 : t.val % 65 = 64
      · exfalso; omega
      · rw [liveAt0_13_B t (fun h => h0 ((hcond0_0 t).mp h)) ((hcond0_1 t).mpr h1) (fun h => h2 ((hcond0_2 t).mp h))] at hi
        exact absurd hi Bool.false_ne_true
    · by_cases h2 : t.val % 65 = 64
      · rw [outsAt0_C m c t h0 h1 h2]
        dsimp only
        unfold out0_C_13
        rfl
      · exfalso; omega

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 65 := lt_of_lt_of_eq t.isLt (show cfg0.N = 65 from N_0)
  rw [after0_14, after0_14]
  by_cases h0 : t.val % 65 = 0
  · by_cases h1 : t.val < 64
    · by_cases h2 : t.val % 65 = 64
      · exfalso; omega
      · rw [liveAt0_14_A t ((hcond0_0 t).mpr h0) ((hcond0_1 t).mpr h1) (fun h => h2 ((hcond0_2 t).mp h))] at hi
        exact absurd hi Bool.false_ne_true
    · exfalso; omega
  · by_cases h1 : t.val < 64
    · by_cases h2 : t.val % 65 = 64
      · exfalso; omega
      · rw [liveAt0_14_B t (fun h => h0 ((hcond0_0 t).mp h)) ((hcond0_1 t).mpr h1) (fun h => h2 ((hcond0_2 t).mp h))] at hi
        exact absurd hi Bool.false_ne_true
    · by_cases h2 : t.val % 65 = 64
      · rw [outsAt0_C m c t h0 h1 h2]
        dsimp only
        unfold out0_C_14
        rfl
      · exfalso; omega
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 65 = 0) (h1 : t.val < 64) (h2 : ¬t.val % 65 = 64) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_B t (fun h => h0 ((hcond0_0 t).mp h)) ((hcond0_1 t).mpr h1) (fun h => h2 ((hcond0_2 t).mp h))]; exact Bool.false_ne_true)]
  dsimp only [dats]
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 65 = 0) (h1 : t.val < 64) (h2 : ¬t.val % 65 = 64) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) ((hcond0_1 t).mpr h1) (fun h => h2 ((hcond0_2 t).mp h))]; exact Bool.false_ne_true)]
  dsimp only [dats]
/-- At a point of case C output 13's current staging buffer holds what the point before left: the buffer is not fresh
    there (`notFresh0_13_C`: stored into since the region's entry or the last write-back, carried through the points that
    leave it idle by `hcarry0_13`; Lib/Pipeline/TableIdle.lean `Dat.before_out_traj`). -/
theorem before0_13_C (c : Dev nD) (t : Fin cfg0.N) (h0 : ¬t.val % 65 = 0) (h1 : ¬t.val < 64) (h2 : t.val % 65 = 64) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) ((hcond0_2 t).mpr h2)]; exact Bool.false_ne_true)]
  dsimp only [dats]
/-- At a point of case C output 14's current staging buffer holds what the point before left: the buffer is not fresh
    there (`notFresh0_14_C`: stored into since the region's entry or the last write-back, carried through the points that
    leave it idle by `hcarry0_14`; Lib/Pipeline/TableIdle.lean `Dat.before_out_traj`). -/
theorem before0_14_C (c : Dev nD) (t : Fin cfg0.N) (h0 : ¬t.val % 65 = 0) (h1 : ¬t.val < 64) (h2 : t.val % 65 = 64) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) ((hcond0_2 t).mpr h2)]; exact Bool.false_ne_true)]
  dsimp only [dats]

/-! ## The body obligation, at a generic point -/

end Cert.KernelIdeal.Gen

end
-- ==== Proof.Attn.Frame.lean ====
/- The body's obligation at each grid point, the run of the program, and its frame. -/
module

public import proofs.«01_k».proof.Proof.Attn.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t` , -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val < 64
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) (fun h => h2 ((hcond0_2 t).mp h))], after0_14]
        by_cases hz : t.val = 0
        · rw [PhiS_castSucc m c t, PhiS_zero m c _ _ hz, PhiA0_eq]
          rw [outsAt0_A m c t h0 h1 h2]
          unfold out0_A_12 out0_A_13 out0_A_14 sout0_A_0 sout0_A_1 sout0_A_2 sout0_A_3 sout0_A_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexists _; iexact H13
          isplitl [H14]; · iexists _; iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, ⟨%e12, H12⟩, ⟨%e13, H13⟩, ⟨%e14, H14⟩, ⟨%es0, HS0⟩, ⟨%es1, HS1⟩, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _)
        · exfalso; have hN : t.val < 65 := lt_of_lt_of_eq t.isLt (show cfg0.N = 65 from N_0); omega
    · exfalso; omega
  · by_cases h1 : t.val < 64
    · by_cases h2 : t.val % 65 = 64
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1) (fun h => h2 ((hcond0_2 t).mp h))], after0_13]
        rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1) (fun h => h2 ((hcond0_2 t).mp h))], after0_14]
        by_cases hz : t.val = 0
        · exfalso; have hN : t.val < 65 := lt_of_lt_of_eq t.isLt (show cfg0.N = 65 from N_0); omega
        · rw [PhiS_castSucc m c t, PhiS_pos m c _ _ hz]
          rw [outsAt0_B m c t h0 h1 h2]
          simp only [before0_13_B m c t h0 h1 h2, before0_14_B m c t h0 h1 h2]
          unfold out0_B_12 out0_B_13 out0_B_14 sout0_B_0 sout0_B_1 sout0_B_2 sout0_B_3 sout0_B_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, ⟨%e12, H12⟩, ⟨%e13, H13⟩, ⟨%e14, H14⟩, ⟨%es0, HS0⟩, ⟨%es1, HS1⟩, ⟨%es2, HS2⟩, ⟨%es3, HS3⟩, ⟨%es4, HS4⟩⟩
          isplitl [HS0 HS1 HS2 HS3 HS4 Hg]
          · isplitl [HS0 HS1 HS2 HS3 HS4]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS3]
              · unfold owns; iexists _; isplitr
                swap; · iexact HS3
                ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS4
              ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : t.val % 65 = 64
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [idleAt0_13_C t (fun h => h0 ((hcond0_0 t).mp h)) (fun h => h1 ((hcond0_1 t).mp h)) ((hcond0_2 t).mpr h2), flushAt0_13_C t (fun h => h0 ((hcond0_0 t).mp h)) (fun h => h1 ((hcond0_1 t).mp h)) ((hcond0_2 t).mpr h2)], after0_13]
        rw [show (dats m 0 c).leavesExact 14 t = owns (c : Thread nD τ) (ms0_14 t) fullShare ((dats m 0 c).after 14 t) from by
      unfold Dat.leavesExact; rw [idleAt0_14_C t (fun h => h0 ((hcond0_0 t).mp h)) (fun h => h1 ((hcond0_1 t).mp h)) ((hcond0_2 t).mpr h2), flushAt0_14_C t (fun h => h0 ((hcond0_0 t).mp h)) (fun h => h1 ((hcond0_1 t).mp h)) ((hcond0_2 t).mpr h2)], after0_14]
        by_cases hz : t.val = 0
        · exfalso; have hN : t.val < 65 := lt_of_lt_of_eq t.isLt (show cfg0.N = 65 from N_0); omega
        · rw [PhiS_castSucc m c t, PhiS_pos m c _ _ hz]
          rw [outsAt0_C m c t h0 h1 h2]
          simp only [before0_13_C m c t h0 h1 h2, before0_14_C m c t h0 h1 h2]
          unfold out0_C_12 out0_C_13 out0_C_14 sout0_C_0 sout0_C_1 sout0_C_2 sout0_C_3 sout0_C_4; (try dsimp only)
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
          iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexists _; iexact H12
          isplitl [H13]; · iexact H13
          isplitl [H14]; · iexact H14
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, H11, ⟨%e12, H12⟩, H13, H14, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]; · iexact H13
          iexact H14
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it . -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Claims.Attention.lean ====
/- The attention backward: both frames, and the named constant. -/
module

public import proofs.«01_k».proof.Defs
public import proofs.«01_k».proof.Proof.Gen.Kernel
public import proofs.«01_k».proof.Proof.Attn.Frame
public import Idealize.ShloMosaic.Lib.Claim

@[expose] public section

noncomputable section

namespace Cert.Proof

open Idealize.ShloMosaic Idealize.SL.Sem

/-- The kernel read at the extended reals terminates, its arguments kept and its counters at zero. -/
theorem frame_attention_ideal : Cert.quiescent_KernelIdeal (hKernelIdeal := Cert.KernelIdeal.Gen.facts) :=
  fun m g _ => Cert.KernelIdeal.Gen.frame m g

/-- A named constant read as the bits it is written with. -/
abbrev written : Named Bits := ⟨fun _ _ φ b => Scalar.ofBits φ b⟩

set_option maxRecDepth 100000 in
set_option maxHeartbeats 4000000 in
/-- The two bodies are one. -/
theorem body_written : @Cert.Kernel.cc0_attn_bwd Bits _ Cert.Kernel.Gen.facts = @Cert.KernelIdeal.cc0_attn_bwd Bits _ written Cert.KernelIdeal.Gen.facts := rfl

set_option maxRecDepth 100000 in
set_option maxHeartbeats 4000000 in
/-- The two tables of bodies are one. -/
theorem defs_written : @Cert.Kernel.defs₀ Bits _ Cert.Kernel.Gen.facts = @Cert.KernelIdeal.defs₀ Bits _ written Cert.KernelIdeal.Gen.facts := by
  unfold Cert.Kernel.defs₀ Cert.KernelIdeal.defs₀
  refine congrArg Defs.onTc (funext fun l => funext fun a => ?_)
  match l, a with
  | ⟨0, _⟩, (t, s) =>
    dsimp only
    rw [body_written]
    rfl

set_option maxRecDepth 100000 in
set_option maxHeartbeats 8000000 in
/-- The two programs are one. -/
theorem main_written : @Cert.Kernel.main Bits _ Cert.Kernel.Gen.facts = @Cert.KernelIdeal.main Bits _ Cert.KernelIdeal.Gen.facts := rfl

set_option maxRecDepth 100000 in
set_option maxHeartbeats 8000000 in
/-- So does the kernel as written: at machine floats, with a named constant read as its own bits, the two texts are one. -/
theorem frame_attention : Cert.quiescent_Kernel (hKernel := Cert.Kernel.Gen.facts) := by
  have hd : @Cert.Kernel.defs Bits _ Cert.Kernel.Gen.facts = @Cert.KernelIdeal.defs Bits _ written Cert.KernelIdeal.Gen.facts := by
    unfold Cert.Kernel.defs Cert.KernelIdeal.defs
    rw [defs_written]
    rfl
  intro m g _
  rw [hd, main_written]
  exact @Cert.KernelIdeal.Gen.frame Bits _ written m g

/-- The mask's finite stand-in is named at the value it stands for. -/
theorem preserves_attention : Cert.preserves_Kernel_KernelIdeal :=
  IdealRules.named_const.statement Cert.KernelIdeal.κ "mask" .f32 0xF149F2CA#32 ⊥ rfl

end Cert.Proof

end
-- ==== Proof.Prod.Sums.lean ====
/- Matrices read at natural-number places, and a product's sum over them taken block by block. -/
module

public import Idealize.ShloMosaic.PureOps.Ideal.Laws
public import Idealize.ShloMosaic.Lib.ValueIdxCore
public import Idealize.ShloMosaic.Lib.MatmulPlain

@[expose] public section

noncomputable section

namespace Cert.Prod

open Idealize.ShloMosaic Idealize.ShloMosaic.ValueIdx
open scoped BigOperators

/-- The entry of a matrix at row `i` and column `j`, zero outside of it. -/
def at2 {M N : ℕ} (x : (⟨2, ![M, N]⟩ : Shape).Idx → EReal) (i j : ℕ) : EReal :=
  if h : i < M ∧ j < N then x (ix2 ⟨i, h.1⟩ ⟨j, h.2⟩) else 0

/-- An entry of a matrix by its two coordinates. -/
theorem at2_idx {M N : ℕ} (x : (⟨2, ![M, N]⟩ : Shape).Idx → EReal) (y : (⟨2, ![M, N]⟩ : Shape).Idx) :
    x y = at2 x (y 0).val (y 1).val := by
  unfold at2
  rw [dif_pos ⟨idx2_lt0 y, idx2_lt1 y⟩]
  exact congrArg x (eq_ix2 y)

/-- An entry at two coordinates that are in range. -/
theorem at2_ix2 {M N : ℕ} (x : (⟨2, ![M, N]⟩ : Shape).Idx → EReal) (a : Fin M) (b : Fin N) :
    x (ix2 a b) = at2 x a.val b.val := at2_idx x (ix2 a b)

/-- Two matrices agree at two places when the entries there are equal. -/
theorem at2_of {M N : ℕ} (x : (⟨2, ![M, N]⟩ : Shape).Idx → EReal) (i j : ℕ) (hi : i < M) (hj : j < N) (v : EReal)
    (h : x (ix2 ⟨i, hi⟩ ⟨j, hj⟩) = v) : at2 x i j = v := by
  unfold at2; rw [dif_pos ⟨hi, hj⟩]; exact h

/-- The sum of a row of `x` times a row of `y` over the first `K` columns. -/
def rows {M N L L' : ℕ} (x : (⟨2, ![M, L]⟩ : Shape).Idx → EReal) (y : (⟨2, ![N, L']⟩ : Shape).Idx → EReal) (K i j : ℕ) : EReal :=
  ∑ k ∈ Finset.range K, at2 x i k * at2 y j k

/-- The sum of a column of `x` times a column of `y` over the first `K` rows. -/
def cols {M N L L' : ℕ} (x : (⟨2, ![L, M]⟩ : Shape).Idx → EReal) (y : (⟨2, ![L', N]⟩ : Shape).Idx → EReal) (K i j : ℕ) : EReal :=
  ∑ k ∈ Finset.range K, at2 x k i * at2 y k j

/-- The sum of a row of `x` times a column of `y` over the first `K` places. -/
def rowcol {M N L L' : ℕ} (x : (⟨2, ![M, L]⟩ : Shape).Idx → EReal) (y : (⟨2, ![L', N]⟩ : Shape).Idx → EReal) (K i j : ℕ) : EReal :=
  ∑ k ∈ Finset.range K, at2 x i k * at2 y k j

/-- A sum over the places below `n + K` is the sum below `n` and the next `K` terms. -/
theorem sum_more (f : ℕ → EReal) (n K : ℕ) :
    (∑ k ∈ Finset.range n, f k) + ∑ k ∈ Finset.range K, f (n + k) = ∑ k ∈ Finset.range (n + K), f k := by
  induction K with
  | zero => simp
  | succ K ih => rw [Finset.sum_range_succ, ← add_assoc, ih, ← Nat.add_assoc, Finset.sum_range_succ]

/-- A sum over `Fin K` of a function of the places. -/
theorem sum_fin (K : ℕ) (f : ℕ → EReal) (g : Fin K → EReal) (h : ∀ k : Fin K, g k = f k.val) :
    ∑ k : Fin K, g k = ∑ k ∈ Finset.range K, f k := by
  rw [← Fin.sum_univ_eq_sum_range]
  exact Finset.sum_congr rfl fun k _ => h k

/-- The dimension numbers of a product that contracts the rows of both operands. -/
def colsDims (M K N : ℕ) (wf : DotDims.WF (sl := ⟨2, ![K, M]⟩) (sr := ⟨2, ![K, N]⟩) (so := ⟨2, ![M, N]⟩) [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- A product of rows with rows at an entry. -/
theorem matmul_rows {M K N : ℕ} {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (j : (⟨2, ![M, N]⟩ : Shape).Idx) :
    FloatOps.matmul (DotDims.transposedRhs M K N) prec lhs rhs acc j = acc j + rows lhs rhs K (j 0).val (j 1).val := by
  obtain ⟨a, b, rfl⟩ : ∃ (a : Fin M) (b : Fin N), j = ix2 a b := ⟨j 0, j 1, eq_ix2 j⟩
  rw [Ideal.matmul_transposedRhs_apply]
  exact congrArg (acc (ix2 a b) + ·) (sum_fin K (fun k => at2 lhs a.val k * at2 rhs b.val k) _ fun k => by
    rw [at2_ix2 lhs, at2_ix2 rhs])

/-- A plain product at an entry. -/
theorem matmul_rowcol {M K N : ℕ} {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (j : (⟨2, ![M, N]⟩ : Shape).Idx) :
    FloatOps.matmul (DotDims.plain M K N) prec lhs rhs acc j = acc j + rowcol lhs rhs K (j 0).val (j 1).val := by
  obtain ⟨a, b, rfl⟩ : ∃ (a : Fin M) (b : Fin N), j = ix2 a b := ⟨j 0, j 1, eq_ix2 j⟩
  rw [Ideal.matmul_plain_apply]
  exact congrArg (acc (ix2 a b) + ·) (sum_fin K (fun k => at2 lhs a.val k * at2 rhs k b.val) _ fun k => by
    rw [at2_ix2 lhs, at2_ix2 rhs])

/-- A product of columns with columns at an entry. -/
theorem matmul_cols {M K N : ℕ} {φ₁ φ₂ : FTy} (wf) (prec : Option ContractPrecision)
    (lhs : FVec Ideal ⟨2, ![K, M]⟩ φ₁) (rhs : FVec Ideal ⟨2, ![K, N]⟩ φ₂) (acc : FVec Ideal ⟨2, ![M, N]⟩ .f32)
    (j : (⟨2, ![M, N]⟩ : Shape).Idx) :
    FloatOps.matmul (colsDims M K N wf) prec lhs rhs acc j = acc j + cols lhs rhs K (j 0).val (j 1).val := by
  have hr : (colsDims M K N wf).contr.rank = 1 := rfl
  have hs : (colsDims M K N wf).contr.size ⟨0, by rw [hr]; exact Nat.one_pos⟩ = K := rfl
  rw [Ideal.matmul_apply, ← Equiv.sum_comp (contrEquiv1 (colsDims M K N wf) K hr hs).symm]
  refine congrArg (acc j + ·) (sum_fin K (fun k => at2 lhs k (j 0).val * at2 rhs k (j 1).val) _ fun k => ?_)
  have hk := contrEquiv1_symm_val (colsDims M K N wf) K hr hs k
  have el : (colsDims M K N wf).lhsIdx j ((contrEquiv1 (colsDims M K N wf) K hr hs).symm k) = ix2 k (j 0) := by
    funext a; apply Fin.ext
    match a with
    | ⟨0, _⟩ => exact hk
    | ⟨1, _⟩ => rfl
  have er : (colsDims M K N wf).rhsIdx j ((contrEquiv1 (colsDims M K N wf) K hr hs).symm k) = ix2 k (j 1) := by
    funext a; apply Fin.ext
    match a with
    | ⟨0, _⟩ => exact hk
    | ⟨1, _⟩ => rfl
  rw [el, er]
  exact congrArg₂ (· * ·) (at2_ix2 lhs k (j 0)) (at2_ix2 rhs k (j 1))

/-- Sums taken in runs of `nk` points, `T` terms at a point: a run's first point starts the sum, and each later point adds its terms. -/
theorem run_sum (N nk T : ℕ) (S : ∀ n, n < N → EReal) (f : ℕ → ℕ → EReal)
    (h0 : ∀ n (hn : n < N), n % nk = 0 → S n hn = ∑ k ∈ Finset.range T, f (n / nk) (T * (n % nk) + k))
    (h1 : ∀ n (hn : n + 1 < N), (n + 1) % nk ≠ 0 →
      S (n + 1) hn = S n (Nat.lt_of_succ_lt hn) + ∑ k ∈ Finset.range T, f ((n + 1) / nk) (T * ((n + 1) % nk) + k)) :
    ∀ n (hn : n < N), S n hn = ∑ k ∈ Finset.range (T * (n % nk) + T), f (n / nk) k := by
  intro n
  induction n with
  | zero => intro hn; rw [h0 0 hn (Nat.zero_mod _)]; simp
  | succ n ih =>
    intro hn
    by_cases h : (n + 1) % nk = 0
    · rw [h0 _ hn h]; simp [h]
    · have hd : n / nk = (n + 1) / nk := by
        rw [Nat.succ_div, if_neg (fun hh => h (Nat.mod_eq_zero_of_dvd hh)), Nat.add_zero]
      have hm : (n + 1) % nk = n % nk + 1 := by
        have a := Nat.div_add_mod n nk
        have b := Nat.div_add_mod (n + 1) nk
        rw [← hd] at b
        omega
      rw [h1 n hn h, ih, hd, hm]
      exact sum_more _ _ _

/-- An entry of a block of a matrix: the block's places start at `m * p` and `n * q`. -/
theorem at2_block {M N m n : ℕ} (x : (⟨2, ![M, N]⟩ : Shape).Idx → EReal)
    (e : (⟨2, ![m, n]⟩ : Shape).Idx → (⟨2, ![M, N]⟩ : Shape).Idx) (w w' : ℕ)
    (h0 : ∀ y, (e y 0).val = w * m + 1 * (y 0).val) (h1 : ∀ y, (e y 1).val = w' * n + 1 * (y 1).val)
    {p q : ℕ} (hp : w = p) (hq : w' = q) (a b : ℕ) (ha : a < m) (hb : b < n) :
    at2 (fun y => x (e y)) a b = at2 x (m * p + a) (n * q + b) := by
  refine at2_of _ a b ha hb _ ((at2_idx x _).trans ?_)
  refine congrArg₂ (at2 x) ((h0 _).trans ?_) ((h1 _).trans ?_)
  · rw [hp, Nat.mul_comm p m, Nat.one_mul]; rfl
  · rw [hq, Nat.mul_comm q n, Nat.one_mul]; rfl

/-- An entry of a block at one of the block's own places. -/
theorem at2_block_idx {M N m n : ℕ} (x : (⟨2, ![M, N]⟩ : Shape).Idx → EReal)
    (e : (⟨2, ![m, n]⟩ : Shape).Idx → (⟨2, ![M, N]⟩ : Shape).Idx) (w w' : ℕ)
    (h0 : ∀ y, (e y 0).val = w * m + 1 * (y 0).val) (h1 : ∀ y, (e y 1).val = w' * n + 1 * (y 1).val)
    {p q : ℕ} (hp : w = p) (hq : w' = q) (y : (⟨2, ![m, n]⟩ : Shape).Idx) :
    x (e y) = at2 x (m * p + (y 0).val) (n * q + (y 1).val) := by
  refine (at2_idx x _).trans (congrArg₂ (at2 x) ((h0 _).trans ?_) ((h1 _).trans ?_))
  · rw [hp, Nat.mul_comm p m, Nat.one_mul]
  · rw [hq, Nat.mul_comm q n, Nat.one_mul]

/-- A product of blocks that hold whole rows is the block of the product of rows. -/
theorem rows_block {M N L m n : ℕ} (x : (⟨2, ![M, L]⟩ : Shape).Idx → EReal) (z : (⟨2, ![N, L]⟩ : Shape).Idx → EReal)
    (e : (⟨2, ![m, L]⟩ : Shape).Idx → (⟨2, ![M, L]⟩ : Shape).Idx) (w w' : ℕ)
    (h0 : ∀ y, (e y 0).val = w * m + 1 * (y 0).val) (h1 : ∀ y, (e y 1).val = w' * L + 1 * (y 1).val)
    (e' : (⟨2, ![n, L]⟩ : Shape).Idx → (⟨2, ![N, L]⟩ : Shape).Idx) (v v' : ℕ)
    (g0 : ∀ y, (e' y 0).val = v * n + 1 * (y 0).val) (g1 : ∀ y, (e' y 1).val = v' * L + 1 * (y 1).val)
    {p q : ℕ} (hp : w = p) (hw : w' = 0) (hq : v = q) (hv : v' = 0) (i j : ℕ) (hi : i < m) (hj : j < n) :
    rows (fun y => x (e y)) (fun y => z (e' y)) L i j = rows x z L (m * p + i) (n * q + j) := by
  refine Finset.sum_congr rfl fun k hk => congrArg₂ (· * ·) ?_ ?_
  · exact (at2_block x e w w' h0 h1 hp hw i k hi (Finset.mem_range.mp hk)).trans (by rw [Nat.mul_zero, Nat.zero_add])
  · exact (at2_block z e' v v' g0 g1 hq hv j k hj (Finset.mem_range.mp hk)).trans (by rw [Nat.mul_zero, Nat.zero_add])

/-- A product of a block of whole rows with a block of whole columns is the block of the product. -/
theorem rowcol_block {M N L m n : ℕ} (x : (⟨2, ![M, L]⟩ : Shape).Idx → EReal) (z : (⟨2, ![L, N]⟩ : Shape).Idx → EReal)
    (e : (⟨2, ![m, L]⟩ : Shape).Idx → (⟨2, ![M, L]⟩ : Shape).Idx) (w w' : ℕ)
    (h0 : ∀ y, (e y 0).val = w * m + 1 * (y 0).val) (h1 : ∀ y, (e y 1).val = w' * L + 1 * (y 1).val)
    (e' : (⟨2, ![L, n]⟩ : Shape).Idx → (⟨2, ![L, N]⟩ : Shape).Idx) (v v' : ℕ)
    (g0 : ∀ y, (e' y 0).val = v * L + 1 * (y 0).val) (g1 : ∀ y, (e' y 1).val = v' * n + 1 * (y 1).val)
    {p q : ℕ} (hp : w = p) (hw : w' = 0) (hv : v = 0) (hq : v' = q) (i j : ℕ) (hi : i < m) (hj : j < n) :
    rowcol (fun y => x (e y)) (fun y => z (e' y)) L i j = rowcol x z L (m * p + i) (n * q + j) := by
  refine Finset.sum_congr rfl fun k hk => congrArg₂ (· * ·) ?_ ?_
  · exact (at2_block x e w w' h0 h1 hp hw i k hi (Finset.mem_range.mp hk)).trans (by rw [Nat.mul_zero, Nat.zero_add])
  · exact (at2_block z e' v v' g0 g1 hv hq k j (Finset.mem_range.mp hk) hj).trans (by rw [Nat.mul_zero, Nat.zero_add])

/-- Places read with zero offsets. -/
theorem hz : (![0, 0] : Fin 2 → Nat) = fun _ => 0 := funext fun a => by fin_cases a <;> rfl

end Cert.Prod

end
-- ==== Proof.Prod.K2.lean ====
/- The gradient of the squared rectifier of the MLP: what the kernel's array holds, entry by entry, and the reference's. -/
module

public import proofs.«01_k».proof.Proof.Prod.Sums
public import proofs.«01_k».proof.Proof.Gen.Kernel2Ideal.Value
public import Idealize.ShloMosaic.Lib.Pipeline.ValueKit.Geometry
public import proofs.«01_k».proof.Proof.Gen.Reference2Ideal.Read

@[expose] public section

noncomputable section

namespace Cert.Kernel2Ideal.Value

open Cert.Kernel2Ideal Cert.Kernel2Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The gradient that comes in. -/
abbrev lhs : S8192x1024.Idx → EReal := m ((c.tc : Thread nD τ).loc main_arg0)
/-- The weight of the product that follows the rectifier. -/
abbrev rhs : S4096x1024.Idx → EReal := m ((c.tc : Thread nD τ).loc main_arg1)
/-- The rectifier's argument. -/
abbrev arg : S8192x4096.Idx → EReal := m ((c.tc : Thread nD τ).loc main_arg2)

/-- What the array holds after the run. -/
abbrev G (i : S8192x4096.Idx) : EReal :=
  rows (lhs m c) (rhs m c) 1024 (i 0).val (i 1).val * Ideal.ofBits .f32 0x40000000#32 * max (arg m c i) 0

/-- Which blocks a point reads and writes. -/
theorem places : ∀ t : Fin cfg0.N, (win0_0.index t (0 : Fin 2) = t.val / 2 ∧ win0_0.index t (1 : Fin 2) = 0)
    ∧ (win0_1.index t (0 : Fin 2) = t.val % 2 ∧ win0_1.index t (1 : Fin 2) = 0)
    ∧ (win0_2.index t (0 : Fin 2) = t.val / 2 ∧ win0_2.index t (1 : Fin 2) = t.val % 2)
    ∧ win0_3.index t (0 : Fin 2) = t.val / 2 ∧ win0_3.index t (1 : Fin 2) = t.val % 2 :=
  (by decide +kernel : ∀ t : Fin grid0.N, _)

/-- A point writes what it computes of its blocks. -/
theorem point_out (t : Fin cfg0.N) : outsAt0 m c t = k0_pay1 (iblk m c 1 t) (iblk m c 0 t) (iblk m c 2 t) := by
  unfold outsAt0 out0_A_3
  rw [View.read_writes_eq_canon _ _ _ (cover0_A_3 c (grid0.coords t) (ms0_0 t) (hs0_0 t) (ms0_1 t) (hs0_1 t) (ms0_2 t) (hs0_2 t)
      (ms0_3 t) (hs0_3 t) scM0_0 (Memref.isWhole_whole _) (hcond0_0 t) (iblk m c 0 t) (iblk m c 1 t) (iblk m c 2 t))]
  unfold kernelRun0_A; dsimp only
  sl_unfold_words
  rw [View.canon_unit_zero hz]
  simp only [View.readAt_eq_ld, (hs0_0 t).read_unread, (hs0_1 t).read_unread, (hs0_2 t).read_unread, View.ld_unit_zero (S := S1024x1024) hz,
    View.ld_unit_zero (S := S2048x1024) hz, View.ld_unit_zero (S := S1024x2048) hz]

/-- A point's block of the rectifier's argument, at the place of the output. -/
theorem arg_block (t : Fin cfg0.N) (y : S1024x2048.Idx) : iblk m c 2 t y = arg m c (((cfg0.win 3).blk t).view.emb y) := by
  obtain ⟨-, -, ⟨e0, e1⟩, e2, e3⟩ := places t
  refine (at2_block_idx (arg m c) ((cfg0.win 2).blk t).view.emb _ _ (fun _ => rfl) (fun _ => rfl) e0 e1 y).trans ?_
  exact (at2_block_idx (arg m c) ((cfg0.win 3).blk t).view.emb _ _ (fun _ => rfl) (fun _ => rfl) e2 e3 y).symm

/-- What a point computes is the point's block of the array. -/
theorem point_apply (t : Fin cfg0.N) (y : S1024x2048.Idx) : outsAt0 m c t y = G m c (((cfg0.win 3).blk t).view.emb y) := by
  obtain ⟨⟨e0, e1⟩, ⟨e2, e3⟩, -, e4, e5⟩ := places t
  have hy0 : (((cfg0.win 3).blk t).view.emb y 0).val = win0_3.index t (0 : Fin 2) * 1024 + 1 * (y 0).val := rfl
  have hy1 : (((cfg0.win 3).blk t).view.emb y 1).val = win0_3.index t (1 : Fin 2) * 2048 + 1 * (y 1).val := rfl
  rw [point_out]
  unfold k0_pay1
  show FloatOps.matmul dot_S1024x1024_S2048x1024_S1024x2048_1_1_0_0_n_n none (iblk m c 0 t) (iblk m c 1 t)
    (constant S1024x2048 .f32 0x00000000#32) y * Ideal.ofBits .f32 0x40000000#32 * (@max EReal _ (iblk m c 2 t y) (Ideal.ofBits .f32 0x00000000#32)) = _
  unfold G
  rw [Ideal.ofBits_zero_f32, arg_block]
  refine congrArg (· * Ideal.ofBits .f32 0x40000000#32 * _) ?_
  refine (matmul_rows (M := 1024) (K := 1024) (N := 2048) (φ₁ := .bf16) (φ₂ := .bf16) none (iblk m c 0 t) (iblk m c 1 t)
    (constant S1024x2048 .f32 0x00000000#32) y).trans ?_
  show Ideal.ofBits .f32 0x00000000#32 + _ = _
  rw [Ideal.ofBits_zero_f32, zero_add]
  refine (rows_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  rw [hy0, hy1, e4, e5]
  congr 1 <;> omega

/-- The array after the run. -/
theorem final : (dats m 0 c).arrAt 3 cfg0.N = G m c :=
  (dats m 0 c).arrAt_eq_of_covers 3 _ (by decide +kernel) fun t hf y => by
    show (dats m 0 c).after 3 t ((cfg0.win 3).xinj (grid0.coords t) y) = _
    rw [after0_3]
    exact point_apply m c t y

end Cert.Kernel2Ideal.Value

namespace Cert.Reference2Ideal.Read

open Cert.Reference2Ideal Cert.Reference2Ideal.Gen Idealize.ShloMosaic Idealize.ShloMosaic.TcCoe Idealize.ShloMosaic.ValueIdx
open Cert.Prod

/-- A gradient through a squared rectifier: where the argument is not above zero, twice the rectified argument is zero as well. -/
theorem rectified (a b x : EReal) : (if 0 < x then a * (b * max x 0) else 0) = a * b * max x 0 := by
  by_cases h : 0 < x
  · rw [if_pos h, mul_assoc]
  · rw [if_neg h, max_eq_right (not_lt.mp h), mul_zero]

/-- The reference's array at an entry. -/
theorem final_apply (x0 : S8192x1024.Idx → EReal) (x1 : S4096x1024.Idx → EReal) (x2 : S8192x4096.Idx → EReal) (i : S8192x4096.Idx) :
    val_main_v15 (F := Ideal) x0 x1 x2 i
      = rows x0 x1 1024 (i 0).val (i 1).val * Ideal.ofBits .f32 0x40000000#32 * max (x2 i) 0 := by
  have hd : val_main_v11 (F := Ideal) x0 x1 i = rows x0 x1 1024 (i 0).val (i 1).val := by
    rw [val_main_v11_apply]
    exact sum_fin 1024 (fun k => at2 x0 (i 0).val k * at2 x1 (i 1).val k) _ fun k => congrArg₂ (· * ·) (at2_idx x0 _) (at2_idx x1 _)
  have hm : val_main_v1 (F := Ideal) x2 i = max (x2 i) 0 := by
    show max (x2 i) _ = _
    refine congrArg (max (x2 i)) ?_
    exact Ideal.ofBits_zero_f32
  have hc : val_main_v3 (F := Ideal) x2 i = BitVec.ofBool (decide (0 < x2 i)) := by
    rw [val_main_v3_apply, val_main_v2_apply, val_main_cst_apply]
    show Ideal.cmp .ogt (x2 i) (Ideal.ofBits .f32 0x00000000#32) = _
    rw [Ideal.ofBits_zero_f32]
    rfl
  rw [val_main_v15_apply, val_main_v14_apply, val_main_v13_apply, val_main_cst_2_apply, val_main_v12_apply, val_main_v7_apply,
    val_main_v6_apply, val_main_cst_1_apply, hd, hm, hc, ← rectified]
  show Scalar.select _ (rows x0 x1 1024 (i 0).val (i 1).val * (Ideal.ofBits .f32 0x40000000#32 * max (x2 i) 0)) (Ideal.ofBits .f32 0x00000000#32) = _
  rw [Ideal.ofBits_zero_f32]
  unfold Scalar.select
  by_cases h : 0 < x2 i <;> simp [h]

end Cert.Reference2Ideal.Read

end
-- ==== Proof.Prod.K3.lean ====
/- The weight gradient of the MLP's output product: what the kernel's array holds, entry by entry, and the reference's. -/
module

public import proofs.«01_k».proof.Proof.Prod.Sums
public import proofs.«01_k».proof.Proof.Gen.Kernel3Ideal.Value
public import proofs.«01_k».proof.Proof.Gen.Reference3Ideal.Read

@[expose] public section

noncomputable section

namespace Cert.Kernel3Ideal.Value

open Cert.Kernel3Ideal Cert.Kernel3Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec F S4096x1024 .bf16) (x1 : Vec F S4096x1024 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S4096x1024) hz]

/-- The last point of a run adds its partial product to the scratch, and writes the block from it. -/
theorem last_point (hc0 : ¬cond0_0 i) (hc1 : cond0_1 i) :
    sout0_B_0 c i a3 h3 a4 h4 a5 h5 a6 h6 hc0 hc1 x0 x1 xs = k0_pay2 x1 x0 xs
      ∧ out0_B_2 c i a3 h3 a4 h4 a5 h5 a6 h6 hc0 hc1 x0 x1 xs = k0_pay3 (k0_pay2 x1 x0 xs) := by
  unfold sout0_B_0 out0_B_2
  rw [View.read_writes_eq_canon _ _ _ (scover0_B_0 c i a3 h3 a4 h4 a5 h5 a6 h6 hc0 hc1 x0 x1 xs),
    View.read_writes_eq_canon _ _ _ (cover0_B_2 c i a3 h3 a4 h4 a5 h5 a6 h6 hc0 hc1 x0 x1 xs)]
  unfold kernelRun0_B; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S4096x1024) hz,
    View.ld_unit_zero (S := S1024x1024) hz, and_self]

end

variable (m : (ℓ : Loc nD τ sig) → Buf (Elt Ideal) ℓ) (c : Dev nD)

/-- The left operand of the product. -/
abbrev lhs : S8192x4096.Idx → EReal := m ((c.tc : Thread nD τ).loc main_arg0)
/-- The right operand of the product. -/
abbrev rhs : S8192x1024.Idx → EReal := m ((c.tc : Thread nD τ).loc main_arg2)

/-- Which blocks a point reads. -/
theorem places : ∀ t : Fin cfg0.N, win0_0.index t (0 : Fin 2) = t.val % 2 ∧ win0_0.index t (1 : Fin 2) = t.val / 2 / 1
    ∧ win0_1.index t (0 : Fin 2) = t.val % 2 ∧ win0_1.index t (1 : Fin 2) = t.val / 2 % 1 :=
  (by decide +kernel : ∀ t : Fin grid0.N, _)

/-- One term of the whole sum of a run: the run's block of the output and the term's place. -/
abbrev term (y : S1024x1024.Idx) (r k : ℕ) : EReal :=
  at2 (lhs m c) k (1024 * (r / 1) + (y 0).val) * at2 (rhs m c) k (1024 * (r % 1) + (y 1).val)

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 2) (4096 * (t.val % 2) + k) := by
  obtain ⟨e0, e1, e2, e3⟩ := places t
  unfold k0_pay2
  rw [shapeCast_self]
  refine congrArg (acc y + ·) ?_
  refine (matmul_cols (M := 1024) (K := 4096) (N := 1024) (φ₁ := .bf16) (φ₂ := .bf16)
    dot_S4096x1024_S4096x1024_S1024x1024_0_0_1_1_n_n.wf none (iblk m c 0 t) (iblk m c 1 t) (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 k _ (Finset.mem_range.mp hk) (y 0).isLt
  · exact at2_block (rhs m c) ((cfg0.win 1).blk t).view.emb _ _ (fun _ => rfl) (fun _ => rfl) e2 e3 k _ (Finset.mem_range.mp hk) (y 1).isLt

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 2) + 4096), term m c y (n / 2) k := by
  refine run_sum cfg0.N 2 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · rw [outsAt0_B m c ⟨n + 1, hn⟩ h (by dsimp only; omega)]
    dsimp only
    rw [(last_point c _ _ _ _ _ _ _ _ _ _ _ _ _ _).1, step_apply]
    rfl

/-- The array after the run, at an entry: the whole sum. -/
theorem final_apply (i : S4096x1024.Idx) : G2 m c i = cols (lhs m c) (rhs m c) 8192 (i 0).val (i 1).val := by
  have hi0 : (i 0).val < 4096 := (i 0).isLt
  have hi1 : (i 1).val < 1024 := (i 1).isLt
  have hq : pt2Of i = 2 * (1 * ((i 0).val / 1024 - 0) + 1 * ((i 1).val / 1024 - 0)) + 1 := rfl
  have hp : pt2Of i < cfg0.N := by rw [show cfg0.N = 8 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_B m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term cols
  rw [y0, y1, hq]
  refine Finset.sum_congr (congrArg Finset.range (by omega)) fun k _ => congrArg₂ (· * ·) ?_ ?_
  · exact congrArg (at2 (lhs m c) k) (by omega)
  · exact congrArg (at2 (rhs m c) k) (by omega)

end Cert.Kernel3Ideal.Value

namespace Cert.Reference3Ideal.Read

open Cert.Reference3Ideal Cert.Reference3Ideal.Gen Idealize.ShloMosaic Idealize.ShloMosaic.TcCoe Idealize.ShloMosaic.ValueIdx
open Cert.Prod

/-- The reference's array at an entry: the same sum. -/
theorem final_apply (x0 : S8192x4096.Idx → EReal) (x2 : S8192x1024.Idx → EReal) (i : S4096x1024.Idx) :
    val_main_v6 (F := Ideal) x0 x2 i = cols x0 x2 8192 (i 0).val (i 1).val := by
  rw [val_main_v6_apply, val_main_v5_apply, val_main_v4_apply]
  refine sum_fin 8192 (fun k => at2 x0 k (i 0).val * at2 x2 k (i 1).val) _ fun k => ?_
  rw [mul_comm]
  exact congrArg₂ (· * ·) (at2_idx x0 _) (at2_idx x2 _)

end Cert.Reference3Ideal.Read

end
-- ==== Proof.Prod.K4.lean ====
/- The weight gradient of the MLP's input product: what the kernel's array holds, entry by entry, and the reference's. -/
module

public import proofs.«01_k».proof.Proof.Prod.Sums
public import proofs.«01_k».proof.Proof.Gen.Kernel4Ideal.Value
public import proofs.«01_k».proof.Proof.Gen.Reference4Ideal.Read

@[expose] public section

noncomputable section

namespace Cert.Kernel4Ideal.Value

open Cert.Kernel4Ideal Cert.Kernel4Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec F S4096x1024 .bf16) (x1 : Vec F S4096x1024 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S4096x1024) hz]

/-- The last point of a run adds its partial product to the scratch, and writes the block from it. -/
theorem last_point (hc0 : ¬cond0_0 i) (hc1 : cond0_1 i) :
    sout0_B_0 c i a3 h3 a4 h4 a5 h5 a6 h6 hc0 hc1 x0 x1 xs = k0_pay2 x1 x0 xs
      ∧ out0_B_2 c i a3 h3 a4 h4 a5 h5 a6 h6 hc0 hc1 x0 x1 xs = k0_pay3 (k0_pay2 x1 x0 xs) := by
  unfold sout0_B_0 out0_B_2
  rw [View.read_writes_eq_canon _ _ _ (scover0_B_0 c i a3 h3 a4 h4 a5 h5 a6 h6 hc0 hc1 x0 x1 xs),
    View.read_writes_eq_canon _ _ _ (cover0_B_2 c i a3 h3 a4 h4 a5 h5 a6 h6 hc0 hc1 x0 x1 xs)]
  unfold kernelRun0_B; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S4096x1024) hz,
    View.ld_unit_zero (S := S1024x1024) hz, and_self]

end

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S8192x4096.Idx → EReal := m ((c.tc : Thread nD τ).loc main_arg2)

/-- Which blocks a point reads. -/
theorem places : ∀ t : Fin cfg0.N, win0_0.index t (0 : Fin 2) = t.val % 2 ∧ win0_0.index t (1 : Fin 2) = t.val / 2 / 4
    ∧ win0_1.index t (0 : Fin 2) = t.val % 2 ∧ win0_1.index t (1 : Fin 2) = t.val / 2 % 4 :=
  (by decide +kernel : ∀ t : Fin grid0.N, _)

/-- One term of the whole sum of a run: the run's block of the output and the term's place. -/
abbrev term (y : S1024x1024.Idx) (r k : ℕ) : EReal :=
  at2 (lhs m c) k (1024 * (r / 4) + (y 0).val) * at2 (rhs m c) k (1024 * (r % 4) + (y 1).val)

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 2) (4096 * (t.val % 2) + k) := by
  obtain ⟨e0, e1, e2, e3⟩ := places t
  unfold k0_pay2
  rw [shapeCast_self]
  refine congrArg (acc y + ·) ?_
  refine (matmul_cols (M := 1024) (K := 4096) (N := 1024) (φ₁ := .bf16) (φ₂ := .bf16)
    dot_S4096x1024_S4096x1024_S1024x1024_0_0_1_1_n_n.wf none (iblk m c 0 t) (iblk m c 1 t) (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 k _ (Finset.mem_range.mp hk) (y 0).isLt
  · exact at2_block (rhs m c) ((cfg0.win 1).blk t).view.emb _ _ (fun _ => rfl) (fun _ => rfl) e2 e3 k _ (Finset.mem_range.mp hk) (y 1).isLt

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 2) + 4096), term m c y (n / 2) k := by
  refine run_sum cfg0.N 2 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · rw [outsAt0_B m c ⟨n + 1, hn⟩ h (by dsimp only; omega)]
    dsimp only
    rw [(last_point c _ _ _ _ _ _ _ _ _ _ _ _ _ _).1, step_apply]
    rfl

/-- The array after the run, at an entry: the whole sum. -/
theorem final_apply (i : S1024x4096.Idx) : G2 m c i = cols (lhs m c) (rhs m c) 8192 (i 0).val (i 1).val := by
  have hi0 : (i 0).val < 1024 := (i 0).isLt
  have hi1 : (i 1).val < 4096 := (i 1).isLt
  have hq : pt2Of i = 2 * (4 * ((i 0).val / 1024 - 0) + 1 * ((i 1).val / 1024 - 0)) + 1 := rfl
  have hp : pt2Of i < cfg0.N := by rw [show cfg0.N = 8 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_B m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term cols
  rw [y0, y1, hq]
  refine Finset.sum_congr (congrArg Finset.range (by omega)) fun k _ => congrArg₂ (· * ·) ?_ ?_
  · exact congrArg (at2 (lhs m c) k) (by omega)
  · exact congrArg (at2 (rhs m c) k) (by omega)

end Cert.Kernel4Ideal.Value

namespace Cert.Reference4Ideal.Read

open Cert.Reference4Ideal Cert.Reference4Ideal.Gen Idealize.ShloMosaic Idealize.ShloMosaic.TcCoe Idealize.ShloMosaic.ValueIdx
open Cert.Prod

/-- The reference's array at an entry: the same sum. -/
theorem final_apply (x0 : S8192x1024.Idx → EReal) (x2 : S8192x4096.Idx → EReal) (i : S1024x4096.Idx) :
    val_main_v6 (F := Ideal) x0 x2 i = cols x0 x2 8192 (i 0).val (i 1).val := by
  rw [val_main_v6_apply, val_main_v5_apply, val_main_v4_apply]
  refine sum_fin 8192 (fun k => at2 x0 k (i 0).val * at2 x2 k (i 1).val) _ fun k => ?_
  rw [mul_comm]
  exact congrArg₂ (· * ·) (at2_idx x0 _) (at2_idx x2 _)

end Cert.Reference4Ideal.Read

end
-- ==== Proof.Prod.K5.lean ====
/- The input gradient of the MLP's input product: what the kernel's array holds, entry by entry, and the reference's. -/
module

public import proofs.«01_k».proof.Proof.Prod.Sums
public import proofs.«01_k».proof.Proof.Gen.Kernel5Ideal.Value
public import Idealize.ShloMosaic.Lib.Pipeline.ValueKit.Geometry
public import proofs.«01_k».proof.Proof.Gen.Reference5Ideal.Read

@[expose] public section

noncomputable section

namespace Cert.Kernel5Ideal.Value

open Cert.Kernel5Ideal Cert.Kernel5Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x4096.Idx → EReal := m ((c.tc : Thread nD τ).loc main_arg2)
/-- The right operand of the product. -/
abbrev rhs : S1024x4096.Idx → EReal := m ((c.tc : Thread nD τ).loc main_arg1)

/-- What the array holds after the run. -/
abbrev G (i : S8192x1024.Idx) : EReal := rows (lhs m c) (rhs m c) 4096 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S1024x4096) hz]

/-- The product of a point's blocks is the point's block of the array. -/
theorem point_apply (t : Fin cfg0.N) (y : S1024x1024.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 1024 + 1 * (y 0).val := rfl
  have hy1 : (((cfg0.win 2).blk t).view.emb y 1).val = win0_2.index t (1 : Fin 2) * 1024 + 1 * (y 1).val := rfl
  rw [point_out]
  unfold k0_pay1
  refine (matmul_rows (M := 1024) (K := 4096) (N := 1024) (φ₁ := .bf16) (φ₂ := .bf16) none (iblk m c 0 t) (iblk m c 1 t)
    (constant S1024x1024 .f32 0x00000000#32) y).trans ?_
  show Ideal.ofBits .f32 0x00000000#32 + _ = _
  rw [Ideal.ofBits_zero_f32, zero_add]
  refine (rows_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel5Ideal.Value

namespace Cert.Reference5Ideal.Read

open Cert.Reference5Ideal Cert.Reference5Ideal.Gen Idealize.ShloMosaic Idealize.ShloMosaic.TcCoe Idealize.ShloMosaic.ValueIdx
open Cert.Prod

/-- The reference's array at an entry: the same sum. -/
theorem final_apply (x1 : S1024x4096.Idx → EReal) (x2 : S8192x4096.Idx → EReal) (i : S8192x1024.Idx) :
    val_main_v5 (F := Ideal) x1 x2 i = rows x2 x1 4096 (i 0).val (i 1).val := by
  rw [val_main_v5_apply, val_main_v4_apply]
  exact sum_fin 4096 (fun k => at2 x2 (i 0).val k * at2 x1 (i 1).val k) _ fun k => congrArg₂ (· * ·) (at2_idx x2 _) (at2_idx x1 _)

end Cert.Reference5Ideal.Read

end
-- ==== Proof.Prod.K6.lean ====
/- The weight gradient of the input projection: what the kernel's array holds, entry by entry, and the reference's. -/
module

public import proofs.«01_k».proof.Proof.Prod.Sums
public import proofs.«01_k».proof.Proof.Gen.Kernel6Ideal.Value
public import proofs.«01_k».proof.Proof.Gen.Reference6Ideal.Read

@[expose] public section

noncomputable section

namespace Cert.Kernel6Ideal.Value

open Cert.Kernel6Ideal Cert.Kernel6Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec F S4096x1024 .bf16) (x1 : Vec F S4096x1024 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S4096x1024) hz]

/-- The last point of a run adds its partial product to the scratch, and writes the block from it. -/
theorem last_point (hc0 : ¬cond0_0 i) (hc1 : cond0_1 i) :
    sout0_B_0 c i a3 h3 a4 h4 a5 h5 a6 h6 hc0 hc1 x0 x1 xs = k0_pay2 x1 x0 xs
      ∧ out0_B_2 c i a3 h3 a4 h4 a5 h5 a6 h6 hc0 hc1 x0 x1 xs = k0_pay3 (k0_pay2 x1 x0 xs) := by
  unfold sout0_B_0 out0_B_2
  rw [View.read_writes_eq_canon _ _ _ (scover0_B_0 c i a3 h3 a4 h4 a5 h5 a6 h6 hc0 hc1 x0 x1 xs),
    View.read_writes_eq_canon _ _ _ (cover0_B_2 c i a3 h3 a4 h4 a5 h5 a6 h6 hc0 hc1 x0 x1 xs)]
  unfold kernelRun0_B; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S4096x1024) hz,
    View.ld_unit_zero (S := S1024x1024) hz, and_self]

end

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S8192x12288.Idx → EReal := m ((c.tc : Thread nD τ).loc main_arg2)

/-- Which blocks a point reads. -/
theorem places : ∀ t : Fin cfg0.N, win0_0.index t (0 : Fin 2) = t.val % 2 ∧ win0_0.index t (1 : Fin 2) = t.val / 2 / 12
    ∧ win0_1.index t (0 : Fin 2) = t.val % 2 ∧ win0_1.index t (1 : Fin 2) = t.val / 2 % 12 :=
  (by decide +kernel : ∀ t : Fin grid0.N, _)

/-- One term of the whole sum of a run: the run's block of the output and the term's place. -/
abbrev term (y : S1024x1024.Idx) (r k : ℕ) : EReal :=
  at2 (lhs m c) k (1024 * (r / 12) + (y 0).val) * at2 (rhs m c) k (1024 * (r % 12) + (y 1).val)

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 2) (4096 * (t.val % 2) + k) := by
  obtain ⟨e0, e1, e2, e3⟩ := places t
  unfold k0_pay2
  rw [shapeCast_self]
  refine congrArg (acc y + ·) ?_
  refine (matmul_cols (M := 1024) (K := 4096) (N := 1024) (φ₁ := .bf16) (φ₂ := .bf16)
    dot_S4096x1024_S4096x1024_S1024x1024_0_0_1_1_n_n.wf none (iblk m c 0 t) (iblk m c 1 t) (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 k _ (Finset.mem_range.mp hk) (y 0).isLt
  · exact at2_block (rhs m c) ((cfg0.win 1).blk t).view.emb _ _ (fun _ => rfl) (fun _ => rfl) e2 e3 k _ (Finset.mem_range.mp hk) (y 1).isLt

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 2) + 4096), term m c y (n / 2) k := by
  refine run_sum cfg0.N 2 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · rw [outsAt0_B m c ⟨n + 1, hn⟩ h (by dsimp only; omega)]
    dsimp only
    rw [(last_point c _ _ _ _ _ _ _ _ _ _ _ _ _ _).1, step_apply]
    rfl

/-- The array after the run, at an entry: the whole sum. -/
theorem final_apply (i : S1024x12288.Idx) : G2 m c i = cols (lhs m c) (rhs m c) 8192 (i 0).val (i 1).val := by
  have hi0 : (i 0).val < 1024 := (i 0).isLt
  have hi1 : (i 1).val < 12288 := (i 1).isLt
  have hq : pt2Of i = 2 * (12 * ((i 0).val / 1024 - 0) + 1 * ((i 1).val / 1024 - 0)) + 1 := rfl
  have hp : pt2Of i < cfg0.N := by rw [show cfg0.N = 24 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_B m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term cols
  rw [y0, y1, hq]
  refine Finset.sum_congr (congrArg Finset.range (by omega)) fun k _ => congrArg₂ (· * ·) ?_ ?_
  · exact congrArg (at2 (lhs m c) k) (by omega)
  · exact congrArg (at2 (rhs m c) k) (by omega)

end Cert.Kernel6Ideal.Value

namespace Cert.Reference6Ideal.Read

open Cert.Reference6Ideal Cert.Reference6Ideal.Gen Idealize.ShloMosaic Idealize.ShloMosaic.TcCoe Idealize.ShloMosaic.ValueIdx
open Cert.Prod

/-- The reference's array at an entry: the same sum. -/
theorem final_apply (x0 : S8192x1024.Idx → EReal) (x2 : S8192x12288.Idx → EReal) (i : S1024x12288.Idx) :
    val_main_v6 (F := Ideal) x0 x2 i = cols x0 x2 8192 (i 0).val (i 1).val := by
  rw [val_main_v6_apply, val_main_v5_apply, val_main_v4_apply]
  refine sum_fin 8192 (fun k => at2 x0 k (i 0).val * at2 x2 k (i 1).val) _ fun k => ?_
  rw [mul_comm]
  exact congrArg₂ (· * ·) (at2_idx x0 _) (at2_idx x2 _)

end Cert.Reference6Ideal.Read

end
-- ==== Proof.Prod.K7.lean ====
/- The input gradient of the input projection: what the kernel's array holds, entry by entry, and the reference's. -/
module

public import proofs.«01_k».proof.Proof.Prod.Sums
public import proofs.«01_k».proof.Proof.Gen.Kernel7Ideal.Value
public import proofs.«01_k».proof.Proof.Gen.Reference7Ideal.Read

@[expose] public section

noncomputable section

namespace Cert.Kernel7Ideal.Value

open Cert.Kernel7Ideal Cert.Kernel7Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S1024x4096 .bf16) (h3 : a3.IsWhole) (a4 : Memref sig .tc .vmem S1024x4096 .bf16) (h4 : a4.IsWhole)
  (a5 : Memref sig .tc .vmem S1024x1024 .bf16) (h5 : a5.IsWhole) (a6 : Memref sig .tc .vmem S1024x1024 .f32) (h6 : a6.IsWhole)
  (x0 : Vec F S1024x4096 .bf16) (x1 : Vec F S1024x4096 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S1024x4096) hz]

/-- A point between the first and the last of a run adds its partial product to the scratch. -/
theorem middle_scratch (hc0 : ¬cond0_0 i) (hc1 : ¬cond0_1 i) :
    sout0_B_0 c i a3 h3 a4 h4 a5 h5 a6 h6 hc0 hc1 x0 x1 xs = k0_pay2 x1 x0 xs := by
  unfold sout0_B_0
  rw [View.read_writes_eq_canon _ _ _ (scover0_B_0 c i a3 h3 a4 h4 a5 h5 a6 h6 hc0 hc1 x0 x1 xs)]
  unfold kernelRun0_B; dsimp only
  sl_unfold_words
  rw [View.canon_unit_zero hz]
  simp only [View.readAt_eq_ld, h3.read_unread, h4.read_unread, h6.read_unread, View.ld_unit_zero (S := S1024x4096) hz,
    View.ld_unit_zero (S := S1024x1024) hz]

/-- The last point of a run adds its partial product to the scratch, and writes the block from it. -/
theorem last_point (hc0 : ¬cond0_0 i) (hc1 : cond0_1 i) :
    sout0_C_0 c i a3 h3 a4 h4 a5 h5 a6 h6 hc0 hc1 x0 x1 xs = k0_pay2 x1 x0 xs
      ∧ out0_C_2 c i a3 h3 a4 h4 a5 h5 a6 h6 hc0 hc1 x0 x1 xs = k0_pay3 (k0_pay2 x1 x0 xs) := by
  unfold sout0_C_0 out0_C_2
  rw [View.read_writes_eq_canon _ _ _ (scover0_C_0 c i a3 h3 a4 h4 a5 h5 a6 h6 hc0 hc1 x0 x1 xs),
    View.read_writes_eq_canon _ _ _ (cover0_C_2 c i a3 h3 a4 h4 a5 h5 a6 h6 hc0 hc1 x0 x1 xs)]
  unfold kernelRun0_C; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S1024x4096) hz,
    View.ld_unit_zero (S := S1024x1024) hz, and_self]

end

variable (m : (ℓ : Loc nD τ sig) → Buf (Elt Ideal) ℓ) (c : Dev nD)

/-- The left operand of the product. -/
abbrev lhs : S8192x12288.Idx → EReal := m ((c.tc : Thread nD τ).loc main_arg2)
/-- The right operand of the product, whose rows are contracted. -/
abbrev rhs : S1024x12288.Idx → EReal := m ((c.tc : Thread nD τ).loc main_arg1)

/-- Which blocks a point reads. -/
theorem places : ∀ t : Fin cfg0.N, win0_0.index t (0 : Fin 2) = t.val / 3 ∧ win0_0.index t (1 : Fin 2) = t.val % 3
    ∧ win0_1.index t (0 : Fin 2) = 0 ∧ win0_1.index t (1 : Fin 2) = t.val % 3 :=
  (by decide +kernel : ∀ t : Fin grid0.N, _)

/-- One term of the whole sum of a run: the run's block of the output and the term's place. -/
abbrev term (y : S1024x1024.Idx) (r k : ℕ) : EReal :=
  at2 (lhs m c) (1024 * r + (y 0).val) k * at2 (rhs m c) (1024 * 0 + (y 1).val) k

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 3) (4096 * (t.val % 3) + k) := by
  obtain ⟨e0, e1, e2, e3⟩ := places t
  unfold k0_pay2
  rw [shapeCast_self]
  refine congrArg (acc y + ·) ?_
  refine (matmul_rows (M := 1024) (K := 4096) (N := 1024) (φ₁ := .bf16) (φ₂ := .bf16) none (iblk m c 0 t) (iblk m c 1 t)
    (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 _ k (y 0).isLt (Finset.mem_range.mp hk)
  · exact at2_block (rhs m c) ((cfg0.win 1).blk t).view.emb _ _ (fun _ => rfl) (fun _ => rfl) e2 e3 _ k (y 1).isLt (Finset.mem_range.mp hk)

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 3) + 4096), term m c y (n / 3) k := by
  refine run_sum cfg0.N 3 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · by_cases h2 : (n + 1) % 3 = 2
    · rw [outsAt0_C m c ⟨n + 1, hn⟩ h h2]
      dsimp only
      rw [(last_point c _ _ _ _ _ _ _ _ _ _ _ _ _ _).1, step_apply]
      rfl
    · rw [outsAt0_B m c ⟨n + 1, hn⟩ h h2]
      dsimp only
      rw [middle_scratch, step_apply]
      rfl

/-- The array after the run, at an entry: the whole sum. -/
theorem final_apply (i : S8192x1024.Idx) : G2 m c i = rows (lhs m c) (rhs m c) 12288 (i 0).val (i 1).val := by
  have hi0 : (i 0).val < 8192 := (i 0).isLt
  have hi1 : (i 1).val < 1024 := (i 1).isLt
  have hq : pt2Of i = 3 * (1 * ((i 0).val / 1024 - 0) + 1 * ((i 1).val / 1024 - 0)) + 2 := rfl
  have hp : pt2Of i < cfg0.N := by rw [show cfg0.N = 24 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_C m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term rows
  rw [y0, y1, hq]
  refine Finset.sum_congr (congrArg Finset.range (by omega)) fun k _ => congrArg₂ (· * ·) ?_ ?_
  · exact congrArg (at2 (lhs m c) · k) (by omega)
  · exact congrArg (at2 (rhs m c) · k) (by omega)

end Cert.Kernel7Ideal.Value

namespace Cert.Reference7Ideal.Read

open Cert.Reference7Ideal Cert.Reference7Ideal.Gen Idealize.ShloMosaic Idealize.ShloMosaic.TcCoe Idealize.ShloMosaic.ValueIdx
open Cert.Prod

/-- The reference's array at an entry: the same sum. -/
theorem final_apply (x1 : S1024x12288.Idx → EReal) (x2 : S8192x12288.Idx → EReal) (i : S8192x1024.Idx) :
    val_main_v5 (F := Ideal) x1 x2 i = rows x2 x1 12288 (i 0).val (i 1).val := by
  rw [val_main_v5_apply, val_main_v4_apply]
  exact sum_fin 12288 (fun k => at2 x2 (i 0).val k * at2 x1 (i 1).val k) _ fun k => congrArg₂ (· * ·) (at2_idx x2 _) (at2_idx x1 _)

end Cert.Reference7Ideal.Read

end
-- ==== Proof.Prod.K9.lean ====
/- The weight gradient of the merged branches' projection: what the kernel's array holds, entry by entry, and the reference's. -/
module

public import proofs.«01_k».proof.Proof.Prod.Sums
public import proofs.«01_k».proof.Proof.Gen.Kernel9Ideal.Value
public import proofs.«01_k».proof.Proof.Gen.Reference9Ideal.Read

@[expose] public section

noncomputable section

namespace Cert.Kernel9Ideal.Value

open Cert.Kernel9Ideal Cert.Kernel9Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec F S4096x1024 .bf16) (x1 : Vec F S4096x1024 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S4096x1024) hz]

/-- The last point of a run adds its partial product to the scratch, and writes the block from it. -/
theorem last_point (hc0 : ¬cond0_0 i) (hc1 : cond0_1 i) :
    sout0_B_0 c i a3 h3 a4 h4 a5 h5 a6 h6 hc0 hc1 x0 x1 xs = k0_pay2 x1 x0 xs
      ∧ out0_B_2 c i a3 h3 a4 h4 a5 h5 a6 h6 hc0 hc1 x0 x1 xs = k0_pay3 (k0_pay2 x1 x0 xs) := by
  unfold sout0_B_0 out0_B_2
  rw [View.read_writes_eq_canon _ _ _ (scover0_B_0 c i a3 h3 a4 h4 a5 h5 a6 h6 hc0 hc1 x0 x1 xs),
    View.read_writes_eq_canon _ _ _ (cover0_B_2 c i a3 h3 a4 h4 a5 h5 a6 h6 hc0 hc1 x0 x1 xs)]
  unfold kernelRun0_B; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S4096x1024) hz,
    View.ld_unit_zero (S := S1024x1024) hz, and_self]

end

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S8192x1024.Idx → EReal := m ((c.tc : Thread nD τ).loc main_arg2)

/-- Which blocks a point reads. -/
theorem places : ∀ t : Fin cfg0.N, win0_0.index t (0 : Fin 2) = t.val % 2 ∧ win0_0.index t (1 : Fin 2) = t.val / 2 / 1
    ∧ win0_1.index t (0 : Fin 2) = t.val % 2 ∧ win0_1.index t (1 : Fin 2) = t.val / 2 % 1 :=
  (by decide +kernel : ∀ t : Fin grid0.N, _)

/-- One term of the whole sum of a run: the run's block of the output and the term's place. -/
abbrev term (y : S1024x1024.Idx) (r k : ℕ) : EReal :=
  at2 (lhs m c) k (1024 * (r / 1) + (y 0).val) * at2 (rhs m c) k (1024 * (r % 1) + (y 1).val)

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 2) (4096 * (t.val % 2) + k) := by
  obtain ⟨e0, e1, e2, e3⟩ := places t
  unfold k0_pay2
  rw [shapeCast_self]
  refine congrArg (acc y + ·) ?_
  refine (matmul_cols (M := 1024) (K := 4096) (N := 1024) (φ₁ := .bf16) (φ₂ := .bf16)
    dot_S4096x1024_S4096x1024_S1024x1024_0_0_1_1_n_n.wf none (iblk m c 0 t) (iblk m c 1 t) (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 k _ (Finset.mem_range.mp hk) (y 0).isLt
  · exact at2_block (rhs m c) ((cfg0.win 1).blk t).view.emb _ _ (fun _ => rfl) (fun _ => rfl) e2 e3 k _ (Finset.mem_range.mp hk) (y 1).isLt

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 2) + 4096), term m c y (n / 2) k := by
  refine run_sum cfg0.N 2 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · rw [outsAt0_B m c ⟨n + 1, hn⟩ h (by dsimp only; omega)]
    dsimp only
    rw [(last_point c _ _ _ _ _ _ _ _ _ _ _ _ _ _).1, step_apply]
    rfl

/-- The array after the run, at an entry: the whole sum. -/
theorem final_apply (i : S1024x1024.Idx) : G2 m c i = cols (lhs m c) (rhs m c) 8192 (i 0).val (i 1).val := by
  have hi0 : (i 0).val < 1024 := (i 0).isLt
  have hi1 : (i 1).val < 1024 := (i 1).isLt
  have hq : pt2Of i = 2 * (1 * ((i 0).val / 1024 - 0) + 1 * ((i 1).val / 1024 - 0)) + 1 := rfl
  have hp : pt2Of i < cfg0.N := by rw [show cfg0.N = 2 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_B m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term cols
  rw [y0, y1, hq]
  refine Finset.sum_congr (congrArg Finset.range (by omega)) fun k _ => congrArg₂ (· * ·) ?_ ?_
  · exact congrArg (at2 (lhs m c) k) (by omega)
  · exact congrArg (at2 (rhs m c) k) (by omega)

end Cert.Kernel9Ideal.Value

namespace Cert.Reference9Ideal.Read

open Cert.Reference9Ideal Cert.Reference9Ideal.Gen Idealize.ShloMosaic Idealize.ShloMosaic.TcCoe Idealize.ShloMosaic.ValueIdx
open Cert.Prod

/-- The reference's array at an entry: the same sum. -/
theorem final_apply (x0 : S8192x1024.Idx → EReal) (x2 : S8192x1024.Idx → EReal) (i : S1024x1024.Idx) :
    val_main_v6 (F := Ideal) x0 x2 i = cols x0 x2 8192 (i 0).val (i 1).val := by
  rw [val_main_v6_apply, val_main_v5_apply, val_main_v4_apply]
  refine sum_fin 8192 (fun k => at2 x0 k (i 0).val * at2 x2 k (i 1).val) _ fun k => ?_
  rw [mul_comm]
  exact congrArg₂ (· * ·) (at2_idx x0 _) (at2_idx x2 _)

end Cert.Reference9Ideal.Read

end
-- ==== Proof.Prod.K10.lean ====
/- The input gradient of the merged branches' projection: what the kernel's array holds, entry by entry, and the reference's. -/
module

public import proofs.«01_k».proof.Proof.Prod.Sums
public import proofs.«01_k».proof.Proof.Gen.Kernel10Ideal.Value
public import Idealize.ShloMosaic.Lib.Pipeline.ValueKit.Geometry
public import proofs.«01_k».proof.Proof.Gen.Reference10Ideal.Read

@[expose] public section

noncomputable section

namespace Cert.Kernel10Ideal.Value

open Cert.Kernel10Ideal Cert.Kernel10Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x1024.Idx → EReal := m ((c.tc : Thread nD τ).loc main_arg2)
/-- The right operand of the product. -/
abbrev rhs : S1024x1024.Idx → EReal := m ((c.tc : Thread nD τ).loc main_arg1)

/-- What the array holds after the run. -/
abbrev G (i : S8192x1024.Idx) : EReal := rows (lhs m c) (rhs m c) 1024 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S2048x1024) hz, View.ld_unit_zero (S := S1024x1024) hz]

/-- The product of a point's blocks is the point's block of the array. -/
theorem point_apply (t : Fin cfg0.N) (y : S2048x1024.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 2048 + 1 * (y 0).val := rfl
  have hy1 : (((cfg0.win 2).blk t).view.emb y 1).val = win0_2.index t (1 : Fin 2) * 1024 + 1 * (y 1).val := rfl
  rw [point_out]
  unfold k0_pay1
  refine (matmul_rows (M := 2048) (K := 1024) (N := 1024) (φ₁ := .bf16) (φ₂ := .bf16) none (iblk m c 0 t) (iblk m c 1 t)
    (constant S2048x1024 .f32 0x00000000#32) y).trans ?_
  show Ideal.ofBits .f32 0x00000000#32 + _ = _
  rw [Ideal.ofBits_zero_f32, zero_add]
  refine (rows_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel10Ideal.Value

namespace Cert.Reference10Ideal.Read

open Cert.Reference10Ideal Cert.Reference10Ideal.Gen Idealize.ShloMosaic Idealize.ShloMosaic.TcCoe Idealize.ShloMosaic.ValueIdx
open Cert.Prod

/-- The reference's array at an entry: the same sum. -/
theorem final_apply (x1 : S1024x1024.Idx → EReal) (x2 : S8192x1024.Idx → EReal) (i : S8192x1024.Idx) :
    val_main_v5 (F := Ideal) x1 x2 i = rows x2 x1 1024 (i 0).val (i 1).val := by
  rw [val_main_v5_apply, val_main_v4_apply]
  exact sum_fin 1024 (fun k => at2 x2 (i 0).val k * at2 x1 (i 1).val k) _ fun k => congrArg₂ (· * ·) (at2_idx x2 _) (at2_idx x1 _)

end Cert.Reference10Ideal.Read

end
-- ==== Proof.Prod.K11.lean ====
/- The weight gradient of a branch's output projection: what the kernel's array holds, entry by entry, and the reference's. -/
module

public import proofs.«01_k».proof.Proof.Prod.Sums
public import proofs.«01_k».proof.Proof.Gen.Kernel11Ideal.Value
public import proofs.«01_k».proof.Proof.Gen.Reference11Ideal.Read

@[expose] public section

noncomputable section

namespace Cert.Kernel11Ideal.Value

open Cert.Kernel11Ideal Cert.Kernel11Ideal.Gen Idealize.ShloMosaic Idealize.ShloMosaic.TcCoe Idealize.ShloMosaic.ValueIdx Idealize.SL.Sem
open Cert.Prod
open Idealize.ShloMosaic.Pipeline (Dat)
open scoped BigOperators

section
variable {F : FTy → Type} [FloatOps F] (c : Dev nD) (i : grid0.Coords)
  (a3 : Memref sig .tc .vmem S4096x1024 .bf16) (h3 : a3.IsWhole) (a4 : Memref sig .tc .vmem S4096x1024 .bf16) (h4 : a4.IsWhole)
  (a5 : Memref sig .tc .vmem S1024x1024 .bf16) (h5 : a5.IsWhole) (a6 : Memref sig .tc .vmem S1024x1024 .f32) (h6 : a6.IsWhole)
  (x0 : Vec F S4096x1024 .bf16) (x1 : Vec F S4096x1024 .bf16) (xs : Vec F S1024x1024 .f32)

/-- The first point of a run leaves the first partial product in the scratch. -/
theorem first_scratch (hc0 : cond0_0 i) (hc1 : ¬cond0_1 i) :
    sout0_A_0 c i a3 h3 a4 h4 a5 h5 a6 h6 hc0 hc1 x0 x1 = k0_pay2 x1 x0 k0_pay1 := by
  unfold sout0_A_0
  rw [View.read_writes_eq_canon _ _ _ (scover0_A_0 c i a3 h3 a4 h4 a5 h5 a6 h6 hc0 hc1 x0 x1)]
  unfold kernelRun0_A; dsimp only
  sl_unfold_words
  rw [View.canon_cons_unit_zero (S := S1024x1024) hz, View.readCov_unit_zero (S := S1024x1024) _ hz]
  simp only [View.readAt_eq_ld, h3.read_unread, h4.read_unread, View.ld_unit_zero (S := S4096x1024) hz]

/-- The last point of a run adds its partial product to the scratch, and writes the block from it. -/
theorem last_point (hc0 : ¬cond0_0 i) (hc1 : cond0_1 i) :
    sout0_B_0 c i a3 h3 a4 h4 a5 h5 a6 h6 hc0 hc1 x0 x1 xs = k0_pay2 x1 x0 xs
      ∧ out0_B_2 c i a3 h3 a4 h4 a5 h5 a6 h6 hc0 hc1 x0 x1 xs = k0_pay3 (k0_pay2 x1 x0 xs) := by
  unfold sout0_B_0 out0_B_2
  rw [View.read_writes_eq_canon _ _ _ (scover0_B_0 c i a3 h3 a4 h4 a5 h5 a6 h6 hc0 hc1 x0 x1 xs),
    View.read_writes_eq_canon _ _ _ (cover0_B_2 c i a3 h3 a4 h4 a5 h5 a6 h6 hc0 hc1 x0 x1 xs)]
  unfold kernelRun0_B; dsimp only
  sl_unfold_words
  rw [View.canon_unit_zero hz, View.canon_unit_zero hz, View.readCov_unit_zero (S := S1024x1024) _ hz]
  simp only [View.readAt_eq_ld, h3.read_unread, h4.read_unread, h6.read_unread, View.ld_unit_zero (S := S4096x1024) hz,
    View.ld_unit_zero (S := S1024x1024) hz, and_self]

end

variable (m : (ℓ : Loc nD τ sig) → Buf (Elt Ideal) ℓ) (c : Dev nD)

/-- The left operand of the product. -/
abbrev lhs : S8192x2048.Idx → EReal := m ((c.tc : Thread nD τ).loc main_arg0)
/-- The right operand of the product. -/
abbrev rhs : S8192x1024.Idx → EReal := m ((c.tc : Thread nD τ).loc main_arg2)

/-- Which blocks a point reads. -/
theorem places : ∀ t : Fin cfg0.N, win0_0.index t (0 : Fin 2) = t.val % 2 ∧ win0_0.index t (1 : Fin 2) = t.val / 2 / 1
    ∧ win0_1.index t (0 : Fin 2) = t.val % 2 ∧ win0_1.index t (1 : Fin 2) = t.val / 2 % 1 :=
  (by decide +kernel : ∀ t : Fin grid0.N, _)

/-- One term of the whole sum of a run: the run's block of the output and the term's place. -/
abbrev term (y : S1024x1024.Idx) (r k : ℕ) : EReal :=
  at2 (lhs m c) k (1024 * (r / 1) + (y 0).val) * at2 (rhs m c) k (1024 * (r % 1) + (y 1).val)

/-- A point adds its terms to what was there. -/
theorem step_apply (t : Fin cfg0.N) (acc : Vec Ideal S1024x1024 .f32) (y : S1024x1024.Idx) :
    k0_pay2 (iblk m c 1 t) (iblk m c 0 t) acc y
      = acc y + ∑ k ∈ Finset.range 4096, term m c y (t.val / 2) (4096 * (t.val % 2) + k) := by
  obtain ⟨e0, e1, e2, e3⟩ := places t
  unfold k0_pay2
  rw [shapeCast_self]
  refine congrArg (acc y + ·) ?_
  refine (matmul_cols (M := 1024) (K := 4096) (N := 1024) (φ₁ := .bf16) (φ₂ := .bf16)
    dot_S4096x1024_S4096x1024_S1024x1024_0_0_1_1_n_n.wf none (iblk m c 0 t) (iblk m c 1 t) (constant S1024x1024 .f32 0x00000000#32) y).trans ?_
  show Ideal.ofBits .f32 0x00000000#32 + _ = _
  rw [Ideal.ofBits_zero_f32, zero_add]
  refine Finset.sum_congr rfl fun k hk => congrArg₂ (· * ·) ?_ ?_
  · exact at2_block (lhs m c) ((cfg0.win 0).blk t).view.emb _ _ (fun _ => rfl) (fun _ => rfl) e0 e1 k _ (Finset.mem_range.mp hk) (y 0).isLt
  · exact at2_block (rhs m c) ((cfg0.win 1).blk t).view.emb _ _ (fun _ => rfl) (fun _ => rfl) e2 e3 k _ (Finset.mem_range.mp hk) (y 1).isLt

/-- The scratch starts at zero. -/
theorem zero_apply (y : S1024x1024.Idx) : (k0_pay1 : FVec Ideal S1024x1024 .f32) y = 0 := by
  unfold k0_pay1
  rw [shapeCast_self]
  exact Ideal.ofBits_zero_f32

/-- The scratch after each point: the sum over the places of the points of its run so far. -/
theorem scratch_apply (y : S1024x1024.Idx) : ∀ (n : ℕ) (hn : n < cfg0.N),
    (outsAt0 m c n hn).2 y = ∑ k ∈ Finset.range (4096 * (n % 2) + 4096), term m c y (n / 2) k := by
  refine run_sum cfg0.N 2 4096 (fun n hn => (outsAt0 m c n hn).2 y) (term m c y) (fun n hn h => ?_) fun n hn h => ?_
  · rw [outsAt0_A m c ⟨n, hn⟩ h (by dsimp only; omega)]
    dsimp only
    rw [first_scratch, step_apply, zero_apply, zero_add]
  · rw [outsAt0_B m c ⟨n + 1, hn⟩ h (by dsimp only; omega)]
    dsimp only
    rw [(last_point c _ _ _ _ _ _ _ _ _ _ _ _ _ _).1, step_apply]
    rfl

/-- The array after the run, at an entry: the whole sum. -/
theorem final_apply (i : S2048x1024.Idx) : G2 m c i = cols (lhs m c) (rhs m c) 8192 (i 0).val (i 1).val := by
  have hi0 : (i 0).val < 2048 := (i 0).isLt
  have hi1 : (i 1).val < 1024 := (i 1).isLt
  have hq : pt2Of i = 2 * (1 * ((i 0).val / 1024 - 0) + 1 * ((i 1).val / 1024 - 0)) + 1 := rfl
  have hp : pt2Of i < cfg0.N := by rw [show cfg0.N = 4 from N_0, hq]; omega
  have y0 : (loc2Of i 0).val = (i 0).val % 1024 := rfl
  have y1 : (loc2Of i 1).val = (i 1).val % 1024 := rfl
  unfold G2
  rw [dif_pos hp, ← outsAt0_sweep m c (pt2Of i) hp]
  have e : (outsAt0 m c (pt2Of i) hp).1 (loc2Of i) = (outsAt0 m c (pt2Of i) hp).2 (loc2Of i) := by
    rw [outsAt0_B m c ⟨pt2Of i, hp⟩ (by dsimp only; omega) (by dsimp only; omega)]
    dsimp only
    rw [(last_point c _ _ _ _ _ _ _ _ _ _ _ _ _ _).1, (last_point c _ _ _ _ _ _ _ _ _ _ _ _ _ _).2]
    rfl
  refine e.trans ((scratch_apply m c _ _ hp).trans ?_)
  unfold term cols
  rw [y0, y1, hq]
  refine Finset.sum_congr (congrArg Finset.range (by omega)) fun k _ => congrArg₂ (· * ·) ?_ ?_
  · exact congrArg (at2 (lhs m c) k) (by omega)
  · exact congrArg (at2 (rhs m c) k) (by omega)

end Cert.Kernel11Ideal.Value

namespace Cert.Reference11Ideal.Read

open Cert.Reference11Ideal Cert.Reference11Ideal.Gen Idealize.ShloMosaic Idealize.ShloMosaic.TcCoe Idealize.ShloMosaic.ValueIdx
open Cert.Prod

/-- The reference's array at an entry: the same sum. -/
theorem final_apply (x0 : S8192x2048.Idx → EReal) (x2 : S8192x1024.Idx → EReal) (i : S2048x1024.Idx) :
    val_main_v6 (F := Ideal) x0 x2 i = cols x0 x2 8192 (i 0).val (i 1).val := by
  rw [val_main_v6_apply, val_main_v5_apply, val_main_v4_apply]
  refine sum_fin 8192 (fun k => at2 x0 k (i 0).val * at2 x2 k (i 1).val) _ fun k => ?_
  rw [mul_comm]
  exact congrArg₂ (· * ·) (at2_idx x0 _) (at2_idx x2 _)

end Cert.Reference11Ideal.Read

end
-- ==== Proof.Prod.K12.lean ====
/- The input gradient of a branch's output projection: what the kernel's array holds, entry by entry, and the reference's. -/
module

public import proofs.«01_k».proof.Proof.Prod.Sums
public import proofs.«01_k».proof.Proof.Gen.Kernel12Ideal.Value
public import Idealize.ShloMosaic.Lib.Pipeline.ValueKit.Geometry
public import proofs.«01_k».proof.Proof.Gen.Reference12Ideal.Read

@[expose] public section

noncomputable section

namespace Cert.Kernel12Ideal.Value

open Cert.Kernel12Ideal Cert.Kernel12Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x1024.Idx → EReal := m ((c.tc : Thread nD τ).loc main_arg2)
/-- The right operand of the product. -/
abbrev rhs : S2048x1024.Idx → EReal := m ((c.tc : Thread nD τ).loc main_arg1)

/-- What the array holds after the run. -/
abbrev G (i : S8192x2048.Idx) : EReal := rows (lhs m c) (rhs m c) 1024 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S2048x1024) hz]

/-- The product of a point's blocks is the point's block of the array. -/
theorem point_apply (t : Fin cfg0.N) (y : S2048x2048.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 2048 + 1 * (y 0).val := rfl
  have hy1 : (((cfg0.win 2).blk t).view.emb y 1).val = win0_2.index t (1 : Fin 2) * 2048 + 1 * (y 1).val := rfl
  rw [point_out]
  unfold k0_pay1
  refine (matmul_rows (M := 2048) (K := 1024) (N := 2048) (φ₁ := .bf16) (φ₂ := .bf16) none (iblk m c 0 t) (iblk m c 1 t)
    (constant S2048x2048 .f32 0x00000000#32) y).trans ?_
  show Ideal.ofBits .f32 0x00000000#32 + _ = _
  rw [Ideal.ofBits_zero_f32, zero_add]
  refine (rows_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel12Ideal.Value

namespace Cert.Reference12Ideal.Read

open Cert.Reference12Ideal Cert.Reference12Ideal.Gen Idealize.ShloMosaic Idealize.ShloMosaic.TcCoe Idealize.ShloMosaic.ValueIdx
open Cert.Prod

/-- The reference's array at an entry: the same sum. -/
theorem final_apply (x1 : S2048x1024.Idx → EReal) (x2 : S8192x1024.Idx → EReal) (i : S8192x2048.Idx) :
    val_main_v5 (F := Ideal) x1 x2 i = rows x2 x1 1024 (i 0).val (i 1).val := by
  rw [val_main_v5_apply, val_main_v4_apply]
  exact sum_fin 1024 (fun k => at2 x2 (i 0).val k * at2 x1 (i 1).val k) _ fun k => congrArg₂ (· * ·) (at2_idx x2 _) (at2_idx x1 _)

end Cert.Reference12Ideal.Read

end
-- ==== Proof.Prod.K13.lean ====
/- The MLP's input product and its squared rectifier: what the kernel's array holds, entry by entry, and the reference's. -/
module

public import proofs.«01_k».proof.Proof.Prod.Sums
public import proofs.«01_k».proof.Proof.Gen.Kernel13Ideal.Value
public import Idealize.ShloMosaic.Lib.Pipeline.ValueKit.Geometry
public import proofs.«01_k».proof.Proof.Gen.Reference13Ideal.Read

@[expose] public section

noncomputable section

namespace Cert.Kernel13Ideal.Value

open Cert.Kernel13Ideal Cert.Kernel13Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S1024x4096.Idx → EReal := m ((c.tc : Thread nD τ).loc main_arg1)

/-- The product. -/
abbrev G (i : S8192x4096.Idx) : EReal := rowcol (lhs m c) (rhs m c) 1024 (i 0).val (i 1).val

/-- Which blocks a point reads and writes. -/
theorem places : ∀ t : Fin cfg0.N, (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2)
    ∧ win0_3.index t (0 : Fin 2) = t.val / 2 ∧ win0_3.index t (1 : Fin 2) = t.val % 2 :=
  (by decide +kernel : ∀ t : Fin grid0.N, _)

/-- A point writes the product of its blocks, and its squared rectifier. -/
theorem point_out (t : Fin cfg0.N) : outsAt0 m c t = (k0_pay2 (iblk m c 1 t) (iblk m c 0 t), k0_pay3 (iblk m c 1 t) (iblk m c 0 t)) := by
  unfold outsAt0 out0_A_2 out0_A_3
  rw [View.read_writes_eq_canon _ _ _ (cover0_A_2 c (grid0.coords t) (ms0_0 t) (hs0_0 t) (ms0_1 t) (hs0_1 t) (ms0_2 t) (hs0_2 t)
      (ms0_3 t) (hs0_3 t) scM0_0 (Memref.isWhole_whole _) (hcond0_0 t) (iblk m c 0 t) (iblk m c 1 t)),
    View.read_writes_eq_canon _ _ _ (cover0_A_3 c (grid0.coords t) (ms0_0 t) (hs0_0 t) (ms0_1 t) (hs0_1 t) (ms0_2 t) (hs0_2 t)
      (ms0_3 t) (hs0_3 t) scM0_0 (Memref.isWhole_whole _) (hcond0_0 t) (iblk m c 0 t) (iblk m c 1 t))]
  unfold kernelRun0_A; dsimp only
  sl_unfold_words
  rw [View.canon_unit_zero hz, View.canon_unit_zero hz]
  simp only [View.readAt_eq_ld, (hs0_0 t).read_unread, (hs0_1 t).read_unread, View.ld_unit_zero (S := S1024x1024) hz,
    View.ld_unit_zero (S := S1024x2048) hz]

/-- The product of a point's blocks is the point's block of the product. -/
theorem point_apply (t : Fin cfg0.N) (y : S1024x2048.Idx) (i : S8192x4096.Idx) (h0 : (i 0).val = t.val / 2 * 1024 + 1 * (y 0).val)
    (h1 : (i 1).val = t.val % 2 * 2048 + 1 * (y 1).val) : k0_pay1 (iblk m c 1 t) (iblk m c 0 t) y = G m c i := by
  obtain ⟨⟨e0, e1⟩, ⟨e2, e3⟩, -, -⟩ := places t
  unfold k0_pay1
  refine (matmul_rowcol (M := 1024) (K := 1024) (N := 2048) (φ₁ := .bf16) (φ₂ := .bf16) none (iblk m c 0 t) (iblk m c 1 t)
    (constant S1024x2048 .f32 0x00000000#32) y).trans ?_
  show Ideal.ofBits .f32 0x00000000#32 + _ = _
  rw [Ideal.ofBits_zero_f32, zero_add]
  refine (rowcol_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [h0, h1]
  congr 1 <;> omega

/-- The first array after the run: the product. -/
theorem final2 : (dats m 0 c).arrAt 2 cfg0.N = G m c :=
  (dats m 0 c).arrAt_eq_of_covers 2 _ (by decide +kernel) fun t hf y => by
    obtain ⟨-, -, ⟨e4, e5⟩, -⟩ := places t
    show (dats m 0 c).after 2 t ((cfg0.win 2).xinj (grid0.coords t) y) = _
    rw [after0_2, point_out]
    refine point_apply m c t y _ (Eq.trans (b := win0_2.index t (0 : Fin 2) * 1024 + 1 * (y 0).val) rfl ?_)
      (Eq.trans (b := win0_2.index t (1 : Fin 2) * 2048 + 1 * (y 1).val) rfl ?_)
    · rw [e4]
    · rw [e5]

/-- The second array after the run: the square of what the rectifier keeps. -/
theorem final3 : (dats m 0 c).arrAt 3 cfg0.N = fun i => max (G m c i) 0 * max (G m c i) 0 :=
  (dats m 0 c).arrAt_eq_of_covers 3 _ (by decide +kernel) fun t hf y => by
    obtain ⟨-, -, -, e4, e5⟩ := places t
    show (dats m 0 c).after 3 t ((cfg0.win 3).xinj (grid0.coords t) y) = _
    rw [after0_3, point_out]
    have h := point_apply m c t y (((cfg0.win 3).blk t).view.emb y)
      (Eq.trans (b := win0_3.index t (0 : Fin 2) * 1024 + 1 * (y 0).val) rfl (by rw [e4]))
      (Eq.trans (b := win0_3.index t (1 : Fin 2) * 2048 + 1 * (y 1).val) rfl (by rw [e5]))
    show max (k0_pay1 (iblk m c 1 t) (iblk m c 0 t) y) (Ideal.ofBits .f32 0x00000000#32)
      * max (k0_pay1 (iblk m c 1 t) (iblk m c 0 t) y) (Ideal.ofBits .f32 0x00000000#32) = _
    rw [Ideal.ofBits_zero_f32, h]

end Cert.Kernel13Ideal.Value

namespace Cert.Reference13Ideal.Read

open Cert.Reference13Ideal Cert.Reference13Ideal.Gen Idealize.ShloMosaic Idealize.ShloMosaic.TcCoe Idealize.ShloMosaic.ValueIdx
open Cert.Prod

/-- The reference's product at an entry: the same sum. -/
theorem product (x0 : S8192x1024.Idx → EReal) (x1 : S1024x4096.Idx → EReal) (i : S8192x4096.Idx) :
    val_main_v2 (F := Ideal) x0 x1 i = rowcol x0 x1 1024 (i 0).val (i 1).val := by
  rw [val_main_v2_apply]
  exact sum_fin 1024 (fun k => at2 x0 (i 0).val k * at2 x1 k (i 1).val) _ fun k => congrArg₂ (· * ·) (at2_idx x0 _) (at2_idx x1 _)

/-- The reference's first array at an entry. -/
theorem final3 (x0 : S8192x1024.Idx → EReal) (x1 : S1024x4096.Idx → EReal) (i : S8192x4096.Idx) :
    val_main_v3 (F := Ideal) x0 x1 i = rowcol x0 x1 1024 (i 0).val (i 1).val := product x0 x1 i

/-- The reference's second array at an entry. -/
theorem final6 (x0 : S8192x1024.Idx → EReal) (x1 : S1024x4096.Idx → EReal) (i : S8192x4096.Idx) :
    val_main_v6 (F := Ideal) x0 x1 i
      = max (rowcol x0 x1 1024 (i 0).val (i 1).val) 0 * max (rowcol x0 x1 1024 (i 0).val (i 1).val) 0 := by
  rw [val_main_v6_apply, val_main_v5_apply, val_main_v4_apply, val_main_call0_v0_apply, val_main_call0_cst_apply, product]
  show max _ (Ideal.ofBits .f32 0x00000000#32) * max _ (Ideal.ofBits .f32 0x00000000#32) = _
  rw [Ideal.ofBits_zero_f32]

end Cert.Reference13Ideal.Read

end
-- ==== Proof.Prod.K14.lean ====
/- The MLP's output product: what the kernel's array holds, entry by entry, and the reference's. -/
module

public import proofs.«01_k».proof.Proof.Prod.Sums
public import proofs.«01_k».proof.Proof.Gen.Kernel14Ideal.Value
public import Idealize.ShloMosaic.Lib.Pipeline.ValueKit.Geometry
public import proofs.«01_k».proof.Proof.Gen.Reference14Ideal.Read

@[expose] public section

noncomputable section

namespace Cert.Kernel14Ideal.Value

open Cert.Kernel14Ideal Cert.Kernel14Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x4096.Idx → EReal := m ((c.tc : Thread nD τ).loc main_arg0)
/-- The right operand of the product. -/
abbrev rhs : S4096x1024.Idx → EReal := m ((c.tc : Thread nD τ).loc main_arg1)

/-- What the array holds after the run. -/
abbrev G (i : S8192x1024.Idx) : EReal := rowcol (lhs m c) (rhs m c) 4096 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S1024x4096) hz, View.ld_unit_zero (S := S4096x1024) hz]

/-- The product of a point's blocks is the point's block of the array. -/
theorem point_apply (t : Fin cfg0.N) (y : S1024x1024.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 1024 + 1 * (y 0).val := rfl
  have hy1 : (((cfg0.win 2).blk t).view.emb y 1).val = win0_2.index t (1 : Fin 2) * 1024 + 1 * (y 1).val := rfl
  rw [point_out]
  unfold k0_pay1
  refine (matmul_rowcol (M := 1024) (K := 4096) (N := 1024) (φ₁ := .bf16) (φ₂ := .bf16) none (iblk m c 0 t) (iblk m c 1 t)
    (constant S1024x1024 .f32 0x00000000#32) y).trans ?_
  show Ideal.ofBits .f32 0x00000000#32 + _ = _
  rw [Ideal.ofBits_zero_f32, zero_add]
  refine (rowcol_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel14Ideal.Value

namespace Cert.Reference14Ideal.Read

open Cert.Reference14Ideal Cert.Reference14Ideal.Gen Idealize.ShloMosaic Idealize.ShloMosaic.TcCoe Idealize.ShloMosaic.ValueIdx
open Cert.Prod

/-- The reference's array at an entry: the same sum. -/
theorem final_apply (x0 : S8192x4096.Idx → EReal) (x1 : S4096x1024.Idx → EReal) (i : S8192x1024.Idx) :
    val_main_v2 (F := Ideal) x0 x1 i = rowcol x0 x1 4096 (i 0).val (i 1).val := by
  rw [val_main_v2_apply]
  exact sum_fin 4096 (fun k => at2 x0 (i 0).val k * at2 x1 k (i 1).val) _ fun k => congrArg₂ (· * ·) (at2_idx x0 _) (at2_idx x1 _)

end Cert.Reference14Ideal.Read

end
-- ==== Proof.Prod.K16.lean ====
/- A branch's output projection: what the kernel's array holds, entry by entry, and the reference's. -/
module

public import proofs.«01_k».proof.Proof.Prod.Sums
public import proofs.«01_k».proof.Proof.Gen.Kernel16Ideal.Value
public import Idealize.ShloMosaic.Lib.Pipeline.ValueKit.Geometry
public import proofs.«01_k».proof.Proof.Gen.Reference16Ideal.Read

@[expose] public section

noncomputable section

namespace Cert.Kernel16Ideal.Value

open Cert.Kernel16Ideal Cert.Kernel16Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x2048.Idx → EReal := m ((c.tc : Thread nD τ).loc main_arg0)
/-- The right operand of the product. -/
abbrev rhs : S2048x1024.Idx → EReal := m ((c.tc : Thread nD τ).loc main_arg1)

/-- What the array holds after the run. -/
abbrev G (i : S8192x1024.Idx) : EReal := rowcol (lhs m c) (rhs m c) 2048 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S2048x2048) hz, View.ld_unit_zero (S := S2048x1024) hz]

/-- The product of a point's blocks is the point's block of the array. -/
theorem point_apply (t : Fin cfg0.N) (y : S2048x1024.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 2048 + 1 * (y 0).val := rfl
  have hy1 : (((cfg0.win 2).blk t).view.emb y 1).val = win0_2.index t (1 : Fin 2) * 1024 + 1 * (y 1).val := rfl
  rw [point_out]
  unfold k0_pay1
  refine (matmul_rowcol (M := 2048) (K := 2048) (N := 1024) (φ₁ := .bf16) (φ₂ := .bf16) none (iblk m c 0 t) (iblk m c 1 t)
    (constant S2048x1024 .f32 0x00000000#32) y).trans ?_
  show Ideal.ofBits .f32 0x00000000#32 + _ = _
  rw [Ideal.ofBits_zero_f32, zero_add]
  refine (rowcol_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel16Ideal.Value

namespace Cert.Reference16Ideal.Read

open Cert.Reference16Ideal Cert.Reference16Ideal.Gen Idealize.ShloMosaic Idealize.ShloMosaic.TcCoe Idealize.ShloMosaic.ValueIdx
open Cert.Prod

/-- The reference's array at an entry: the same sum. -/
theorem final_apply (x0 : S8192x2048.Idx → EReal) (x1 : S2048x1024.Idx → EReal) (i : S8192x1024.Idx) :
    val_main_v2 (F := Ideal) x0 x1 i = rowcol x0 x1 2048 (i 0).val (i 1).val := by
  rw [val_main_v2_apply]
  exact sum_fin 2048 (fun k => at2 x0 (i 0).val k * at2 x1 k (i 1).val) _ fun k => congrArg₂ (· * ·) (at2_idx x0 _) (at2_idx x1 _)

end Cert.Reference16Ideal.Read

end
-- ==== Proof.Prod.K17.lean ====
/- The merged branches' projection: what the kernel's array holds, entry by entry, and the reference's. -/
module

public import proofs.«01_k».proof.Proof.Prod.Sums
public import proofs.«01_k».proof.Proof.Gen.Kernel17Ideal.Value
public import Idealize.ShloMosaic.Lib.Pipeline.ValueKit.Geometry
public import proofs.«01_k».proof.Proof.Gen.Reference17Ideal.Read

@[expose] public section

noncomputable section

namespace Cert.Kernel17Ideal.Value

open Cert.Kernel17Ideal Cert.Kernel17Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S1024x1024.Idx → EReal := m ((c.tc : Thread nD τ).loc main_arg1)

/-- What the array holds after the run. -/
abbrev G (i : S8192x1024.Idx) : EReal := rowcol (lhs m c) (rhs m c) 1024 (i 0).val (i 1).val

/-- Which blocks a point reads and writes. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ win0_2.index t (0 : Fin 2) = t.val ∧ win0_2.index t (1 : Fin 2) = 0 :=
  (by decide +kernel : ∀ t : Fin grid0.N, _)

/-- A point writes the product of its blocks. -/
theorem point_out (t : Fin cfg0.N) : outsAt0 m c t = k0_pay1 (iblk m c 1 t) (iblk m c 0 t) := by
  unfold outsAt0 out0_A_2
  rw [View.read_writes_eq_canon _ _ _ (cover0_A_2 c (grid0.coords t) (ms0_0 t) (hs0_0 t) (ms0_1 t) (hs0_1 t) (ms0_2 t) (hs0_2 t)
    scM0_0 (Memref.isWhole_whole _) (hcond0_0 t) (iblk m c 0 t) (iblk m c 1 t))]
  unfold kernelRun0_A; dsimp only
  sl_unfold_words
  rw [View.canon_unit_zero hz]
  simp only [View.readAt_eq_ld, (hs0_0 t).read_unread, (hs0_1 t).read_unread, View.ld_unit_zero (S := S2048x1024) hz, View.ld_unit_zero (S := S1024x1024) hz]

/-- The product of a point's blocks is the point's block of the array. -/
theorem point_apply (t : Fin cfg0.N) (y : S2048x1024.Idx) : outsAt0 m c t y = G m c (((cfg0.win 2).blk t).view.emb y) := by
  obtain ⟨⟨e0, e1⟩, ⟨e2, e3⟩, e4, e5⟩ := places t
  have hy0 : (((cfg0.win 2).blk t).view.emb y 0).val = win0_2.index t (0 : Fin 2) * 2048 + 1 * (y 0).val := rfl
  have hy1 : (((cfg0.win 2).blk t).view.emb y 1).val = win0_2.index t (1 : Fin 2) * 1024 + 1 * (y 1).val := rfl
  rw [point_out]
  unfold k0_pay1
  refine (matmul_rowcol (M := 2048) (K := 1024) (N := 1024) (φ₁ := .bf16) (φ₂ := .bf16) none (iblk m c 0 t) (iblk m c 1 t)
    (constant S2048x1024 .f32 0x00000000#32) y).trans ?_
  show Ideal.ofBits .f32 0x00000000#32 + _ = _
  rw [Ideal.ofBits_zero_f32, zero_add]
  refine (rowcol_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt).trans ?_
  unfold G
  rw [hy0, hy1, e4, e5]
  congr 1 <;> omega

/-- The array after the run. -/
theorem final : (dats m 0 c).arrAt 2 cfg0.N = G m c :=
  (dats m 0 c).arrAt_eq_of_covers 2 _ (by decide +kernel) fun t hf y => by
    show (dats m 0 c).after 2 t ((cfg0.win 2).xinj (grid0.coords t) y) = _
    rw [after0_2]
    exact point_apply m c t y

end Cert.Kernel17Ideal.Value

namespace Cert.Reference17Ideal.Read

open Cert.Reference17Ideal Cert.Reference17Ideal.Gen Idealize.ShloMosaic Idealize.ShloMosaic.TcCoe Idealize.ShloMosaic.ValueIdx
open Cert.Prod

/-- The reference's array at an entry: the same sum. -/
theorem final_apply (x0 : S8192x1024.Idx → EReal) (x1 : S1024x1024.Idx → EReal) (i : S8192x1024.Idx) :
    val_main_v2 (F := Ideal) x0 x1 i = rowcol x0 x1 1024 (i 0).val (i 1).val := by
  rw [val_main_v2_apply]
  exact sum_fin 1024 (fun k => at2 x0 (i 0).val k * at2 x1 k (i 1).val) _ fun k => congrArg₂ (· * ·) (at2_idx x0 _) (at2_idx x1 _)

end Cert.Reference17Ideal.Read

end
-- ==== Proof.Claims.Products.lean ====
/- What each product's kernel computes is what its reference computes. -/
module

public import proofs.«01_k».proof.Defs
public import proofs.«01_k».proof.Proof.Prod.K2
public import proofs.«01_k».proof.Proof.Prod.K3
public import proofs.«01_k».proof.Proof.Prod.K4
public import proofs.«01_k».proof.Proof.Prod.K5
public import proofs.«01_k».proof.Proof.Prod.K6
public import proofs.«01_k».proof.Proof.Prod.K7
public import proofs.«01_k».proof.Proof.Prod.K9
public import proofs.«01_k».proof.Proof.Prod.K10
public import proofs.«01_k».proof.Proof.Prod.K11
public import proofs.«01_k».proof.Proof.Prod.K12
public import proofs.«01_k».proof.Proof.Prod.K13
public import proofs.«01_k».proof.Proof.Prod.K14
public import proofs.«01_k».proof.Proof.Prod.K16
public import proofs.«01_k».proof.Proof.Prod.K17

@[expose] public section

noncomputable section

namespace Cert.Proof

open Idealize.ShloMosaic Idealize.SL.Sem

/-- The claim of the gradient through the squared rectifier. -/
theorem algebraic_2 : Cert.algebraic_Kernel2Ideal_Reference2Ideal (hKernel2Ideal := Cert.Kernel2Ideal.Gen.facts) (hReference2Ideal := Cert.Reference2Ideal.Gen.facts) :=
  fun m g m' g' _ ha => ⟨fun c => Cert.Kernel2Ideal.Value.G m c, (θ_run (Cert.Kernel2Ideal.defs (F := Ideal)) _ _).mono (fun r h c => ⟨(h c).1.trans (Cert.Kernel2Ideal.Value.final m c), (h c).2⟩)
      (Cert.Kernel2Ideal.Value.run_blocks m g),
    (θ_run (Cert.Reference2Ideal.defs (F := Ideal)) _ _).mono (fun r h c => ⟨(h c).1.trans (by
        rw [Cert.Reference2Ideal.Read.val_main_v15_eq, (ha c).1, (ha c).2.1, (ha c).2.2]
        exact funext fun i => Cert.Reference2Ideal.Read.final_apply _ _ _ i), (h c).2⟩) (Cert.Reference2Ideal.Value.run m' g')⟩

/-- The claim of the weight gradient of the MLP's output product. -/
theorem algebraic_3 : Cert.algebraic_Kernel3Ideal_Reference3Ideal (hKernel3Ideal := Cert.Kernel3Ideal.Gen.facts) (hReference3Ideal := Cert.Reference3Ideal.Gen.facts) :=
  fun m g m' g' _ ha => ⟨fun c => Cert.Kernel3Ideal.Value.G2 m c, Cert.Kernel3Ideal.Value.run m g,
    (θ_run (Cert.Reference3Ideal.defs (F := Ideal)) _ _).mono (fun r h c => ⟨(h c).1.trans (by
        rw [Cert.Reference3Ideal.Read.val_main_v6_eq, (ha c).1, (ha c).2.2]
        exact funext fun i => (Cert.Reference3Ideal.Read.final_apply _ _ i).trans (Cert.Kernel3Ideal.Value.final_apply m c i).symm), (h c).2⟩) (Cert.Reference3Ideal.Value.run m' g')⟩

/-- The claim of the weight gradient of the MLP's input product. -/
theorem algebraic_4 : Cert.algebraic_Kernel4Ideal_Reference4Ideal (hKernel4Ideal := Cert.Kernel4Ideal.Gen.facts) (hReference4Ideal := Cert.Reference4Ideal.Gen.facts) :=
  fun m g m' g' _ ha => ⟨fun c => Cert.Kernel4Ideal.Value.G2 m c, Cert.Kernel4Ideal.Value.run m g,
    (θ_run (Cert.Reference4Ideal.defs (F := Ideal)) _ _).mono (fun r h c => ⟨(h c).1.trans (by
        rw [Cert.Reference4Ideal.Read.val_main_v6_eq, (ha c).1, (ha c).2.2]
        exact funext fun i => (Cert.Reference4Ideal.Read.final_apply _ _ i).trans (Cert.Kernel4Ideal.Value.final_apply m c i).symm), (h c).2⟩) (Cert.Reference4Ideal.Value.run m' g')⟩

/-- The claim of the input gradient of the MLP's input product. -/
theorem algebraic_5 : Cert.algebraic_Kernel5Ideal_Reference5Ideal (hKernel5Ideal := Cert.Kernel5Ideal.Gen.facts) (hReference5Ideal := Cert.Reference5Ideal.Gen.facts) :=
  fun m g m' g' _ ha => ⟨fun c => Cert.Kernel5Ideal.Value.G m c, (θ_run (Cert.Kernel5Ideal.defs (F := Ideal)) _ _).mono (fun r h c => ⟨(h c).1.trans (Cert.Kernel5Ideal.Value.final m c), (h c).2⟩)
      (Cert.Kernel5Ideal.Value.run_blocks m g),
    (θ_run (Cert.Reference5Ideal.defs (F := Ideal)) _ _).mono (fun r h c => ⟨(h c).1.trans (by
        rw [Cert.Reference5Ideal.Read.val_main_v5_eq, (ha c).2.1, (ha c).2.2]
        exact funext fun i => Cert.Reference5Ideal.Read.final_apply _ _ i), (h c).2⟩) (Cert.Reference5Ideal.Value.run m' g')⟩

/-- The claim of the weight gradient of the input projection. -/
theorem algebraic_6 : Cert.algebraic_Kernel6Ideal_Reference6Ideal (hKernel6Ideal := Cert.Kernel6Ideal.Gen.facts) (hReference6Ideal := Cert.Reference6Ideal.Gen.facts) :=
  fun m g m' g' _ ha => ⟨fun c => Cert.Kernel6Ideal.Value.G2 m c, Cert.Kernel6Ideal.Value.run m g,
    (θ_run (Cert.Reference6Ideal.defs (F := Ideal)) _ _).mono (fun r h c => ⟨(h c).1.trans (by
        rw [Cert.Reference6Ideal.Read.val_main_v6_eq, (ha c).1, (ha c).2.2]
        exact funext fun i => (Cert.Reference6Ideal.Read.final_apply _ _ i).trans (Cert.Kernel6Ideal.Value.final_apply m c i).symm), (h c).2⟩) (Cert.Reference6Ideal.Value.run m' g')⟩

/-- The claim of the input gradient of the input projection. -/
theorem algebraic_7 : Cert.algebraic_Kernel7Ideal_Reference7Ideal (hKernel7Ideal := Cert.Kernel7Ideal.Gen.facts) (hReference7Ideal := Cert.Reference7Ideal.Gen.facts) :=
  fun m g m' g' _ ha => ⟨fun c => Cert.Kernel7Ideal.Value.G2 m c, Cert.Kernel7Ideal.Value.run m g,
    (θ_run (Cert.Reference7Ideal.defs (F := Ideal)) _ _).mono (fun r h c => ⟨(h c).1.trans (by
        rw [Cert.Reference7Ideal.Read.val_main_v5_eq, (ha c).2.1, (ha c).2.2]
        exact funext fun i => (Cert.Reference7Ideal.Read.final_apply _ _ i).trans (Cert.Kernel7Ideal.Value.final_apply m c i).symm), (h c).2⟩) (Cert.Reference7Ideal.Value.run m' g')⟩

/-- The claim of the weight gradient of the merged branches' projection. -/
theorem algebraic_9 : Cert.algebraic_Kernel9Ideal_Reference9Ideal (hKernel9Ideal := Cert.Kernel9Ideal.Gen.facts) (hReference9Ideal := Cert.Reference9Ideal.Gen.facts) :=
  fun m g m' g' _ ha => ⟨fun c => Cert.Kernel9Ideal.Value.G2 m c, Cert.Kernel9Ideal.Value.run m g,
    (θ_run (Cert.Reference9Ideal.defs (F := Ideal)) _ _).mono (fun r h c => ⟨(h c).1.trans (by
        rw [Cert.Reference9Ideal.Read.val_main_v6_eq, (ha c).1, (ha c).2.2]
        exact funext fun i => (Cert.Reference9Ideal.Read.final_apply _ _ i).trans (Cert.Kernel9Ideal.Value.final_apply m c i).symm), (h c).2⟩) (Cert.Reference9Ideal.Value.run m' g')⟩

/-- The claim of the input gradient of the merged branches' projection. -/
theorem algebraic_10 : Cert.algebraic_Kernel10Ideal_Reference10Ideal (hKernel10Ideal := Cert.Kernel10Ideal.Gen.facts) (hReference10Ideal := Cert.Reference10Ideal.Gen.facts) :=
  fun m g m' g' _ ha => ⟨fun c => Cert.Kernel10Ideal.Value.G m c, (θ_run (Cert.Kernel10Ideal.defs (F := Ideal)) _ _).mono (fun r h c => ⟨(h c).1.trans (Cert.Kernel10Ideal.Value.final m c), (h c).2⟩)
      (Cert.Kernel10Ideal.Value.run_blocks m g),
    (θ_run (Cert.Reference10Ideal.defs (F := Ideal)) _ _).mono (fun r h c => ⟨(h c).1.trans (by
        rw [Cert.Reference10Ideal.Read.val_main_v5_eq, (ha c).2.1, (ha c).2.2]
        exact funext fun i => Cert.Reference10Ideal.Read.final_apply _ _ i), (h c).2⟩) (Cert.Reference10Ideal.Value.run m' g')⟩

/-- The claim of the weight gradient of the scan's output projection. -/
theorem algebraic_11 : Cert.algebraic_Kernel11Ideal_Reference11Ideal (hKernel11Ideal := Cert.Kernel11Ideal.Gen.facts) (hReference11Ideal := Cert.Reference11Ideal.Gen.facts) :=
  fun m g m' g' _ ha => ⟨fun c => Cert.Kernel11Ideal.Value.G2 m c, Cert.Kernel11Ideal.Value.run m g,
    (θ_run (Cert.Reference11Ideal.defs (F := Ideal)) _ _).mono (fun r h c => ⟨(h c).1.trans (by
        rw [Cert.Reference11Ideal.Read.val_main_v6_eq, (ha c).1, (ha c).2.2]
        exact funext fun i => (Cert.Reference11Ideal.Read.final_apply _ _ i).trans (Cert.Kernel11Ideal.Value.final_apply m c i).symm), (h c).2⟩) (Cert.Reference11Ideal.Value.run m' g')⟩

/-- The claim of the input gradient of the scan's output projection. -/
theorem algebraic_12 : Cert.algebraic_Kernel12Ideal_Reference12Ideal (hKernel12Ideal := Cert.Kernel12Ideal.Gen.facts) (hReference12Ideal := Cert.Reference12Ideal.Gen.facts) :=
  fun m g m' g' _ ha => ⟨fun c => Cert.Kernel12Ideal.Value.G m c, (θ_run (Cert.Kernel12Ideal.defs (F := Ideal)) _ _).mono (fun r h c => ⟨(h c).1.trans (Cert.Kernel12Ideal.Value.final m c), (h c).2⟩)
      (Cert.Kernel12Ideal.Value.run_blocks m g),
    (θ_run (Cert.Reference12Ideal.defs (F := Ideal)) _ _).mono (fun r h c => ⟨(h c).1.trans (by
        rw [Cert.Reference12Ideal.Read.val_main_v5_eq, (ha c).2.1, (ha c).2.2]
        exact funext fun i => Cert.Reference12Ideal.Read.final_apply _ _ i), (h c).2⟩) (Cert.Reference12Ideal.Value.run m' g')⟩

/-- The claim of the MLP's input product and its squared rectifier. -/
theorem algebraic_13 : Cert.algebraic_Kernel13Ideal_Reference13Ideal (hKernel13Ideal := Cert.Kernel13Ideal.Gen.facts) (hReference13Ideal := Cert.Reference13Ideal.Gen.facts) :=
  fun m g m' g' _ ha => ⟨fun c => Cert.Kernel13Ideal.Value.G m c, fun c i => max (Cert.Kernel13Ideal.Value.G m c i) 0 * max (Cert.Kernel13Ideal.Value.G m c i) 0,
    (θ_run (Cert.Kernel13Ideal.defs (F := Ideal)) _ _).mono (fun r h c => ⟨(h c).1.trans (Cert.Kernel13Ideal.Value.final2 m c),
      (h c).2.1.trans (Cert.Kernel13Ideal.Value.final3 m c), (h c).2.2⟩) (Cert.Kernel13Ideal.Value.run_blocks m g),
    (θ_run (Cert.Reference13Ideal.defs (F := Ideal)) _ _).mono (fun r h c => ⟨(h c).1.trans (by
        rw [Cert.Reference13Ideal.Read.val_main_v3_eq, (ha c).1, (ha c).2]
        exact funext fun i => Cert.Reference13Ideal.Read.final3 _ _ i), (h c).2.1.trans (by
        rw [Cert.Reference13Ideal.Read.val_main_v6_eq, (ha c).1, (ha c).2]
        exact funext fun i => Cert.Reference13Ideal.Read.final6 _ _ i), (h c).2.2⟩) (Cert.Reference13Ideal.Value.run m' g')⟩

/-- The claim of the MLP's output product. -/
theorem algebraic_14 : Cert.algebraic_Kernel14Ideal_Reference14Ideal (hKernel14Ideal := Cert.Kernel14Ideal.Gen.facts) (hReference14Ideal := Cert.Reference14Ideal.Gen.facts) :=
  fun m g m' g' _ ha => ⟨fun c => Cert.Kernel14Ideal.Value.G m c, (θ_run (Cert.Kernel14Ideal.defs (F := Ideal)) _ _).mono (fun r h c => ⟨(h c).1.trans (Cert.Kernel14Ideal.Value.final m c), (h c).2⟩)
      (Cert.Kernel14Ideal.Value.run_blocks m g),
    (θ_run (Cert.Reference14Ideal.defs (F := Ideal)) _ _).mono (fun r h c => ⟨(h c).1.trans (by
        rw [Cert.Reference14Ideal.Read.val_main_v2_eq, (ha c).1, (ha c).2]
        exact funext fun i => Cert.Reference14Ideal.Read.final_apply _ _ i), (h c).2⟩) (Cert.Reference14Ideal.Value.run m' g')⟩

/-- The claim of the scan's output projection. -/
theorem algebraic_16 : Cert.algebraic_Kernel16Ideal_Reference16Ideal (hKernel16Ideal := Cert.Kernel16Ideal.Gen.facts) (hReference16Ideal := Cert.Reference16Ideal.Gen.facts) :=
  fun m g m' g' _ ha => ⟨fun c => Cert.Kernel16Ideal.Value.G m c, (θ_run (Cert.Kernel16Ideal.defs (F := Ideal)) _ _).mono (fun r h c => ⟨(h c).1.trans (Cert.Kernel16Ideal.Value.final m c), (h c).2⟩)
      (Cert.Kernel16Ideal.Value.run_blocks m g),
    (θ_run (Cert.Reference16Ideal.defs (F := Ideal)) _ _).mono (fun r h c => ⟨(h c).1.trans (by
        rw [Cert.Reference16Ideal.Read.val_main_v2_eq, (ha c).1, (ha c).2]
        exact funext fun i => Cert.Reference16Ideal.Read.final_apply _ _ i), (h c).2⟩) (Cert.Reference16Ideal.Value.run m' g')⟩

/-- The claim of the merged branches' projection. -/
theorem algebraic_17 : Cert.algebraic_Kernel17Ideal_Reference17Ideal (hKernel17Ideal := Cert.Kernel17Ideal.Gen.facts) (hReference17Ideal := Cert.Reference17Ideal.Gen.facts) :=
  fun m g m' g' _ ha => ⟨fun c => Cert.Kernel17Ideal.Value.G m c, (θ_run (Cert.Kernel17Ideal.defs (F := Ideal)) _ _).mono (fun r h c => ⟨(h c).1.trans (Cert.Kernel17Ideal.Value.final m c), (h c).2⟩)
      (Cert.Kernel17Ideal.Value.run_blocks m g),
    (θ_run (Cert.Reference17Ideal.defs (F := Ideal)) _ _).mono (fun r h c => ⟨(h c).1.trans (by
        rw [Cert.Reference17Ideal.Read.val_main_v2_eq, (ha c).1, (ha c).2]
        exact funext fun i => Cert.Reference17Ideal.Read.final_apply _ _ i), (h c).2⟩) (Cert.Reference17Ideal.Value.run m' g')⟩

end Cert.Proof

end
-- ==== Proof.Prod.F15.lean ====
/- The input projection's kernel: its body at a point, what its staging buffers hold, and its run. -/
module

public import proofs.«01_k».proof.Proof.Prod.Sums
public import proofs.«01_k».proof.Proof.Gen.Kernel15Ideal.Frame
public import proofs.«01_k».proof.Proof.Gen.Kernel15Ideal.Skeleton
public import Idealize.ShloMosaic.Lib.Pipeline.TableIdle
public import Idealize.ShloMosaic.Lib.Pipeline.ValueKit

@[expose] public section

set_option maxRecDepth 16384

noncomputable section

namespace Cert.Kernel15Ideal.Side

open Cert.Kernel15Ideal Cert.Kernel15Ideal.Gen Cert.Prod
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

section body
variable (c : Dev nD) (i : grid0.Coords) (arg3 : Memref sig .tc .vmem S2048x1024 .bf16) (harg3 : arg3.IsWhole)
  (arg4 : Memref sig .tc .vmem S1024x2048 .bf16) (harg4 : arg4.IsWhole) (arg5 : Memref sig .tc .vmem S2048x2048 .bf16) (harg5 : arg5.IsWhole)
  (arg6 : Memref sig .tc .vmem S2048x128 .f32) (harg6 : arg6.IsWhole) (arg7 : Memref sig .tc .vmem S8x128 .f32) (harg7 : arg7.IsWhole)
  (x0 : Vec F S2048x1024 .bf16) (x1 : Vec F S1024x2048 .bf16)

set_option maxHeartbeats 1000000 in
/-- Off the side's block column the body stores the product and leaves the side output alone. -/
theorem body_plain (h1 : k0_cond1 i = 1#1) (h2 : ¬ k0_cond2 i = 1#1) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ owns (c : Thread nD τ) arg5 fullShare (k0_pay2 x1 x0)) -∗ K ⟨⟩))
      ⊢ wp frame (wpE (defs₀ (F := F)) Variants.none c none) Set.univ (cc0_in_proj_1 i arg3 harg3 arg4 harg4 arg5 harg5 arg6 harg6 arg7 harg7) K := by
  simp only [cc0_in_proj_1_eq_skeleton]; unfold cc0_in_proj_1_skel
  unfold owns
  iintro ⟨⟨%f0, %hf0, H0⟩, ⟨%f1, %hf1, H1⟩, ⟨%d2, %f2, -, H2⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  iexists _; isplitr; swap; · iexact H2
  ipureintro
  refine (View.read_writes_eq_canon _ _ _ (fun y => View.cover_of_tiledL _ S2048x2048.size (by sl_kernel_rfl) y)).trans ?_
  sl_unfold_words
  rw [View.canon_unit_zero hz]
  simp only [View.readAt_eq_ld, harg3.read_unread, harg4.read_unread, View.ld_unit_zero (S := S1024x2048) hz,
    View.ld_unit_zero (S := S2048x1024) hz]

set_option maxHeartbeats 1000000 in
/-- At the side's block column the body stores the product, and its side columns in the side output. -/
theorem body_side (h1 : k0_cond1 i = 1#1) (h2 : k0_cond2 i = 1#1) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1
            ∗ owns (c : Thread nD τ) arg5 fullShare (k0_pay2 x1 x0) ∗ owns (c : Thread nD τ) arg6 fullShare (k0_pay3 x1 x0)) -∗ K ⟨⟩))
      ⊢ wp frame (wpE (defs₀ (F := F)) Variants.none c none) Set.univ (cc0_in_proj_1 i arg3 harg3 arg4 harg4 arg5 harg5 arg6 harg6 arg7 harg7) K := by
  simp only [cc0_in_proj_1_eq_skeleton]; unfold cc0_in_proj_1_skel
  unfold owns
  iintro ⟨⟨%f0, %hf0, H0⟩, ⟨%f1, %hf1, H1⟩, ⟨%d2, %f2, -, H2⟩, ⟨%d3, %f3, -, H3⟩, Hk⟩
  obtain rfl := harg3.eq_unread hf0; obtain rfl := harg4.eq_unread hf1
  sl_exec (disch := first | sl_exact h1 | sl_exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (View.read_writes_eq_canon _ _ _ (fun y => View.cover_of_tiledL _ S2048x2048.size (by sl_kernel_rfl) y)).trans ?_
    sl_unfold_words
    rw [View.canon_unit_zero hz]
    simp only [View.readAt_eq_ld, harg3.read_unread, harg4.read_unread, View.ld_unit_zero (S := S1024x2048) hz,
      View.ld_unit_zero (S := S2048x1024) hz]
  iexists _; isplitr; swap; · iexact H3
  ipureintro
  refine (View.read_writes_eq_canon _ _ _ (fun y => View.cover_of_tiledL _ S2048x128.size (by sl_kernel_rfl) y)).trans ?_
  sl_unfold_words
  rw [View.canon_unit_zero hz]
  simp only [View.readAt_eq_ld, harg3.read_unread, harg4.read_unread, View.ld_unit_zero (S := S1024x2048) hz,
    View.ld_unit_zero (S := S2048x1024) hz]

end body

/-! ## The schedule of the side output -/

/-- The product is stored at every point. -/
theorem stores : ∀ t : Fin cfg0.N, k0_cond1 (grid0.coords t) = 1#1 :=
  (by decide +kernel : ∀ t : Fin grid0.N, _)
/-- The side is stored at one point of each block row. -/
theorem sides : ∀ t : Fin cfg0.N, k0_cond2 (grid0.coords t) = 1#1 ↔ t.val % 6 = 3 :=
  (by decide +kernel : ∀ t : Fin grid0.N, _)
/-- The operands' windows are idle nowhere, -/
theorem live0 : ∀ t : Fin cfg0.N, cfg0.idle 0 (grid0.coords t) = false := fun _ => rfl
theorem live1 : ∀ t : Fin cfg0.N, cfg0.idle 1 (grid0.coords t) = false := fun _ => rfl
/-- nor is the product's, -/
theorem live2 : ∀ t : Fin cfg0.N, cfg0.idle 2 (grid0.coords t) = false :=
  (by decide +kernel : ∀ t : Fin grid0.N, _)
/-- and the side's is idle but at that point. -/
theorem idle3 : ∀ t : Fin cfg0.N, cfg0.idle 3 (grid0.coords t) = !decide (t.val % 6 = 3) :=
  (by decide +kernel : ∀ t : Fin grid0.N, _)

/-- The point of `t`'s block row that stores the side. -/
def sideAt (t : Fin cfg0.N) : Fin cfg0.N := ⟨t.val / 6 * 6 + 3, by have := t.isLt; have h : cfg0.N = 24 := N_0; omega⟩

variable (m : (ℓ : Loc nD τ sig) → Buf (Elt F) ℓ) (ρ : Dev nD → PrngReg)

/-- The pipeline's proof data: after a point the product's buffer holds the product of the point's blocks, and the side's buffer
    the side columns of the product of the blocks of its row's storing point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 1 t) (iblk m c 0 t)
    | ⟨3, _⟩ => k0_pay3 (iblk m c 1 (sideAt t)) (iblk m c 0 (sideAt t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = k0_pay2 (iblk m c 1 t) (iblk m c 0 t) := by dsimp only [dats]
theorem after3 (c : Dev nD) (t : Fin cfg0.N) :
    (dats m 0 c).after 3 t = k0_pay3 (iblk m c 1 (sideAt t)) (iblk m c 0 (sideAt t)) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Where the side's buffer has been stored since the last write-back. -/
theorem held : ∀ t : Fin cfg0.N, cfg0.fresh 3 t.val = !decide (4 ≤ t.val % 6) :=
  (by decide +kernel : ∀ t : Fin grid0.N, _)

/-- At the last point of a block row the side's buffer holds the row's side. -/
theorem before3 (c : Dev nD) (t : Fin cfg0.N) (ht : t.val % 6 = 5) (d) : (dats m 0 c).before 3 t d = (dats m 0 c).after 3 t := by
  have carry : ∀ (t : Fin cfg0.N) (_ : t.val ≠ 0), cfg0.fresh 3 t.val = false →
      (dats m 0 c).after 3 t = (dats m 0 c).after 3 ⟨t.val - 1, by omega⟩ := fun t _ hf => by
    rw [held t] at hf
    have h4 : 4 ≤ t.val % 6 := by simpa using hf
    have e : sideAt ⟨t.val - 1, by omega⟩ = sideAt t := Fin.ext (by show (t.val - 1) / 6 * 6 + 3 = t.val / 6 * 6 + 3; omega)
    rw [after3, after3, e]
  have hf : cfg0.fresh 3 t.val = false := by rw [held t]; simp [ht]
  rw [(dats m 0 c).before_out_traj 3 rfl (fun _ _ => rfl) (fun t h0 _ hf => carry t h0 hf) t.val t rfl d, hf, if_neg Bool.false_ne_true]
  exact (carry t (by omega) hf).symm

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare ((dats m 0 c).after 0 t) from by
      unfold Dat.leavesExact; rw [live0 t], after0]
  rw [show (dats m 0 c).leavesExact 1 t = owns (c : Thread nD τ) (win0_1.stage (cfg0.slots t 1)) fullShare ((dats m 0 c).after 1 t) from by
      unfold Dat.leavesExact; rw [live1 t], after1]
  rw [show (dats m 0 c).leavesExact 2 t = owns (c : Thread nD τ) (win0_2.stage (cfg0.slots t 2)) fullShare ((dats m 0 c).after 2 t) from by
      unfold Dat.leavesExact; rw [live2 t], after2]
  by_cases h3 : t.val % 6 = 3
  · have e : sideAt t = t := Fin.ext (by show t.val / 6 * 6 + 3 = t.val; omega)
    rw [show (dats m 0 c).leavesExact 3 t = owns (c : Thread nD τ) (win0_3.stage (cfg0.slots t 3)) fullShare ((dats m 0 c).after 3 t) from by
      unfold Dat.leavesExact; rw [idle3 t, decide_eq_true h3]; rfl, after3, e]
    iintro ⟨HΦ, Ho, ⟨%d0, H0⟩, ⟨%d1, H1⟩, ⟨%d2, H2⟩, ⟨%d3, H3⟩⟩
    iapply (body_side c (grid0.coords t) _ _ _ _ _ _ _ _ _ _ (iblk m c 0 t) (iblk m c 1 t) (stores t) ((sides t).mpr h3) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have keep : iprop(∃ d, owns (c : Thread nD τ) (win0_3.stage (cfg0.slots t 3)) fullShare ((dats m 0 c).before 3 t d))
        ⊢ ((dats m 0 c).leavesExact 3 t : sProp 𝕄) := by
      unfold Dat.leavesExact
      rw [idle3 t, decide_eq_false h3, Bool.not_false]
      by_cases h5 : t.val % 6 = 5
      · rw [(flush0_3 t).mpr h5]
        dsimp only
        iintro ⟨%d, H⟩
        rw [before3 m c t h5 d]
        iexact H
      · rw [Bool.eq_false_iff.mpr fun h => h5 ((flush0_3 t).mp h)]
    iintro ⟨HΦ, Ho, ⟨%d0, H0⟩, ⟨%d1, H1⟩, ⟨%d2, H2⟩, H3⟩
    iapply (body_plain c (grid0.coords t) _ _ _ _ _ _ _ _ _ _ (iblk m c 0 t) (iblk m c 1 t) (stores t) (fun h => h3 ((sides t).mp h)) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iapply keep
    iexact H3

/-- The body of the table at a point's slots. -/
theorem defs_row (t : Fin cfg0.N) : defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- The launch: every array as the proof data says, every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-- The run with each array named. -/
theorem run_arrays : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1.1 c).1 2, (h.1.1 c).1 3, h.2.1 c⟩) (θ_run_and (run_all m ρ) (frame m ρ))

end Cert.Kernel15Ideal.Side

end
-- ==== Proof.Prod.K15.lean ====
/- The input projection: what the kernel's two arrays hold, entry by entry, and the reference's. -/
module

public import proofs.«01_k».proof.Proof.Prod.F15
public import Idealize.ShloMosaic.Lib.Pipeline.ValueKit.Geometry
public import proofs.«01_k».proof.Proof.Gen.Reference15Ideal.Run
public import proofs.«01_k».proof.Proof.Gen.Reference15Ideal.Read

@[expose] public section

noncomputable section

namespace Cert.Kernel15Ideal.Side

open Cert.Kernel15Ideal Cert.Kernel15Ideal.Gen Idealize.ShloMosaic Idealize.ShloMosaic.TcCoe Idealize.ShloMosaic.ValueIdx Idealize.SL.Sem
open Cert.Prod
open Idealize.ShloMosaic.Pipeline (Dat)
open scoped BigOperators

variable (m : (ℓ : Loc nD τ sig) → Buf (Elt Ideal) ℓ) (c : Dev nD)

/-- The left operand of the product. -/
abbrev lhs : S8192x1024.Idx → EReal := m ((c.tc : Thread nD τ).loc main_arg0)
/-- The right operand of the product. -/
abbrev rhs : S1024x12288.Idx → EReal := m ((c.tc : Thread nD τ).loc main_arg1)

/-- The product at a row and a column. -/
abbrev P (i j : ℕ) : EReal := rowcol (lhs m c) (rhs m c) 1024 i j

/-- Which blocks a point reads and writes. -/
theorem places : ∀ t : Fin cfg0.N, (win0_0.index t (0 : Fin 2) = t.val / 6 ∧ win0_0.index t (1 : Fin 2) = 0)
    ∧ (win0_1.index t (0 : Fin 2) = 0 ∧ win0_1.index t (1 : Fin 2) = t.val % 6)
    ∧ (win0_2.index t (0 : Fin 2) = t.val / 6 ∧ win0_2.index t (1 : Fin 2) = t.val % 6)
    ∧ win0_3.index t (0 : Fin 2) = t.val / 6 ∧ win0_3.index t (1 : Fin 2) = 0 :=
  (by decide +kernel : ∀ t : Fin grid0.N, _)

/-- The product of a point's blocks is the point's block of the product. -/
theorem point_apply (t : Fin cfg0.N) (y : S2048x2048.Idx) :
    k0_pay1 (iblk m c 1 t) (iblk m c 0 t) y = P m c (2048 * (t.val / 6) + (y 0).val) (2048 * (t.val % 6) + (y 1).val) := by
  obtain ⟨⟨e0, e1⟩, ⟨e2, e3⟩, -, -⟩ := places t
  unfold k0_pay1
  refine (matmul_rowcol (M := 2048) (K := 1024) (N := 2048) (φ₁ := .bf16) (φ₂ := .bf16) none (iblk m c 0 t) (iblk m c 1 t)
    (constant S2048x2048 .f32 0x00000000#32) y).trans ?_
  show Ideal.ofBits .f32 0x00000000#32 + _ = _
  rw [Ideal.ofBits_zero_f32, zero_add]
  exact rowcol_block (lhs m c) (rhs m c) ((cfg0.win 0).blk t).view.emb _ _ (fun _ => rfl) (fun _ => rfl)
    ((cfg0.win 1).blk t).view.emb _ _ (fun _ => rfl) (fun _ => rfl) e0 e1 e2 e3 _ _ (y 0).isLt (y 1).isLt

/-- The first array after the run: the product. -/
theorem final2 : (dats m 0 c).arrAt 2 cfg0.N = fun i : S8192x12288.Idx => P m c (i 0).val (i 1).val :=
  (dats m 0 c).arrAt_eq_of_covers 2 _ (by decide +kernel) fun t hf y => by
    obtain ⟨-, -, ⟨e4, e5⟩, -⟩ := places t
    show (dats m 0 c).after 2 t ((cfg0.win 2).xinj (grid0.coords t) y) = _
    rw [after2]
    refine (point_apply m c t y).trans (congrArg₂ (P m c) ?_ ?_)
    · show _ = win0_2.index t (0 : Fin 2) * 2048 + 1 * (y 0).val
      rw [e4]; omega
    · show _ = win0_2.index t (1 : Fin 2) * 2048 + 1 * (y 1).val
      rw [e5]; omega

/-- The second array after the run: the product's side columns. -/
theorem final3 : (dats m 0 c).arrAt 3 cfg0.N = fun i : S8192x128.Idx => P m c (i 0).val (7168 + (i 1).val) :=
  (dats m 0 c).arrAt_eq_of_covers 3 _ (by decide +kernel) fun t hf y => by
    obtain ⟨-, -, -, e4, e5⟩ := places t
    show (dats m 0 c).after 3 t ((cfg0.win 3).xinj (grid0.coords t) y) = _
    rw [after3]
    unfold k0_pay3
    have h0 : (y 0).val < 2048 := (y 0).isLt
    have h1 : (y 1).val < 128 := (y 1).isLt
    have hd : (sideAt t).val / 6 = t.val / 6 := by show (t.val / 6 * 6 + 3) / 6 = t.val / 6; omega
    have hm : (sideAt t).val % 6 = 3 := by show (t.val / 6 * 6 + 3) % 6 = 3; omega
    refine (extractStridedSlice_apply _ _ _ _ (ValueIdx.ix2 ⟨(y 0).val, h0⟩ ⟨1024 + (y 1).val, by omega⟩ : S2048x2048.Idx) (fun a => match a with
      | ⟨0, _⟩ => by show (y 0).val = 0 + (y 0).val; omega
      | ⟨1, _⟩ => rfl)).trans ((point_apply m c (sideAt t) _).trans (congrArg₂ (P m c) ?_ ?_))
    · rw [hd]
      show 2048 * (t.val / 6) + (y 0).val = win0_3.index t (0 : Fin 2) * 2048 + 1 * (y 0).val
      rw [e4]; omega
    · rw [hm]
      show 2048 * 3 + (1024 + (y 1).val) = 7168 + (win0_3.index t (1 : Fin 2) * 128 + 1 * (y 1).val)
      rw [e5]; omega

end Cert.Kernel15Ideal.Side

namespace Cert.Reference15Ideal.Read

open Cert.Reference15Ideal Cert.Reference15Ideal.Gen Idealize.ShloMosaic Idealize.ShloMosaic.TcCoe Idealize.ShloMosaic.ValueIdx
open Cert.Prod

/-- The reference's product at an entry: the same sum. -/
theorem product (x0 : S8192x1024.Idx → EReal) (x1 : S1024x12288.Idx → EReal) (i : S8192x12288.Idx) :
    val_main_v2 (F := Ideal) x0 x1 i = rowcol x0 x1 1024 (i 0).val (i 1).val := by
  rw [val_main_v2_apply]
  exact sum_fin 1024 (fun k => at2 x0 (i 0).val k * at2 x1 k (i 1).val) _ fun k => congrArg₂ (· * ·) (at2_idx x0 _) (at2_idx x1 _)

/-- The reference's first array at an entry. -/
theorem whole (x0 : S8192x1024.Idx → EReal) (x1 : S1024x12288.Idx → EReal) (i : S8192x12288.Idx) :
    val_main_v3 (F := Ideal) x0 x1 i = rowcol x0 x1 1024 (i 0).val (i 1).val := product x0 x1 i

/-- The reference's second array at an entry. -/
theorem side (x0 : S8192x1024.Idx → EReal) (x1 : S1024x12288.Idx → EReal) (i : S8192x128.Idx) :
    val_main_v4 (F := Ideal) x0 x1 i = rowcol x0 x1 1024 (i 0).val (7168 + (i 1).val) := by
  rw [val_main_v4_apply]
  exact product x0 x1 _

end Cert.Reference15Ideal.Read

end
-- ==== Proof.Claims.InProj.lean ====
/- The input projection: its frame at machine floats and its value claim. -/
module

public import proofs.«01_k».proof.Defs
public import proofs.«01_k».proof.Proof.Gen.Kernel15
public import proofs.«01_k».proof.Proof.Prod.K15

@[expose] public section

noncomputable section

namespace Cert.Proof

open Idealize.ShloMosaic Idealize.SL.Sem

/-- The kernel read at the extended reals terminates, its arguments kept and its counters at zero. -/
theorem frame_15_ideal : Cert.quiescent_Kernel15Ideal (hKernel15Ideal := Cert.Kernel15Ideal.Gen.facts) :=
  fun m g _ => Cert.Kernel15Ideal.Side.frame m g

set_option maxRecDepth 100000 in
/-- The two bodies are one. -/
theorem body_15 : @Cert.Kernel15.cc0_in_proj_1 Bits _ Cert.Kernel15.Gen.facts = @Cert.Kernel15Ideal.cc0_in_proj_1 Bits _ Cert.Kernel15Ideal.Gen.facts := rfl

set_option maxRecDepth 100000 in
/-- The two tables of bodies are one. -/
theorem defs_15 : @Cert.Kernel15.defs Bits _ Cert.Kernel15.Gen.facts = @Cert.Kernel15Ideal.defs Bits _ Cert.Kernel15Ideal.Gen.facts := by
  have h : @Cert.Kernel15.defs₀ Bits _ Cert.Kernel15.Gen.facts = @Cert.Kernel15Ideal.defs₀ Bits _ Cert.Kernel15Ideal.Gen.facts := by
    unfold Cert.Kernel15.defs₀ Cert.Kernel15Ideal.defs₀
    refine congrArg Defs.onTc (funext fun l => funext fun a => ?_)
    match l, a with
    | ⟨0, _⟩, (t, s) =>
      dsimp only
      rw [body_15]
      rfl
  unfold Cert.Kernel15.defs Cert.Kernel15Ideal.defs
  rw [h]
  rfl

set_option maxRecDepth 100000 in
/-- The two programs are one. -/
theorem main_15 : @Cert.Kernel15.main Bits _ = @Cert.Kernel15Ideal.main Bits _ := rfl

/-- So does the kernel as written: the two texts are one. -/
theorem frame_15 : Cert.quiescent_Kernel15 (hKernel15 := Cert.Kernel15.Gen.facts) := by
  intro m g _
  rw [defs_15, main_15]
  exact Cert.Kernel15Ideal.Side.frame (F := Bits) m g

/-- The claim of the input projection. -/
theorem algebraic_15 : Cert.algebraic_Kernel15Ideal_Reference15Ideal (hKernel15Ideal := Cert.Kernel15Ideal.Gen.facts) (hReference15Ideal := Cert.Reference15Ideal.Gen.facts) :=
  fun m g m' g' _ ha => ⟨fun c i => Cert.Kernel15Ideal.Side.P m c (i 0).val (i 1).val, fun c i => Cert.Kernel15Ideal.Side.P m c (i 0).val (7168 + (i 1).val),
    (θ_run (Cert.Kernel15Ideal.defs (F := Ideal)) _ _).mono (fun r h c => ⟨(h c).1.trans (Cert.Kernel15Ideal.Side.final2 m c),
      (h c).2.1.trans (Cert.Kernel15Ideal.Side.final3 m c), (h c).2.2⟩) (Cert.Kernel15Ideal.Side.run_arrays m g),
    (θ_run (Cert.Reference15Ideal.defs (F := Ideal)) _ _).mono (fun r h c => ⟨(h c).1.trans (by
        rw [Cert.Reference15Ideal.Read.val_main_v3_eq, (ha c).1, (ha c).2]
        exact funext fun i => Cert.Reference15Ideal.Read.whole _ _ i), (h c).2.1.trans (by
        rw [Cert.Reference15Ideal.Read.val_main_v4_eq, (ha c).1, (ha c).2]
        exact funext fun i => Cert.Reference15Ideal.Read.side _ _ i), (h c).2.2⟩) (Cert.Reference15Ideal.Value.run m' g')⟩

end Cert.Proof

end
-- ==== Proof.Opt.Step.lean ====
/- One step of the optimiser: the two moments and the change of a weight, written once for both sides of every optimiser call. -/
module

public import Idealize.ShloMosaic.Lib.Pipeline.Value
public import Idealize.ShloMosaic.PureOps.Ideal.Laws

@[expose] public section

noncomputable section

namespace Cert.Opt

open Idealize.ShloMosaic

/-- A number spread over a shape. -/
abbrev all (T : Shape) (b : BitVec 32) : FVec Ideal T .f32 := broadcast T (Scalar.ofBits .f32 b : Ideal .f32)

/-- The first moment after the step: nine tenths of the old one and a tenth of the gradient. -/
def mean (T : Shape) (g m : FVec Ideal T .f32) : FVec Ideal T .f32 :=
  addf (mulf (all T 0x3F666666#32) m) (mulf (all T 0x3DCCCCCD#32) g)

/-- The second moment after the step: most of the old one and a thousandth of the gradient's square. -/
def square (T : Shape) (g v : FVec Ideal T .f32) : FVec Ideal T .f32 :=
  addf (mulf (all T 0x3F7FBE77#32) v) (mulf (all T 0x3A83126F#32) (mulf g g))

/-- The change of the weight: the corrected first moment over the root of the corrected second, and the weight's decay. -/
def change (T : Shape) (g w m v : FVec Ideal T .f32) : FVec Ideal T .f32 :=
  mulf (all T 0xBA83126F#32)
    (addf (divf (divf (mean T g m) (all T 0x3F26BD02#32))
        (addf (sqrt (divf (square T g v) (all T 0x3C231ACC#32))) (all T 0x322BCC77#32)))
      (mulf (all T 0x3C23D70A#32) w))

section Host

variable {Z : Shape} (T : Shape) (d : Fin Z.rank → Fin T.rank) (h : Z.BroadcastsInDim T d)

/-- The host's way of spreading a number over a shape. -/
abbrev hostAll (b : BitVec 32) : FVec Ideal T .f32 := broadcastInDim T d h (constant (F := Ideal) Z .f32 b)

/-- The host's first moment is the same. -/
theorem mean_host (g m : FVec Ideal T .f32) :
    addf (mulf (hostAll T d h 0x3F666666#32) m) (mulf (hostAll T d h 0x3DCCCCCD#32) g) = mean T g m := rfl

/-- The host's second moment is the same. -/
theorem square_host (g v : FVec Ideal T .f32) :
    addf (mulf (hostAll T d h 0x3F7FBE77#32) v) (mulf (hostAll T d h 0x3A83126F#32) (mulf g g)) = square T g v := rfl

/-- The host's change of the weight is the same. -/
theorem change_host (g w m v : FVec Ideal T .f32) :
    mulf (hostAll T d h 0xBA83126F#32)
      (addf (Host.divf (Host.divf (addf (mulf (hostAll T d h 0x3F666666#32) m) (mulf (hostAll T d h 0x3DCCCCCD#32) g))
            (hostAll T d h 0x3F26BD02#32))
          (addf (Host.sqrt (Host.divf
              (addf (mulf (hostAll T d h 0x3F7FBE77#32) v) (mulf (hostAll T d h 0x3A83126F#32) (mulf g g)))
              (hostAll T d h 0x3C231ACC#32))) (hostAll T d h 0x322BCC77#32)))
        (mulf (hostAll T d h 0x3C23D70A#32) w)) = change T g w m v := rfl

end Host

end Cert.Opt

end
-- ==== Proof.Opt.K18.lean ====
/- The optimiser's step of the small weights, packed in one array: the gradient is the sum of eight parts, and the arrays after
   the run are the textbook step of that sum. -/
module

public import proofs.«01_k».proof.Proof.Opt.Step
public import Idealize.ShloMosaic.Lib.Pipeline.ValueKit.Tiles
public import proofs.«01_k».proof.Proof.Gen.Kernel18Ideal.Value
public import proofs.«01_k».proof.Proof.Gen.Reference18Ideal.Read

@[expose] public section

noncomputable section

namespace Cert.Kernel18Ideal.Value

open Cert.Kernel18Ideal Cert.Kernel18Ideal.Gen Idealize.ShloMosaic Idealize.SL.Sem
open Cert.Opt
open scoped BigOperators

variable (p : Vec Ideal S8x520x128 .f32) (w m v : Vec Ideal S520x128 .f32)

/-- The gradient's array: the sum of the eight parts. -/
abbrev grad : Vec Ideal S520x128 .f32 := Cert.Reference18Ideal.Read.val_main_v0 (F := Ideal) p

theorem grad_eq : G4 (F := Ideal) p w m v = grad p := by
  funext i
  refine (congrFun (out4_eq p w m v).symm i).trans ?_
  unfold out0_4 k0_pay5
  refine (canon4_eq _ _ _ _ _ _ _ _ i).trans ?_
  refine Eq.trans ?_ (Cert.Reference18Ideal.Read.val_main_v0_apply p i).symm
  rw [Fin.sum_univ_eight, Cert.Reference18Ideal.Read.val_main_cst_apply]
  refine Eq.trans ?_ (congrArg (· + _) Ideal.ofBits_zero_f32.symm)
  refine Eq.trans ?_ (zero_add _).symm
  have part : ∀ (k : Fin 8) (off size : Fin 3 → Nat) (inb) (x : (Rect.unit (s := S8x520x128) off size inb).shape.Idx),
      (∀ a, (Cert.Reference18Ideal.Read.idx_main_v0 i k a : Nat) = off a + x a) →
      View.ld p (Rect.unit off size inb) x = p (Cert.Reference18Ideal.Read.idx_main_v0 i k) :=
    fun k off size inb x h => View.ld_unit_apply_of p off size inb x _ h
  refine congrArg₂ (· + ·) (congrArg₂ (· + ·) (congrArg₂ (· + ·) (congrArg₂ (· + ·) (congrArg₂ (· + ·) (congrArg₂ (· + ·)
    (congrArg₂ (· + ·) (part 0 _ _ _ _ ?_) (part 1 _ _ _ _ ?_)) (part 2 _ _ _ _ ?_)) (part 3 _ _ _ _ ?_)) (part 4 _ _ _ _ ?_))
    (part 5 _ _ _ _ ?_)) (part 6 _ _ _ _ ?_)) (part 7 _ _ _ _ ?_)
  all_goals
    intro a
    match a with
    | ⟨0, _⟩ => rfl
    | ⟨1, _⟩ => exact (Nat.zero_add _).symm
    | ⟨2, _⟩ => exact (Nat.zero_add _).symm

/-- The whole of a block read through the whole rectangle. -/
theorem whole (x : Vec Ideal S520x128 .f32) : View.ld x r0_8 = x := View.ld_unit_zero hz1 _ x

theorem mean_eq : G6 (F := Ideal) p w m v = mean S520x128 (grad p) m := by
  show addf (mulf (all S520x128 _) (View.ld m r0_8)) (mulf (all S520x128 _) (G4 (F := Ideal) p w m v)) = _
  rw [grad_eq, whole]
  rfl

theorem square_eq : G7 (F := Ideal) p w m v = square S520x128 (grad p) v := by
  rw [← grad_eq p w m v]
  rfl

theorem change_eq : G5 (F := Ideal) p w m v = change S520x128 (grad p) w m v := by
  unfold change
  rw [← mean_eq p w m v, ← square_eq p w m v]
  rfl

end Cert.Kernel18Ideal.Value

end
-- ==== Proof.Opt.K19.lean ====
/- The optimiser's step of the short convolutions' weights: the arrays after the run are the textbook step of the gradient. -/
module

public import proofs.«01_k».proof.Proof.Opt.Step
public import proofs.«01_k».proof.Proof.Gen.Kernel19Ideal.Value
public import proofs.«01_k».proof.Proof.Gen.Reference19Ideal.Read

@[expose] public section

noncomputable section

namespace Cert.Kernel19Ideal.Value

open Cert.Kernel19Ideal Cert.Kernel19Ideal.Gen Idealize.ShloMosaic Idealize.SL.Sem
open Cert.Opt
open scoped BigOperators

variable (p : Vec Ideal S1x10x512 .f32) (w m v : Vec Ideal S10x512 .f32)

/-- The gradient's array. -/
abbrev grad : Vec Ideal S10x512 .f32 := shapeCast S10x512 p Gen.shapeCasts_S1x10x512_S10x512

theorem grad_eq : G4 (F := Ideal) p w m v = grad p := rfl
theorem change_eq : G5 (F := Ideal) p w m v = change S10x512 (grad p) w m v := rfl
theorem mean_eq : G6 (F := Ideal) p w m v = mean S10x512 (grad p) m := rfl
theorem square_eq : G7 (F := Ideal) p w m v = square S10x512 (grad p) v := rfl

end Cert.Kernel19Ideal.Value

end
-- ==== Proof.Claims.Optimiser.lean ====
/- The optimiser's steps of the small weights and of the short convolutions' weights: their value claims. -/
module

public import proofs.«01_k».proof.Defs
public import proofs.«01_k».proof.Proof.Opt.K18
public import proofs.«01_k».proof.Proof.Opt.K19
public import proofs.«01_k».proof.Proof.Gen.Reference18Ideal.Run
public import proofs.«01_k».proof.Proof.Gen.Reference19Ideal.Run

@[expose] public section

noncomputable section

namespace Cert.Proof

open Idealize.ShloMosaic Idealize.SL.Sem Cert.Opt

/-- The claim of the small weights' step. -/
theorem algebraic_18 : Cert.algebraic_Kernel18Ideal_Reference18Ideal (hKernel18Ideal := Cert.Kernel18Ideal.Gen.facts) (hReference18Ideal := Cert.Reference18Ideal.Gen.facts) := by
  intro m g m' g' _ ha
  refine ⟨fun c => _, fun c => _, fun c => _, fun c => _, Cert.Kernel18Ideal.Value.run m g,
    (θ_run (Cert.Reference18Ideal.defs (F := Ideal)) _ _).mono (fun r h c => ⟨(h c).1.trans ?_, (h c).2.1.trans ?_, (h c).2.2.1.trans ?_, (h c).2.2.2.1.trans ?_, (h c).2.2.2.2⟩)
      (Cert.Reference18Ideal.Value.run m' g')⟩
  · rw [(ha c).1]
    exact (Cert.Kernel18Ideal.Value.grad_eq _ _ _ _).symm
  · rw [(ha c).1, (ha c).2.1, (ha c).2.2.1, (ha c).2.2.2]
    exact (change_host _ _ _ _ _ _ _).trans (Cert.Kernel18Ideal.Value.change_eq _ _ _ _).symm
  · rw [(ha c).1, (ha c).2.2.1]
    exact (mean_host _ _ _ _ _).trans (Cert.Kernel18Ideal.Value.mean_eq _ _ _ _).symm
  · rw [(ha c).1, (ha c).2.2.2]
    exact (square_host _ _ _ _ _).trans (Cert.Kernel18Ideal.Value.square_eq _ _ _ _).symm

/-- The claim of the convolutions' step. -/
theorem algebraic_19 : Cert.algebraic_Kernel19Ideal_Reference19Ideal (hKernel19Ideal := Cert.Kernel19Ideal.Gen.facts) (hReference19Ideal := Cert.Reference19Ideal.Gen.facts) := by
  intro m g m' g' _ ha
  refine ⟨fun c => _, fun c => _, fun c => _, fun c => _, Cert.Kernel19Ideal.Value.run m g,
    (θ_run (Cert.Reference19Ideal.defs (F := Ideal)) _ _).mono (fun r h c => ⟨(h c).1.trans ?_, (h c).2.1.trans ?_, (h c).2.2.1.trans ?_, (h c).2.2.2.1.trans ?_, (h c).2.2.2.2⟩)
      (Cert.Reference19Ideal.Value.run m' g')⟩
  · rw [(ha c).1]
    exact (Cert.Kernel19Ideal.Value.grad_eq _ _ _ _).symm
  · rw [(ha c).1, (ha c).2.1, (ha c).2.2.1, (ha c).2.2.2]
    exact (change_host _ _ _ _ _ _ _).trans (Cert.Kernel19Ideal.Value.change_eq _ _ _ _).symm
  · rw [(ha c).1, (ha c).2.2.1]
    exact (mean_host _ _ _ _ _).trans (Cert.Kernel19Ideal.Value.mean_eq _ _ _ _).symm
  · rw [(ha c).1, (ha c).2.2.2]
    exact (square_host _ _ _ _ _).trans (Cert.Kernel19Ideal.Value.square_eq _ _ _ _).symm

end Cert.Proof

end
-- ==== Proof.Opt.Layer.lean ====
/- A weight of two layers, stepped one layer at a time: what a block's step computes and what the stacked gradient is, for blocks of any number of rows. -/
module

public import proofs.«01_k».proof.Proof.Opt.Step
public import Idealize.ShloMosaic.Lib.Pipeline.ValueKit.Tiles
public import Idealize.ShloMosaic.Lib.ValueIdxCore
public import Idealize.ShloMosaic.Lib.Pipeline.RegionsLoop

@[expose] public section

noncomputable section

namespace Cert.Opt

open Idealize.ShloMosaic Idealize.ShloMosaic.ValueIdx
open scoped BigOperators

variable {R C : Nat}

/-- Eight parts of some rows. -/
abbrev Parts (R C : Nat) : Shape := ⟨3, ![8, R, C]⟩

/-- One layer's rows. -/
abbrev One (R C : Nat) : Shape := ⟨3, ![1, R, C]⟩

/-- Two layers' rows. -/
abbrev Two (R C : Nat) : Shape := ⟨3, ![2, R, C]⟩

/-- The rows alone. -/
abbrev Rows (R C : Nat) : Shape := ⟨2, ![R, C]⟩

/-- The sum of the eight parts, as one layer's rows. -/
def total (x : Vec Ideal (Parts R C) .bf16) : FVec Ideal (One R C) .f32 := fun y => ∑ k : Fin 8, x (ix3 k (y 1) (y 2))

/-- The gradient of both layers: each layer's parts summed. -/
def both (x₀ x₁ : Vec Ideal (Parts R C) .bf16) : FVec Ideal (Two R C) .f32 := fun i =>
  ∑ k : Fin 8, if (i 0).val = 0 then x₀ (ix3 k (i 1) (i 2)) else x₁ (ix3 k (i 1) (i 2))

/-- A block of the first layer: its total is the gradient's rows it stands for. -/
theorem total_first {T : Nat} (x : Vec Ideal (Parts T C) .bf16) (x₀ x₁ : Vec Ideal (Parts R C) .bf16) (y : (One T C).Idx) (i : (Two R C).Idx)
    (h : (i 0).val = 0) (e : ∀ k : Fin 8, x (ix3 k (y 1) (y 2)) = x₀ (ix3 k (i 1) (i 2))) : total x y = both x₀ x₁ i :=
  Finset.sum_congr rfl fun k _ => (e k).trans (if_pos h).symm

/-- A block of the second layer. -/
theorem total_second {T : Nat} (x : Vec Ideal (Parts T C) .bf16) (x₀ x₁ : Vec Ideal (Parts R C) .bf16) (y : (One T C).Idx) (i : (Two R C).Idx)
    (h : (i 0).val = 1) (e : ∀ k : Fin 8, x (ix3 k (y 1) (y 2)) = x₁ (ix3 k (i 1) (i 2))) : total x y = both x₀ x₁ i :=
  Finset.sum_congr rfl fun k _ => (e k).trans (if_neg (by omega)).symm

section At

variable {S T : Shape} {g' w' m' v' : FVec Ideal S .f32} {g w m v : FVec Ideal T .f32} (j : S.Idx) (i : T.Idx)

/-- A step at an entry is of its operands at the entry: the first moment's. -/
theorem mean_at (hg : g' j = g i) (hm : m' j = m i) : mean S g' m' j = mean T g m i := by
  show _ * m' j + _ * g' j = _
  rw [hg, hm]
  rfl

/-- The second moment's. -/
theorem square_at (hg : g' j = g i) (hv : v' j = v i) : square S g' v' j = square T g v i := by
  show _ * v' j + _ * (g' j * g' j) = _
  rw [hg, hv]
  rfl

/-- The change's. -/
theorem change_at (hg : g' j = g i) (hw : w' j = w i) (hm : m' j = m i) (hv : v' j = v i) : change S g' w' m' v' j = change T g w m v i := by
  show _ * (Ideal.div (Ideal.div (mean S g' m' j) _) (Ideal.sqrt (Ideal.div (square S g' v' j) _) + _) + _ * w' j) = _
  rw [mean_at j i hg hm, square_at j i hg hv, hw]
  rfl

end At

section Block

variable (x : Vec Ideal (Parts R C) .bf16) (down : (One R C).ShapeCasts (Rows R C)) (up : (Rows R C).ShapeCasts (One R C))
  (wider : FTy.bits .bf16 < FTy.bits .f32)

/-- A part's rows, read out of the block and widened. -/
abbrev part (k : Nat) (inb : ∀ a, (![k, 0, 0] : Fin 3 → Nat) a + (One R C).size a ≤ (Parts R C).size a) : FVec Ideal (Rows R C) .f32 :=
  extf .f32 (shapeCast (Rows R C) (View.ld x (Rect.unit (s := Parts R C) ![k, 0, 0] (One R C).size inb)) down : FVec Ideal (Rows R C) .bf16) wider

/-- A part's rows at an entry. -/
theorem part_apply (k : Fin 8) (inb) (y : (One R C).Idx) :
    part x down wider k.val inb (fun a => y a.succ) = x (ix3 k (y 1) (y 2)) := by
  show shapeCast (Rows R C) (View.ld x (Rect.unit (s := Parts R C) ![k.val, 0, 0] (One R C).size inb)) down (fun a => y a.succ) = _
  refine (shapeCast_dropUnit_apply ![R, C] (View.ld x (Rect.unit (s := Parts R C) ![k.val, 0, 0] (One R C).size inb)) down _).trans ?_
  refine View.ld_unit_apply_of x _ _ _ _ _ fun a => ?_
  match a with
  | ⟨0, _⟩ => rfl
  | ⟨1, _⟩ => exact (Nat.zero_add _).symm
  | ⟨2, _⟩ => exact (Nat.zero_add _).symm

/-- The parts added up one after the other are their sum. -/
theorem total_eq (i0 i1 i2 i3 i4 i5 i6 i7) :
    shapeCast (One R C) (addf (addf (addf (addf (addf (addf (addf (part x down wider 0 i0) (part x down wider 1 i1)) (part x down wider 2 i2))
      (part x down wider 3 i3)) (part x down wider 4 i4)) (part x down wider 5 i5)) (part x down wider 6 i6)) (part x down wider 7 i7)) up
    = total x := by
  funext y
  refine (shapeCast_addUnit_apply ![R, C] _ up y).trans ?_
  unfold total
  rw [Fin.sum_univ_eight]
  exact congrArg₂ (· + ·) (congrArg₂ (· + ·) (congrArg₂ (· + ·) (congrArg₂ (· + ·) (congrArg₂ (· + ·) (congrArg₂ (· + ·)
    (congrArg₂ (· + ·) (part_apply x down wider 0 _ y) (part_apply x down wider 1 _ y)) (part_apply x down wider 2 _ y))
    (part_apply x down wider 3 _ y)) (part_apply x down wider 4 _ y)) (part_apply x down wider 5 _ y)) (part_apply x down wider 6 _ y))
    (part_apply x down wider 7 _ y)

variable (g : FVec Ideal (Rows R C) .f32) (w m v : FVec Ideal (One R C) .f32)

/-- A block's first moment, computed on its rows alone. -/
theorem mean_cast : shapeCast (One R C) (mean (Rows R C) g (shapeCast (Rows R C) m down)) up = mean (One R C) (shapeCast (One R C) g up) m := by
  refine Eq.trans ?_ (congrArg (mean (One R C) (shapeCast (One R C) g up)) (shapeCast_shapeCast m down up))
  rfl

/-- A block's second moment, computed on its rows alone. -/
theorem square_cast : shapeCast (One R C) (square (Rows R C) g (shapeCast (Rows R C) v down)) up = square (One R C) (shapeCast (One R C) g up) v := by
  refine Eq.trans ?_ (congrArg (square (One R C) (shapeCast (One R C) g up)) (shapeCast_shapeCast v down up))
  rfl

/-- A block's change, computed on its rows alone. -/
theorem change_cast :
    shapeCast (One R C) (change (Rows R C) g (shapeCast (Rows R C) w down) (shapeCast (Rows R C) m down) (shapeCast (Rows R C) v down)) up
      = change (One R C) (shapeCast (One R C) g up) w m v := by
  have e : ∀ z : FVec Ideal (One R C) .f32, shapeCast (One R C) (shapeCast (Rows R C) z down) up = z := fun z => shapeCast_shapeCast z down up
  refine Eq.trans ?_ (congrArg (fun z => change (One R C) (shapeCast (One R C) g up) z m v) (e w))
  refine Eq.trans ?_ (congrArg (fun z => change (One R C) (shapeCast (One R C) g up) _ z v) (e m))
  refine Eq.trans ?_ (congrArg (fun z => change (One R C) (shapeCast (One R C) g up) _ _ z) (e v))
  rfl

/-- What a block's step writes: its gradient, its change and both its moments. -/
theorem block_eq (i0 i1 i2 i3 i4 i5 i6 i7) {s : FVec Ideal (Rows R C) .f32}
    (hs : s = addf (addf (addf (addf (addf (addf (addf (part x down wider 0 i0) (part x down wider 1 i1)) (part x down wider 2 i2))
      (part x down wider 3 i3)) (part x down wider 4 i4)) (part x down wider 5 i5)) (part x down wider 6 i6)) (part x down wider 7 i7)) :
    shapeCast (One R C) s up = total x
    ∧ shapeCast (One R C) (change (Rows R C) s (shapeCast (Rows R C) w down) (shapeCast (Rows R C) m down) (shapeCast (Rows R C) v down)) up
      = change (One R C) (total x) w m v
    ∧ shapeCast (One R C) (mean (Rows R C) s (shapeCast (Rows R C) m down)) up = mean (One R C) (total x) m
    ∧ shapeCast (One R C) (square (Rows R C) s (shapeCast (Rows R C) v down)) up = square (One R C) (total x) v := by
  have e : shapeCast (One R C) s up = total x := (congrArg (fun z => shapeCast (One R C) z up) hs).trans (total_eq x down up wider i0 i1 i2 i3 i4 i5 i6 i7)
  exact ⟨e, (change_cast down up s w m v).trans (congrArg (fun z => change (One R C) z w m v) e),
    (mean_cast down up s m).trans (congrArg (fun z => mean (One R C) z m) e), (square_cast down up s v).trans (congrArg (fun z => square (One R C) z v) e)⟩

end Block

section Stack

variable (x₀ x₁ : Vec Ideal (Parts R C) .bf16) (wider : FTy.bits .bf16 < FTy.bits .f32)
  {Z : Shape} (hZ : 0 < Z.numel) (red : (Parts R C).ReducesTo [0] (Rows R C))
  (spread : (Rows R C).BroadcastsInDim (One R C) (![1, 2] : Fin 2 → Fin 3))
  (joined : Shape.Concatenates [One R C, One R C] (Two R C) 0)

/-- One layer's gradient on the host. -/
abbrev hostLayer (x : Vec Ideal (Parts R C) .bf16) : FVec Ideal (One R C) .f32 :=
  broadcastInDim (One R C) ![1, 2] spread (Host.reduceAdd (extf .f32 (x : FVec Ideal (Parts R C) .bf16) wider) (constant (F := Ideal) Z .f32 0x00000000#32) red hZ)

theorem hostLayer_apply (x : Vec Ideal (Parts R C) .bf16) (y : (One R C).Idx) : hostLayer wider hZ red spread x y = total x y := by
  refine (broadcastInDim_apply _ spread _ y (ix2 (y 1) (y 2)) fun a => ?_).trans ?_
  · match a with
    | ⟨0, _⟩ =>
      show (y 1).val = if R = 1 then 0 else (y 1).val
      split
      · next h => have := (y 1).isLt; simp at this; omega
      · rfl
    | ⟨1, _⟩ =>
      show (y 2).val = if C = 1 then 0 else (y 2).val
      split
      · next h => have := (y 2).isLt; simp at this; omega
      · rfl
  · have red' : (Parts R C).Reduces [0] (Rows R C) := ⟨red.1, Nat.succ_pos 1, red.2⟩
    show Ideal.hostReduceAdd red _ _ _ = _
    rw [Ideal.hostReduceAdd_single red red']
    refine (congrArg (· + _) Ideal.ofBits_zero_f32).trans ((zero_add _).trans ?_)
    refine Finset.sum_congr rfl fun k _ => congrArg x (funext fun a => Fin.ext ?_)
    match a with
    | ⟨0, _⟩ => rfl
    | ⟨1, _⟩ => rfl
    | ⟨2, _⟩ => rfl

/-- The two layers' gradients on the host, one under the other. -/
theorem both_host :
    concatenate (Two R C) 0 [⟨One R C, hostLayer wider hZ red spread x₀⟩, ⟨One R C, hostLayer wider hZ red spread x₁⟩] joined = both x₀ x₁ := by
  funext i
  unfold both
  have h2 : (i 0).val < 2 := (i 0).isLt
  by_cases h : (i 0).val = 0
  · simp only [if_pos h]
    refine (concatenate_pair_apply_left (t := Two R C) 0 _ _ joined i rfl (ix3 0 (i 1) (i 2)) fun b => ?_).trans (hostLayer_apply wider hZ red spread x₀ _)
    match b with
    | ⟨0, _⟩ => exact h.symm
    | ⟨1, _⟩ => rfl
    | ⟨2, _⟩ => rfl
  · simp only [if_neg h]
    refine (concatenate_pair_apply_right (t := Two R C) 0 _ _ joined i rfl rfl (ix3 0 (i 1) (i 2)) (fun b => ?_) ?_).trans (hostLayer_apply wider hZ red spread x₁ _)
    · match b with
      | ⟨0, _⟩ => exact fun e => absurd rfl e
      | ⟨1, _⟩ => exact fun _ => rfl
      | ⟨2, _⟩ => exact fun _ => rfl
    · show 0 + 1 = (i 0).val
      omega

end Stack

section Tiled

variable {N T : Nat} {j : Nat}

/-- A launch's blocks: of `N`, the `t`-th stands for layer `j`'s rows from `t * T`. -/
structure Lies (j : Nat) (e : Fin N → (One T C).Idx → (Two R C).Idx) : Prop where
  layer : ∀ t y, (e t y 0).val = j
  row : ∀ t y, (e t y 1).val = t.val * T + (y 1).val
  col : ∀ t y, (e t y 2).val = (y 2).val

/-- Every entry of the layer is in a block. -/
theorem Lies.reaches {e : Fin N → (One T C).Idx → (Two R C).Idx} (h : Lies j e) (size : R = N * T) (i : (Two R C).Idx) (hi : (i 0).val = j) :
    ∃ t y, e t y = i := by
  have i1 : (i 1).val < N * T := size ▸ (i 1).isLt
  have T0 : 0 < T := Nat.pos_of_ne_zero fun z => by simp [z] at i1
  refine ⟨⟨(i 1).val / T, Nat.div_lt_of_lt_mul (by rwa [Nat.mul_comm])⟩, ix3 (0 : Fin 1) (⟨(i 1).val % T, Nat.mod_lt _ T0⟩ : Fin T) (i 2), funext fun a => Fin.ext ?_⟩
  match a with
  | ⟨0, _⟩ => exact (h.layer _ _).trans hi.symm
  | ⟨1, _⟩ => exact (h.row _ _).trans (Nat.div_add_mod' _ _)
  | ⟨2, _⟩ => exact h.col _ _

/-- They do, if the launch numbers them so. -/
theorem Lies.of {e : Fin N → (One T C).Idx → (Two R C).Idx} (q : Fin N → Fin 3 → Nat) (hq : ∀ t, q t 0 = j ∧ q t 1 = t.val ∧ q t 2 = 0)
    (he : ∀ t y, (e t y 0).val = q t 0 * 1 + 1 * (y 0).val ∧ (e t y 1).val = q t 1 * T + 1 * (y 1).val ∧ (e t y 2).val = q t 2 * C + 1 * (y 2).val) :
    Lies j e where
  layer t y := by
    have y0 : (y 0).val < 1 := (y 0).isLt
    have := (he t y).1
    rw [(hq t).1] at this
    omega
  row t y := by rw [(he t y).2.1, (hq t).2.1, Nat.one_mul]
  col t y := by rw [(he t y).2.2, (hq t).2.2, Nat.zero_mul, Nat.zero_add, Nat.one_mul]

/-- A launch's blocks of the parts: of an array `x`, the `t`-th has the rows from `(b + t) * T`. -/
def Reads {P : Nat} (b : Nat) (p : Fin N → Vec Ideal (Parts T C) .bf16) (x : Vec Ideal (Parts P C) .bf16) : Prop :=
  ∀ t z, ∃ z', p t z = x z' ∧ (z' 0).val = (z 0).val ∧ (z' 1).val = (b + t.val) * T + (z 1).val ∧ (z' 2).val = (z 2).val

theorem Reads.of {P : Nat} {b : Nat} {p : Fin N → Vec Ideal (Parts T C) .bf16} {x : Vec Ideal (Parts P C) .bf16} (q : Fin N → Fin 3 → Nat)
    (hq : ∀ t, q t 0 = 0 ∧ q t 1 = b + t.val ∧ q t 2 = 0) (e : Fin N → (Parts T C).Idx → (Parts P C).Idx) (hp : ∀ t z, p t z = x (e t z))
    (he : ∀ t z, (e t z 0).val = q t 0 * 8 + 1 * (z 0).val ∧ (e t z 1).val = q t 1 * T + 1 * (z 1).val ∧ (e t z 2).val = q t 2 * C + 1 * (z 2).val) :
    Reads b p x := fun t z =>
  ⟨e t z, hp t z, by rw [(he t z).1, (hq t).1, Nat.zero_mul, Nat.zero_add, Nat.one_mul], by rw [(he t z).2.1, (hq t).2.1, Nat.one_mul],
    by rw [(he t z).2.2, (hq t).2.2, Nat.zero_mul, Nat.zero_add, Nat.one_mul]⟩

section Read

variable {P b : Nat} {p : Fin N → Vec Ideal (Parts T C) .bf16} {x : Vec Ideal (Parts P C) .bf16} {e : Fin N → (One T C).Idx → (Two R C).Idx}

/-- What a block reads is what it stands for, of a weight whose rows are some of the parts'. -/
theorem Reads.slice {r : Nat} (h : Reads b p x) (l : Lies j e) (hr : b * T = r) (cut : (Parts P C).Slices ![0, r, 0] (Parts R C)) (t : Fin N) (y : (One T C).Idx)
    (k : Fin 8) : p t (ix3 k (y 1) (y 2)) = extractStridedSlice (Parts R C) ![0, r, 0] x cut (ix3 k (e t y 1) (e t y 2)) := by
  obtain ⟨z, hz, h0, h1, h2⟩ := h t (ix3 k (y 1) (y 2))
  refine hz.trans (extractStridedSlice_apply _ x cut _ _ fun a => ?_).symm
  have e1 := l.row t y
  have e2 := l.col t y
  rw [Nat.add_mul] at h1
  match a with
  | ⟨0, _⟩ => exact h0.trans (Nat.zero_add _).symm
  | ⟨1, _⟩ =>
    show (z 1).val = r + (e t y 1).val
    rw [h1, e1, hr, Nat.add_assoc]
    rfl
  | ⟨2, _⟩ => exact h2.trans (e2.symm.trans (Nat.zero_add _).symm)

/-- The same of a weight whose rows are all of the parts'. -/
theorem Reads.whole {x : Vec Ideal (Parts R C) .bf16} (h : Reads 0 p x) (l : Lies j e) (t : Fin N) (y : (One T C).Idx) (k : Fin 8) :
    p t (ix3 k (y 1) (y 2)) = x (ix3 k (e t y 1) (e t y 2)) := by
  obtain ⟨z, hz, h0, h1, h2⟩ := h t (ix3 k (y 1) (y 2))
  refine hz.trans (congrArg x (funext fun a => Fin.ext ?_))
  match a with
  | ⟨0, _⟩ => exact h0
  | ⟨1, _⟩ => exact h1.trans ((congrArg (· * T + _) (Nat.zero_add t.val)).trans (l.row t y).symm)
  | ⟨2, _⟩ => exact h2.trans (l.col t y).symm

end Read

end Tiled

/-- An array whose first layer is `G`'s and whose second is that of an array with `G`'s second layer. -/
theorem joined {A B G : FVec Ideal (Two R C) .f32} (low : ∀ i : (Two R C).Idx, (i 0).val = 0 → B i = G i)
    (kept : ∀ i : (Two R C).Idx, (i 0).val ≠ 0 → B i = A i) (high : ∀ i : (Two R C).Idx, (i 0).val = 1 → A i = G i) : B = G :=
  funext fun i => if h : (i 0).val = 0 then low i h else (kept i h).trans (high i (by
    have : (i 0).val < 2 := (i 0).isLt
    omega))

theorem zeros : (![0, 0, 0] : Fin 3 → Nat) = fun _ => 0 := by
  funext a
  match a with
  | ⟨0, _⟩ => rfl
  | ⟨1, _⟩ => rfl
  | ⟨2, _⟩ => rfl

end Cert.Opt

end
-- ==== Proof.Opt.Launch.lean ====
/- A program of several launches, run to its end: every array it holds ends at what the segments, one after the other, leave in it. -/
module

public import Idealize.ShloMosaic.Adequacy
public import Idealize.ShloMosaic.Lib.Pipeline.FrameBody
public import Idealize.ShloMosaic.Lib.Pipeline.RegionsLoop
public import Idealize.ShloMosaic.Lib.Pipeline.FrameSuffix
public import Idealize.ShloMosaic.Lib.Rounds
public import Idealize.ShloMosaic.PureOps.Ideal.Laws
public import Idealize.ShloMosaic.Lib.Tactic

@[expose] public section

noncomputable section

namespace Cert.Opt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg cellOf)

variable {nD : Nat} {τ : Topo} {sig : RefSig} {Λ₀ : Labels} {P : Type} [Fintype P] [DecidableEq P]

local notation "𝕄" => MT nD τ sig Unit (Elt Ideal) ℕ (UR sig nD τ) ℕ

/-- The arrays a device starts with. -/
abbrev start (m : (ℓ : Loc nD τ sig) → Buf (Elt Ideal) ℓ) (c : Dev nD) : Valuation τ sig (Elt Ideal) := fun b => m ((c : Dev nD), b)

/-- What a device holds before the first segment. -/
abbrev first (m : (ℓ : Loc nD τ sig) → Buf (Elt Ideal) ℓ) (c : Dev nD) : sProp 𝕄 :=
  iprop(StableHlo.held (c : Thread nD τ) (Pipeline.ucRefs τ sig) (start m c)
    ∗ ((∃ r, prngReg c r) ∗ ∃ S, owes (c : Thread nD τ) (0 : CellTallies nD τ sig Unit) S))

/-- What it holds after the last one. -/
abbrev last (W : Dev nD → Valuation τ sig (Elt Ideal)) (c : Dev nD) : sProp 𝕄 :=
  iprop(StableHlo.held (c : Thread nD τ) (Pipeline.ucRefs τ sig) (W c) ∗ ∃ r, prngReg c r)

/-- The launches' ghost state, and nothing besides on any device. -/
theorem dealt (u : UR sig nD τ) : (ownU u : sProp 𝕄) ⊢ |={Set.univ}=> iprop(BI.own (emb₁ u) ∗ bigSep Finset.univ fun _ : Dev nD => (iprop(emp) : sProp 𝕄)) := by
  iintro Hu; imodintro
  isplitl [Hu]
  · iapply (show (ownU u : sProp 𝕄) ⊢ BI.own (emb₁ u) from .rfl)
    iexact Hu
  iapply (show (BI.emp : sProp 𝕄) ⊢ bigSep Finset.univ (fun _ : Dev nD => (BI.emp : sProp 𝕄)) from by rw [BI.bigSep_emp_const])
  iempintro

variable (pcs : P → Pipeline.PCfg sig Λ₀ (Elt Ideal)) (a : (p : P) → (pcs p).Adm) (inj : Function.Injective (cellOf (nD := nD) (τ := τ) (Pipeline.pin pcs a))) (defs₀ : Defs nD τ sig (Elt Ideal) Λ₀)
  (pdats : (p : P) → (c : Dev nD) → Dat τ (Elt Ideal) Unit ℕ (UR sig nD τ) ℕ (Pipeline.pin pcs a p) c)
  (m : (ℓ : Loc nD τ sig) → Buf (Elt Ideal) ℓ) (ρ : Dev nD → PrngReg)
  (main : Dev nD → Prog (TpuEff nD τ sig (Elt Ideal) (Pipeline.Sig Λ₀ P fun p => (pcs p).Adm) .tc) PUnit)
  (segs : List (Pipeline.Seg pcs a pdats () defs₀ Variants.none (fun _ => ∅) (fun _ _ => 0)))
  (run : ∀ c, main c = Pipeline.Seg.run segs) (once : (Pipeline.Seg.pipes segs).Nodup)
  (W : Dev nD → Valuation τ sig (Elt Ideal))
  (chain : Pipeline.Seg.Chains (first m) segs fun c => iprop(last W c ∗ ∃ S, owes (c.tc : Thread nD τ) (0 : CellTallies nD τ sig Unit) S))

include inj run once chain in
set_option backward.isDefEq.respectTransparency.types false in
/-- Every run ends with the arrays at `W` and the counters at zero. -/
theorem ends : θ_run (Pipeline.defs pcs defs₀) (onTc (τ := τ) main) ⟨m, fun _ => 0, ρ⟩ (fun r =>
    (∀ c : Dev nD, ∀ b ∈ Pipeline.ucRefs τ sig, r.2.mem (((c : Thread nD τ)).1, b) = W c b)
      ∧ ∀ g : GSem nD τ sig, (g.1.2 ≠ .tc ∨ g.2.isScoped .tc = true) → r.2.sem g = 0) := by
  refine Pipeline.θ_run_regions_kit_sems pcs a pdats () inj emb₁ defs₀ Variants.none (fun _ => ∅) (fun _ _ => 0) m ρ main segs ?_ once 0 ?_
    (fun _ => iprop(emp)) (initOf (Pipeline.cells (Pipeline.pin pcs a) inj) (Pipeline.launchToks (Pipeline.pin pcs a) inj)) ?_
    (first m) (last W) chain ?_ (fun c s => ∀ b ∈ Pipeline.ucRefs τ sig, s.mem (((c : Thread nD τ)).1, b) = W c b) ?_ ?_
  · intro c Q
    rw [run c]
  · intro g _
    rfl
  · exact dealt _
  · refine Pipeline.initEach (fun _ => ∅) (fun _ _ => 0) fun c => ?_
    rw [show unscopedBufs c (fun b => m ((c : Thread nD τ).loc b)) = StableHlo.held (c : Thread nD τ) (Pipeline.ucRefs τ sig) (start m c)
      from Pipeline.unscopedBufs_held c (start m c)]
    iintro ⟨⟨Hh, -, HO, -, Hp, -⟩, -⟩
    imodintro
    isplitl [Hh]; · iexact Hh
    isplitl [Hp]; · iexists _; iexact Hp
    iexists ∅; iexact HO
  · intro c s'
    iintro ⟨⟨Hh, -⟩, HSI⟩
    unfold StableHlo.held
    imodintro
    iapply (pointsTo_read_all (Pipeline.ucRefs τ sig) (fun b => (((c : Thread nD τ)).1, b)) (W c) s')
    isplitl [Hh] <;> iassumption
  · exact fun s h hz => ⟨h, hz⟩

end Cert.Opt

end
-- ==== Proof.Opt.K20.lean ====
/- The output projections' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel20Ideal.Frame
public import proofs.«01_k».proof.Proof.Gen.Reference20Ideal.Read

@[expose] public section

set_option maxRecDepth 16384

noncomputable section

namespace Cert.Kernel20Ideal.Value

open Cert.Kernel20Ideal Cert.Kernel20Ideal.Gen Idealize.ShloMosaic Idealize.ShloMosaic.TcCoe Idealize.SL.Sem Idealize.ShloMosaic.ValueIdx
open Cert.Opt

/-- A block's four results. -/
theorem outs (p : Vec Ideal S8x128x1024 .bf16) (w m v : Vec Ideal S1x128x1024 .f32) :
    out0_4 p w m v = total p ∧ out0_5 p w m v = change (One 128 1024) (total p) w m v
      ∧ out0_6 p w m v = mean (One 128 1024) (total p) m ∧ out0_7 p w m v = square (One 128 1024) (total p) v := by
  unfold out0_4 out0_5 out0_6 out0_7
  simp only [View.canon_unit_zero (S := S1x128x1024) zeros, View.ld_unit_zero (S := S1x128x1024) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 3 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 1024) (R := 128) (T := 128) 1 fun t : Fin cfg0.N => ((cfg0.win 4).blk t).view.emb :=
  .of (fun t a => win0_4.index t a) (fun t => (places0 t).2) fun _ _ => ⟨rfl, rfl, rfl⟩

theorem reads0 : Reads (C := 1024) (T := 128) 3 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x128x1024.Idx) (h : (i 0).val = 1) : ∃ t : Fin cfg0.N, i ∈ ((cfg0.win 4).blk t).view.set :=
  let ⟨t, _, e⟩ := lies0.reaches (by rw [show cfg0.N = 1 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 3 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 1024) (R := 128) (T := 128) 0 fun t : Fin cfg1.N => ((cfg1.win 4).blk t).view.emb :=
  .of (fun t a => win1_4.index t a) (fun t => (places1 t).2) fun _ _ => ⟨rfl, rfl, rfl⟩

theorem reads1 : Reads (C := 1024) (T := 128) 3 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x128x1024.Idx) (h : (i 0).val = 0) : ∃ t : Fin cfg1.N, i ∈ ((cfg1.win 4).blk t).view.set :=
  let ⟨t, _, e⟩ := lies1.reaches (by rw [show cfg1.N = 1 from N_1]) i h
  ⟨t, e ▸ View.emb_mem_set _ _⟩

/-- The gradient of both layers, of what the launches find in their arguments. -/
abbrev grad : FVec Ideal S2x128x1024 .f32 :=
  both (Cert.Reference20Ideal.Read.val_main_v0 (F := Ideal) (V c main_arg1)) (Cert.Reference20Ideal.Read.val_main_v3 (F := Ideal) (V c main_arg0))

/-- Both layers' first moments. -/
abbrev moment : FVec Ideal S2x128x1024 .f32 := mean S2x128x1024 (grad V c) (V c main_arg3)

/-- Both layers' second moments. -/
abbrev second : FVec Ideal S2x128x1024 .f32 := square S2x128x1024 (grad V c) (V c main_arg4)

/-- Both layers' changes. -/
abbrev step : FVec Ideal S2x128x1024 .f32 := change S2x128x1024 (grad V c) (V c main_arg2) (V c main_arg3) (V c main_arg4)

theorem grad_block0 (t : Fin cfg0.N) (y : S1x128x1024.Idx) : total (iblk0 V c 0 t) y = grad V c (((cfg0.win 4).blk t).view.emb y) :=
  total_second _ _ _ _ _ (lies0.layer t y) (reads0 V c |>.slice lies0 (by decide) _ t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x128x1024.Idx) : total (iblk1 V c 0 t) y = grad V c (((cfg1.win 4).blk t).view.emb y) :=
  total_first _ _ _ _ _ (lies1.layer t y) (reads1 V c |>.slice lies1 (by decide) _ t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 128) (C := 1024)) (congrArg (Cert.Reference20Ideal.Read.val_main_v0 (F := Ideal)) (same c m ρ main_arg1 (by decide)))
    (congrArg (Cert.Reference20Ideal.Read.val_main_v3 (F := Ideal)) (same c m ρ main_arg0 (by decide)))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x128x1024) (grad_same c m ρ) (same c m ρ main_arg3 (by decide)),
    congrArg₂ (square S2x128x1024) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x128x1024.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel20Ideal.Value

end
-- ==== Proof.Opt.K21.lean ====
/- The attention branch's output weights' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel21Ideal.Frame
public import proofs.«01_k».proof.Proof.Gen.Reference21Ideal.Read

@[expose] public section

set_option maxRecDepth 16384

noncomputable section

namespace Cert.Kernel21Ideal.Value

open Cert.Kernel21Ideal Cert.Kernel21Ideal.Gen Idealize.ShloMosaic Idealize.ShloMosaic.TcCoe Idealize.SL.Sem Idealize.ShloMosaic.ValueIdx
open Cert.Opt

/-- A block's four results. -/
theorem outs (p : Vec Ideal S8x128x1024 .bf16) (w m v : Vec Ideal S1x128x1024 .f32) :
    out0_4 p w m v = total p ∧ out0_5 p w m v = change (One 128 1024) (total p) w m v
      ∧ out0_6 p w m v = mean (One 128 1024) (total p) m ∧ out0_7 p w m v = square (One 128 1024) (total p) v := by
  unfold out0_4 out0_5 out0_6 out0_7
  simp only [View.canon_unit_zero (S := S1x128x1024) zeros, View.ld_unit_zero (S := S1x128x1024) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 2 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 1024) (R := 128) (T := 128) 1 fun t : Fin cfg0.N => ((cfg0.win 4).blk t).view.emb :=
  .of (fun t a => win0_4.index t a) (fun t => (places0 t).2) fun _ _ => ⟨rfl, rfl, rfl⟩

theorem reads0 : Reads (C := 1024) (T := 128) 2 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x128x1024.Idx) (h : (i 0).val = 1) : ∃ t : Fin cfg0.N, i ∈ ((cfg0.win 4).blk t).view.set :=
  let ⟨t, _, e⟩ := lies0.reaches (by rw [show cfg0.N = 1 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 2 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 1024) (R := 128) (T := 128) 0 fun t : Fin cfg1.N => ((cfg1.win 4).blk t).view.emb :=
  .of (fun t a => win1_4.index t a) (fun t => (places1 t).2) fun _ _ => ⟨rfl, rfl, rfl⟩

theorem reads1 : Reads (C := 1024) (T := 128) 2 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x128x1024.Idx) (h : (i 0).val = 0) : ∃ t : Fin cfg1.N, i ∈ ((cfg1.win 4).blk t).view.set :=
  let ⟨t, _, e⟩ := lies1.reaches (by rw [show cfg1.N = 1 from N_1]) i h
  ⟨t, e ▸ View.emb_mem_set _ _⟩

/-- The gradient of both layers, of what the launches find in their arguments. -/
abbrev grad : FVec Ideal S2x128x1024 .f32 :=
  both (Cert.Reference21Ideal.Read.val_main_v0 (F := Ideal) (V c main_arg1)) (Cert.Reference21Ideal.Read.val_main_v3 (F := Ideal) (V c main_arg0))

/-- Both layers' first moments. -/
abbrev moment : FVec Ideal S2x128x1024 .f32 := mean S2x128x1024 (grad V c) (V c main_arg3)

/-- Both layers' second moments. -/
abbrev second : FVec Ideal S2x128x1024 .f32 := square S2x128x1024 (grad V c) (V c main_arg4)

/-- Both layers' changes. -/
abbrev step : FVec Ideal S2x128x1024 .f32 := change S2x128x1024 (grad V c) (V c main_arg2) (V c main_arg3) (V c main_arg4)

theorem grad_block0 (t : Fin cfg0.N) (y : S1x128x1024.Idx) : total (iblk0 V c 0 t) y = grad V c (((cfg0.win 4).blk t).view.emb y) :=
  total_second _ _ _ _ _ (lies0.layer t y) (reads0 V c |>.slice lies0 (by decide) _ t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x128x1024.Idx) : total (iblk1 V c 0 t) y = grad V c (((cfg1.win 4).blk t).view.emb y) :=
  total_first _ _ _ _ _ (lies1.layer t y) (reads1 V c |>.slice lies1 (by decide) _ t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 128) (C := 1024)) (congrArg (Cert.Reference21Ideal.Read.val_main_v0 (F := Ideal)) (same c m ρ main_arg1 (by decide)))
    (congrArg (Cert.Reference21Ideal.Read.val_main_v3 (F := Ideal)) (same c m ρ main_arg0 (by decide)))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x128x1024) (grad_same c m ρ) (same c m ρ main_arg3 (by decide)),
    congrArg₂ (square S2x128x1024) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x128x1024.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel21Ideal.Value

end
-- ==== Proof.Opt.K22.lean ====
/- The state-space branch's output weights' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel22Ideal.Frame
public import proofs.«01_k».proof.Proof.Gen.Reference22Ideal.Read

@[expose] public section

set_option maxRecDepth 16384

noncomputable section

namespace Cert.Kernel22Ideal.Value

open Cert.Kernel22Ideal Cert.Kernel22Ideal.Gen Idealize.ShloMosaic Idealize.ShloMosaic.TcCoe Idealize.SL.Sem Idealize.ShloMosaic.ValueIdx
open Cert.Opt

/-- A block's four results. -/
theorem outs (p : Vec Ideal S8x128x1024 .bf16) (w m v : Vec Ideal S1x128x1024 .f32) :
    out0_4 p w m v = total p ∧ out0_5 p w m v = change (One 128 1024) (total p) w m v
      ∧ out0_6 p w m v = mean (One 128 1024) (total p) m ∧ out0_7 p w m v = square (One 128 1024) (total p) v := by
  unfold out0_4 out0_5 out0_6 out0_7
  simp only [View.canon_unit_zero (S := S1x128x1024) zeros, View.ld_unit_zero (S := S1x128x1024) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 0 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 1024) (R := 256) (T := 128) 1 fun t : Fin cfg0.N => ((cfg0.win 4).blk t).view.emb :=
  .of (fun t a => win0_4.index t a) (fun t => (places0 t).2) fun _ _ => ⟨rfl, rfl, rfl⟩

theorem reads0 : Reads (C := 1024) (T := 128) 0 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x256x1024.Idx) (h : (i 0).val = 1) : ∃ t : Fin cfg0.N, i ∈ ((cfg0.win 4).blk t).view.set :=
  let ⟨t, _, e⟩ := lies0.reaches (by rw [show cfg0.N = 2 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 0 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 1024) (R := 256) (T := 128) 0 fun t : Fin cfg1.N => ((cfg1.win 4).blk t).view.emb :=
  .of (fun t a => win1_4.index t a) (fun t => (places1 t).2) fun _ _ => ⟨rfl, rfl, rfl⟩

theorem reads1 : Reads (C := 1024) (T := 128) 0 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x256x1024.Idx) (h : (i 0).val = 0) : ∃ t : Fin cfg1.N, i ∈ ((cfg1.win 4).blk t).view.set :=
  let ⟨t, _, e⟩ := lies1.reaches (by rw [show cfg1.N = 2 from N_1]) i h
  ⟨t, e ▸ View.emb_mem_set _ _⟩

/-- The gradient of both layers, of what the launches find in their arguments. -/
abbrev grad : FVec Ideal S2x256x1024 .f32 :=
  both (Cert.Reference22Ideal.Read.val_main_v0 (F := Ideal) (V c main_arg1)) (Cert.Reference22Ideal.Read.val_main_v3 (F := Ideal) (V c main_arg0))

/-- Both layers' first moments. -/
abbrev moment : FVec Ideal S2x256x1024 .f32 := mean S2x256x1024 (grad V c) (V c main_arg3)

/-- Both layers' second moments. -/
abbrev second : FVec Ideal S2x256x1024 .f32 := square S2x256x1024 (grad V c) (V c main_arg4)

/-- Both layers' changes. -/
abbrev step : FVec Ideal S2x256x1024 .f32 := change S2x256x1024 (grad V c) (V c main_arg2) (V c main_arg3) (V c main_arg4)

theorem grad_block0 (t : Fin cfg0.N) (y : S1x128x1024.Idx) : total (iblk0 V c 0 t) y = grad V c (((cfg0.win 4).blk t).view.emb y) :=
  total_second _ _ _ _ _ (lies0.layer t y) (reads0 V c |>.slice lies0 (by decide) _ t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x128x1024.Idx) : total (iblk1 V c 0 t) y = grad V c (((cfg1.win 4).blk t).view.emb y) :=
  total_first _ _ _ _ _ (lies1.layer t y) (reads1 V c |>.slice lies1 (by decide) _ t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 256) (C := 1024)) (congrArg (Cert.Reference22Ideal.Read.val_main_v0 (F := Ideal)) (same c m ρ main_arg1 (by decide)))
    (congrArg (Cert.Reference22Ideal.Read.val_main_v3 (F := Ideal)) (same c m ρ main_arg0 (by decide)))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x256x1024) (grad_same c m ρ) (same c m ρ main_arg3 (by decide)),
    congrArg₂ (square S2x256x1024) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x256x1024.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel22Ideal.Value

end
-- ==== Proof.Opt.K23.lean ====
/- The second feed-forward weights' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel23Ideal.Frame
public import proofs.«01_k».proof.Proof.Gen.Reference23Ideal.Read

@[expose] public section

set_option maxRecDepth 16384

noncomputable section

namespace Cert.Kernel23Ideal.Value

open Cert.Kernel23Ideal Cert.Kernel23Ideal.Gen Idealize.ShloMosaic Idealize.ShloMosaic.TcCoe Idealize.SL.Sem Idealize.ShloMosaic.ValueIdx
open Cert.Opt

/-- A block's four results. -/
theorem outs (p : Vec Ideal S8x128x1024 .bf16) (w m v : Vec Ideal S1x128x1024 .f32) :
    out0_4 p w m v = total p ∧ out0_5 p w m v = change (One 128 1024) (total p) w m v
      ∧ out0_6 p w m v = mean (One 128 1024) (total p) m ∧ out0_7 p w m v = square (One 128 1024) (total p) v := by
  unfold out0_4 out0_5 out0_6 out0_7
  simp only [View.canon_unit_zero (S := S1x128x1024) zeros, View.ld_unit_zero (S := S1x128x1024) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 4 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 1024) (R := 512) (T := 128) 1 fun t : Fin cfg0.N => ((cfg0.win 4).blk t).view.emb :=
  .of (fun t a => win0_4.index t a) (fun t => (places0 t).2) fun _ _ => ⟨rfl, rfl, rfl⟩

theorem reads0 : Reads (C := 1024) (T := 128) 4 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x512x1024.Idx) (h : (i 0).val = 1) : ∃ t : Fin cfg0.N, i ∈ ((cfg0.win 4).blk t).view.set :=
  let ⟨t, _, e⟩ := lies0.reaches (by rw [show cfg0.N = 4 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 4 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 1024) (R := 512) (T := 128) 0 fun t : Fin cfg1.N => ((cfg1.win 4).blk t).view.emb :=
  .of (fun t a => win1_4.index t a) (fun t => (places1 t).2) fun _ _ => ⟨rfl, rfl, rfl⟩

theorem reads1 : Reads (C := 1024) (T := 128) 4 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x512x1024.Idx) (h : (i 0).val = 0) : ∃ t : Fin cfg1.N, i ∈ ((cfg1.win 4).blk t).view.set :=
  let ⟨t, _, e⟩ := lies1.reaches (by rw [show cfg1.N = 4 from N_1]) i h
  ⟨t, e ▸ View.emb_mem_set _ _⟩

/-- The gradient of both layers, of what the launches find in their arguments. -/
abbrev grad : FVec Ideal S2x512x1024 .f32 :=
  both (Cert.Reference23Ideal.Read.val_main_v0 (F := Ideal) (V c main_arg1)) (Cert.Reference23Ideal.Read.val_main_v3 (F := Ideal) (V c main_arg0))

/-- Both layers' first moments. -/
abbrev moment : FVec Ideal S2x512x1024 .f32 := mean S2x512x1024 (grad V c) (V c main_arg3)

/-- Both layers' second moments. -/
abbrev second : FVec Ideal S2x512x1024 .f32 := square S2x512x1024 (grad V c) (V c main_arg4)

/-- Both layers' changes. -/
abbrev step : FVec Ideal S2x512x1024 .f32 := change S2x512x1024 (grad V c) (V c main_arg2) (V c main_arg3) (V c main_arg4)

theorem grad_block0 (t : Fin cfg0.N) (y : S1x128x1024.Idx) : total (iblk0 V c 0 t) y = grad V c (((cfg0.win 4).blk t).view.emb y) :=
  total_second _ _ _ _ _ (lies0.layer t y) (reads0 V c |>.slice lies0 (by decide) _ t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x128x1024.Idx) : total (iblk1 V c 0 t) y = grad V c (((cfg1.win 4).blk t).view.emb y) :=
  total_first _ _ _ _ _ (lies1.layer t y) (reads1 V c |>.slice lies1 (by decide) _ t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 512) (C := 1024)) (congrArg (Cert.Reference23Ideal.Read.val_main_v0 (F := Ideal)) (same c m ρ main_arg1 (by decide)))
    (congrArg (Cert.Reference23Ideal.Read.val_main_v3 (F := Ideal)) (same c m ρ main_arg0 (by decide)))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x512x1024) (grad_same c m ρ) (same c m ρ main_arg3 (by decide)),
    congrArg₂ (square S2x512x1024) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x512x1024.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel23Ideal.Value

end
-- ==== Proof.Opt.K24.lean ====
/- The input projections' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel24Ideal.Frame
public import proofs.«01_k».proof.Proof.Gen.Reference24Ideal.Read

@[expose] public section

set_option maxRecDepth 16384

noncomputable section

namespace Cert.Kernel24Ideal.Value

open Cert.Kernel24Ideal Cert.Kernel24Ideal.Gen Idealize.ShloMosaic Idealize.ShloMosaic.TcCoe Idealize.SL.Sem Idealize.ShloMosaic.ValueIdx
open Cert.Opt

/-- A block's four results. -/
theorem outs (p : Vec Ideal S8x256x1224 .bf16) (w m v : Vec Ideal S1x256x1224 .f32) :
    out0_4 p w m v = total p ∧ out0_5 p w m v = change (One 256 1224) (total p) w m v
      ∧ out0_6 p w m v = mean (One 256 1224) (total p) m ∧ out0_7 p w m v = square (One 256 1224) (total p) v := by
  unfold out0_4 out0_5 out0_6 out0_7
  simp only [View.canon_unit_zero (S := S1x256x1224) zeros, View.ld_unit_zero (S := S1x256x1224) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 0 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 1224) (R := 1024) (T := 256) 1 fun t : Fin cfg0.N => ((cfg0.win 4).blk t).view.emb :=
  .of (fun t a => win0_4.index t a) (fun t => (places0 t).2) fun _ _ => ⟨rfl, rfl, rfl⟩

theorem reads0 : Reads (C := 1224) (T := 256) 0 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x1024x1224.Idx) (h : (i 0).val = 1) : ∃ t : Fin cfg0.N, i ∈ ((cfg0.win 4).blk t).view.set :=
  let ⟨t, _, e⟩ := lies0.reaches (by rw [show cfg0.N = 4 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 0 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 1224) (R := 1024) (T := 256) 0 fun t : Fin cfg1.N => ((cfg1.win 4).blk t).view.emb :=
  .of (fun t a => win1_4.index t a) (fun t => (places1 t).2) fun _ _ => ⟨rfl, rfl, rfl⟩

theorem reads1 : Reads (C := 1224) (T := 256) 0 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x1024x1224.Idx) (h : (i 0).val = 0) : ∃ t : Fin cfg1.N, i ∈ ((cfg1.win 4).blk t).view.set :=
  let ⟨t, _, e⟩ := lies1.reaches (by rw [show cfg1.N = 4 from N_1]) i h
  ⟨t, e ▸ View.emb_mem_set _ _⟩

/-- The gradient of both layers, of what the launches find in their arguments. -/
abbrev grad : FVec Ideal S2x1024x1224 .f32 :=
  both (V c main_arg1) (V c main_arg0)

/-- Both layers' first moments. -/
abbrev moment : FVec Ideal S2x1024x1224 .f32 := mean S2x1024x1224 (grad V c) (V c main_arg3)

/-- Both layers' second moments. -/
abbrev second : FVec Ideal S2x1024x1224 .f32 := square S2x1024x1224 (grad V c) (V c main_arg4)

/-- Both layers' changes. -/
abbrev step : FVec Ideal S2x1024x1224 .f32 := change S2x1024x1224 (grad V c) (V c main_arg2) (V c main_arg3) (V c main_arg4)

theorem grad_block0 (t : Fin cfg0.N) (y : S1x256x1224.Idx) : total (iblk0 V c 0 t) y = grad V c (((cfg0.win 4).blk t).view.emb y) :=
  total_second _ _ _ _ _ (lies0.layer t y) (reads0 V c |>.whole lies0 t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x256x1224.Idx) : total (iblk1 V c 0 t) y = grad V c (((cfg1.win 4).blk t).view.emb y) :=
  total_first _ _ _ _ _ (lies1.layer t y) (reads1 V c |>.whole lies1 t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 1024) (C := 1224)) (same c m ρ main_arg1 (by decide)) (same c m ρ main_arg0 (by decide))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x1024x1224) (grad_same c m ρ) (same c m ρ main_arg3 (by decide)),
    congrArg₂ (square S2x1024x1224) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x1024x1224.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel24Ideal.Value

end
-- ==== Proof.Opt.K25.lean ====
/- The first feed-forward weights' optimiser step: what each layer's launch writes, and the arrays after both. -/
module

public import proofs.«01_k».proof.Proof.Opt.Layer
public import proofs.«01_k».proof.Proof.Opt.Launch
public import Idealize.ShloMosaic.Lib.StableHlo.RunRead
public import proofs.«01_k».proof.Proof.Gen.Kernel25Ideal.Frame
public import proofs.«01_k».proof.Proof.Gen.Reference25Ideal.Read

@[expose] public section

set_option maxRecDepth 16384

noncomputable section

namespace Cert.Kernel25Ideal.Value

open Cert.Kernel25Ideal Cert.Kernel25Ideal.Gen Idealize.ShloMosaic Idealize.ShloMosaic.TcCoe Idealize.SL.Sem Idealize.ShloMosaic.ValueIdx
open Cert.Opt

/-- A block's four results. -/
theorem outs (p : Vec Ideal S8x256x512 .bf16) (w m v : Vec Ideal S1x256x512 .f32) :
    out0_4 p w m v = total p ∧ out0_5 p w m v = change (One 256 512) (total p) w m v
      ∧ out0_6 p w m v = mean (One 256 512) (total p) m ∧ out0_7 p w m v = square (One 256 512) (total p) v := by
  unfold out0_4 out0_5 out0_6 out0_7
  simp only [View.canon_unit_zero (S := S1x256x512) zeros, View.ld_unit_zero (S := S1x256x512) zeros]
  exact block_eq p _ _ _ w m v _ _ _ _ _ _ _ _ rfl

variable (V : (c : Dev nD) → (b : Ref sig .tc) → Buf (Elt Ideal) ((c : Thread nD τ).loc b)) (c : Dev nD)

/-- The second launch writes what the first would of the same blocks. -/
theorem outs_eq (t : Fin cfg1.N) : outsAt1 V c t
    = (out0_4 (iblk1 V c 0 t) (iblk1 V c 1 t) (iblk1 V c 2 t) (iblk1 V c 3 t), out0_5 (iblk1 V c 0 t) (iblk1 V c 1 t) (iblk1 V c 2 t) (iblk1 V c 3 t),
       out0_6 (iblk1 V c 0 t) (iblk1 V c 1 t) (iblk1 V c 2 t) (iblk1 V c 3 t), out0_7 (iblk1 V c 0 t) (iblk1 V c 1 t) (iblk1 V c 2 t) (iblk1 V c 3 t)) := by
  unfold outsAt1 out1_A_4 out1_A_5 out1_A_6 out1_A_7
  simp only [View.read_writes_eq_canon _ _ _ (cover1_A_4 c _ _ _ _ _ _ _ _ _ _ _ _ _ _ _ _ _ _ _ _ _),
    View.read_writes_eq_canon _ _ _ (cover1_A_5 c _ _ _ _ _ _ _ _ _ _ _ _ _ _ _ _ _ _ _ _ _),
    View.read_writes_eq_canon _ _ _ (cover1_A_6 c _ _ _ _ _ _ _ _ _ _ _ _ _ _ _ _ _ _ _ _ _),
    View.read_writes_eq_canon _ _ _ (cover1_A_7 c _ _ _ _ _ _ _ _ _ _ _ _ _ _ _ _ _ _ _ _ _)]
  unfold kernelRun1_A; dsimp only
  sl_unfold_words
  simp only [View.readAt_eq_ld, (hs1_0 t).read_unread, (hs1_1 t).read_unread, (hs1_2 t).read_unread, (hs1_3 t).read_unread]
  rfl

/-- Which blocks a point of the first launch reads and writes. -/
theorem places0 : ∀ t : Fin cfg0.N, (win0_0.index t (0 : Fin 3) = 0 ∧ win0_0.index t (1 : Fin 3) = 0 + t.val ∧ win0_0.index t (2 : Fin 3) = 0)
    ∧ win0_4.index t (0 : Fin 3) = 1 ∧ win0_4.index t (1 : Fin 3) = t.val ∧ win0_4.index t (2 : Fin 3) = 0 :=
  (by decide +kernel : ∀ t : Fin grid0.N, _)

theorem lies0 : Lies (C := 512) (R := 1024) (T := 256) 1 fun t : Fin cfg0.N => ((cfg0.win 4).blk t).view.emb :=
  .of (fun t a => win0_4.index t a) (fun t => (places0 t).2) fun _ _ => ⟨rfl, rfl, rfl⟩

theorem reads0 : Reads (C := 512) (T := 256) 0 (iblk0 V c 0) (V c main_arg0) :=
  .of (fun t a => win0_0.index t a) (fun t => (places0 t).1) (fun t => ((cfg0.win 0).blk t).view.emb) (fun _ _ => rfl) fun _ _ => ⟨rfl, rfl, rfl⟩

/-- An entry of its layer is in one of its blocks. -/
theorem covered0 (i : S2x1024x512.Idx) (h : (i 0).val = 1) : ∃ t : Fin cfg0.N, i ∈ ((cfg0.win 4).blk t).view.set :=
  let ⟨t, _, e⟩ := lies0.reaches (by rw [show cfg0.N = 4 from N_0]) i h
  ⟨t, e ▸ View.emb_mem_set _ _⟩

/-- Which blocks a point of the second launch reads and writes. -/
theorem places1 : ∀ t : Fin cfg1.N, (win1_0.index t (0 : Fin 3) = 0 ∧ win1_0.index t (1 : Fin 3) = 0 + t.val ∧ win1_0.index t (2 : Fin 3) = 0)
    ∧ win1_4.index t (0 : Fin 3) = 0 ∧ win1_4.index t (1 : Fin 3) = t.val ∧ win1_4.index t (2 : Fin 3) = 0 :=
  (by decide +kernel : ∀ t : Fin grid1.N, _)

theorem lies1 : Lies (C := 512) (R := 1024) (T := 256) 0 fun t : Fin cfg1.N => ((cfg1.win 4).blk t).view.emb :=
  .of (fun t a => win1_4.index t a) (fun t => (places1 t).2) fun _ _ => ⟨rfl, rfl, rfl⟩

theorem reads1 : Reads (C := 512) (T := 256) 0 (iblk1 V c 0) (V c main_arg1) :=
  .of (fun t a => win1_0.index t a) (fun t => (places1 t).1) (fun t => ((cfg1.win 0).blk t).view.emb) (fun _ _ => rfl) fun _ _ => ⟨rfl, rfl, rfl⟩

/-- An entry of its layer is in one of its blocks. -/
theorem covered1 (i : S2x1024x512.Idx) (h : (i 0).val = 0) : ∃ t : Fin cfg1.N, i ∈ ((cfg1.win 4).blk t).view.set :=
  let ⟨t, _, e⟩ := lies1.reaches (by rw [show cfg1.N = 4 from N_1]) i h
  ⟨t, e ▸ View.emb_mem_set _ _⟩

/-- The gradient of both layers, of what the launches find in their arguments. -/
abbrev grad : FVec Ideal S2x1024x512 .f32 :=
  both (V c main_arg1) (V c main_arg0)

/-- Both layers' first moments. -/
abbrev moment : FVec Ideal S2x1024x512 .f32 := mean S2x1024x512 (grad V c) (V c main_arg3)

/-- Both layers' second moments. -/
abbrev second : FVec Ideal S2x1024x512 .f32 := square S2x1024x512 (grad V c) (V c main_arg4)

/-- Both layers' changes. -/
abbrev step : FVec Ideal S2x1024x512 .f32 := change S2x1024x512 (grad V c) (V c main_arg2) (V c main_arg3) (V c main_arg4)

theorem grad_block0 (t : Fin cfg0.N) (y : S1x256x512.Idx) : total (iblk0 V c 0 t) y = grad V c (((cfg0.win 4).blk t).view.emb y) :=
  total_second _ _ _ _ _ (lies0.layer t y) (reads0 V c |>.whole lies0 t y)

/-- What each point of the first launch writes back. -/
theorem flushed0 (t : Fin cfg0.N) : (dat0 V c).flushed 4 t = ((cfg0.win 4).blk t).view.read (Elt Ideal) (grad V c)
    ∧ (dat0 V c).flushed 5 t = ((cfg0.win 5).blk t).view.read (Elt Ideal) (step V c)
    ∧ (dat0 V c).flushed 6 t = ((cfg0.win 6).blk t).view.read (Elt Ideal) (moment V c)
    ∧ (dat0 V c).flushed 7 t = ((cfg0.win 7).blk t).view.read (Elt Ideal) (second V c) := by
  obtain ⟨o4, o5, o6, o7⟩ := outs (iblk0 V c 0 t) (iblk0 V c 1 t) (iblk0 V c 2 t) (iblk0 V c 3 t)
  have g := grad_block0 V c t
  refine ⟨funext fun y => ?_, funext fun y => ?_, funext fun y => ?_, funext fun y => ?_⟩
  · show (dat0 V c).after 4 t ((cfg0.win 4).xinj (grid0.coords t) y) = _
    rw [after0_4, o4]
    exact g y
  · show (dat0 V c).after 5 t ((cfg0.win 5).xinj (grid0.coords t) y) = _
    rw [after0_5, o5]
    exact change_at _ _ (g y) rfl rfl rfl
  · show (dat0 V c).after 6 t ((cfg0.win 6).xinj (grid0.coords t) y) = _
    rw [after0_6, o6]
    exact mean_at _ _ (g y) rfl
  · show (dat0 V c).after 7 t ((cfg0.win 7).xinj (grid0.coords t) y) = _
    rw [after0_7, o7]
    exact square_at _ _ (g y) rfl

theorem grad_block1 (t : Fin cfg1.N) (y : S1x256x512.Idx) : total (iblk1 V c 0 t) y = grad V c (((cfg1.win 4).blk t).view.emb y) :=
  total_first _ _ _ _ _ (lies1.layer t y) (reads1 V c |>.whole lies1 t y)

/-- What each point of the second launch writes back. -/
theorem flushed1 (t : Fin cfg1.N) : (dat1 V c).flushed 4 t = ((cfg1.win 4).blk t).view.read (Elt Ideal) (grad V c)
    ∧ (dat1 V c).flushed 5 t = ((cfg1.win 5).blk t).view.read (Elt Ideal) (step V c)
    ∧ (dat1 V c).flushed 6 t = ((cfg1.win 6).blk t).view.read (Elt Ideal) (moment V c)
    ∧ (dat1 V c).flushed 7 t = ((cfg1.win 7).blk t).view.read (Elt Ideal) (second V c) := by
  obtain ⟨o4, o5, o6, o7⟩ := outs (iblk1 V c 0 t) (iblk1 V c 1 t) (iblk1 V c 2 t) (iblk1 V c 3 t)
  have g := grad_block1 V c t
  refine ⟨funext fun y => ?_, funext fun y => ?_, funext fun y => ?_, funext fun y => ?_⟩
  · show (dat1 V c).after 4 t ((cfg1.win 4).xinj (grid1.coords t) y) = _
    rw [after1_4, outs_eq, o4]
    exact g y
  · show (dat1 V c).after 5 t ((cfg1.win 5).xinj (grid1.coords t) y) = _
    rw [after1_5, outs_eq, o5]
    exact change_at _ _ (g y) rfl rfl rfl
  · show (dat1 V c).after 6 t ((cfg1.win 6).xinj (grid1.coords t) y) = _
    rw [after1_6, outs_eq, o6]
    exact mean_at _ _ (g y) rfl
  · show (dat1 V c).after 7 t ((cfg1.win 7).xinj (grid1.coords t) y) = _
    rw [after1_7, outs_eq, o7]
    exact square_at _ _ (g y) rfl

variable (m : (ℓ : Loc nD τ sig) → Buf (Elt Ideal) ℓ) (ρ : Dev nD → PrngReg)

/-- The arguments are in the second launch what they were at the start. -/
theorem same (a : Ref sig .tc) (ha : a ∈ argRefs) : V2 m ρ c a = V0 m ρ c a :=
  (W2_args m ρ c a ha).trans (W0_args m ρ c a ha).symm

theorem grad_same : grad (V2 m ρ) c = grad (V0 m ρ) c :=
  congrArg₂ (both (R := 1024) (C := 512)) (same c m ρ main_arg1 (by decide)) (same c m ρ main_arg0 (by decide))

/-- So are the results wanted of them. -/
theorem wanted : step (V2 m ρ) c = step (V0 m ρ) c ∧ moment (V2 m ρ) c = moment (V0 m ρ) c ∧ second (V2 m ρ) c = second (V0 m ρ) c :=
  ⟨funext fun i => change_at i i (congrFun (grad_same c m ρ) i) (congrFun (same c m ρ main_arg2 (by decide)) i)
      (congrFun (same c m ρ main_arg3 (by decide)) i) (congrFun (same c m ρ main_arg4 (by decide)) i),
    congrArg₂ (mean S2x1024x512) (grad_same c m ρ) (same c m ρ main_arg3 (by decide)),
    congrArg₂ (square S2x1024x512) (grad_same c m ρ) (same c m ρ main_arg4 (by decide))⟩

/-- The second launch starts on copies of the first one's results. -/
theorem kept : V2 m ρ c main_v1_0 = V1 m ρ c main_v0_0 ∧ V2 m ρ c main_v1_1 = V1 m ρ c main_v0_1
    ∧ V2 m ρ c main_v1_2 = V1 m ρ c main_v0_2 ∧ V2 m ρ c main_v1_3 = V1 m ρ c main_v0_3 := by
  refine ⟨?_, ?_, ?_, ?_⟩ <;> (dsimp only [V2, V1, W2]; after_reads_simp; rfl)

/-- The second launch writes nothing of the second layer. -/
theorem untouched (i : S2x1024x512.Idx) (h : (i 0).val ≠ 0) (t : Fin cfg1.N) : i ∉ ((cfg1.win 4).blk t).view.set := fun hm =>
  let ⟨y, _, e⟩ := Finset.mem_map.mp hm
  h (e ▸ lies1.layer t y)

/-- The results after both launches. -/
theorem final : W3 m ρ c (Proc.devRef .tc main_v1_0) = grad (V0 m ρ) c ∧ W3 m ρ c (Proc.devRef .tc main_v1_1) = step (V0 m ρ) c
    ∧ W3 m ρ c (Proc.devRef .tc main_v1_2) = moment (V0 m ρ) c ∧ W3 m ρ c (Proc.devRef .tc main_v1_3) = second (V0 m ρ) c := by
  obtain ⟨k4, k5, k6, k7⟩ := kept c m ρ
  obtain ⟨s5, s6, s7⟩ := wanted c m ρ
  refine ⟨(W3_arr m ρ c 4).trans ?_, (W3_arr m ρ c 5).trans ?_, (W3_arr m ρ c 6).trans ?_, (W3_arr m ρ c 7).trans ?_⟩
  · exact joined
      (fun i h => let ⟨t, ht⟩ := covered1 i h
        ((dat1 (V2 m ρ) c).arrAt_apply_of_mem 4 _ (fun t _ => (flushed1 _ c t).1) cfg1.N t i t.isLt (flush1_4 t) ht).trans (congrFun (grad_same c m ρ) i))
      (fun i h => ((dat1 (V2 m ρ) c).arrAt_apply_of_forall_not_mem 4 cfg1.N i (fun t _ _ => untouched i h t)).trans
        (congrFun ((A_eq1 _ c 4).trans (k4.trans (W1_arr m ρ c 4))) i))
      (fun i h => let ⟨t, ht⟩ := covered0 i h
        (dat0 (V0 m ρ) c).arrAt_apply_of_mem 4 _ (fun t _ => (flushed0 _ c t).1) cfg0.N t i t.isLt (flush0_4 t) ht)
  · exact joined
      (fun i h => let ⟨t, ht⟩ := covered1 i h
        ((dat1 (V2 m ρ) c).arrAt_apply_of_mem 5 _ (fun t _ => (flushed1 _ c t).2.1) cfg1.N t i t.isLt (flush1_5 t) ht).trans (congrFun s5 i))
      (fun i h => ((dat1 (V2 m ρ) c).arrAt_apply_of_forall_not_mem 5 cfg1.N i (fun t _ _ => untouched i h t)).trans
        (congrFun ((A_eq1 _ c 5).trans (k5.trans (W1_arr m ρ c 5))) i))
      (fun i h => let ⟨t, ht⟩ := covered0 i h
        (dat0 (V0 m ρ) c).arrAt_apply_of_mem 5 _ (fun t _ => (flushed0 _ c t).2.1) cfg0.N t i t.isLt (flush0_5 t) ht)
  · exact joined
      (fun i h => let ⟨t, ht⟩ := covered1 i h
        ((dat1 (V2 m ρ) c).arrAt_apply_of_mem 6 _ (fun t _ => (flushed1 _ c t).2.2.1) cfg1.N t i t.isLt (flush1_6 t) ht).trans (congrFun s6 i))
      (fun i h => ((dat1 (V2 m ρ) c).arrAt_apply_of_forall_not_mem 6 cfg1.N i (fun t _ _ => untouched i h t)).trans
        (congrFun ((A_eq1 _ c 6).trans (k6.trans (W1_arr m ρ c 6))) i))
      (fun i h => let ⟨t, ht⟩ := covered0 i h
        (dat0 (V0 m ρ) c).arrAt_apply_of_mem 6 _ (fun t _ => (flushed0 _ c t).2.2.1) cfg0.N t i t.isLt (flush0_6 t) ht)
  · exact joined
      (fun i h => let ⟨t, ht⟩ := covered1 i h
        ((dat1 (V2 m ρ) c).arrAt_apply_of_mem 7 _ (fun t _ => (flushed1 _ c t).2.2.2) cfg1.N t i t.isLt (flush1_7 t) ht).trans (congrFun s7 i))
      (fun i h => ((dat1 (V2 m ρ) c).arrAt_apply_of_forall_not_mem 7 cfg1.N i (fun t _ _ => untouched i h t)).trans
        (congrFun ((A_eq1 _ c 7).trans (k7.trans (W1_arr m ρ c 7))) i))
      (fun i h => let ⟨t, ht⟩ := covered0 i h
        (dat0 (V0 m ρ) c).arrAt_apply_of_mem 7 _ (fun t _ => (flushed0 _ c t).2.2.2) cfg0.N t i t.isLt (flush0_7 t) ht)

/-- The optimiser step's results, of the memory it starts from. -/
theorem run : θ_run (defs (F := Ideal)) (onTc (τ := τ) (main (F := Ideal))) ⟨m, fun _ => 0, ρ⟩ (fun r => ∀ c : Dev nD,
    r.2.mem ((c.tc : Thread nD τ).loc main_v1_0) = grad (V0 m ρ) c
      ∧ r.2.mem ((c.tc : Thread nD τ).loc main_v1_1) = step (V0 m ρ) c
      ∧ r.2.mem ((c.tc : Thread nD τ).loc main_v1_2) = moment (V0 m ρ) c
      ∧ r.2.mem ((c.tc : Thread nD τ).loc main_v1_3) = second (V0 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c =>
    ⟨(h.1 c _ (mem_uc main_v1_0 (by decide))).trans (final c m ρ).1, (h.1 c _ (mem_uc main_v1_1 (by decide))).trans (final c m ρ).2.1,
     (h.1 c _ (mem_uc main_v1_2 (by decide))).trans (final c m ρ).2.2.1, (h.1 c _ (mem_uc main_v1_3 (by decide))).trans (final c m ρ).2.2.2,
     (h.1 c _ (mem_uc main_arg0 (by decide))).trans (W3_main_arg0 m ρ c), (h.1 c _ (mem_uc main_arg1 (by decide))).trans (W3_main_arg1 m ρ c),
     (h.1 c _ (mem_uc main_arg2 (by decide))).trans (W3_main_arg2 m ρ c), (h.1 c _ (mem_uc main_arg3 (by decide))).trans (W3_main_arg3 m ρ c),
     (h.1 c _ (mem_uc main_arg4 (by decide))).trans (W3_main_arg4 m ρ c)⟩)
    (ends (pcfgs (F := Ideal)) adm cellOf_inj defs₀ (pdats m ρ) m ρ main (segs m ρ) (main_run m ρ)
      (by simp only [segs, Pipeline.Seg.pipes_host, Pipeline.Seg.pipes_region, Pipeline.Seg.pipes_nil]; decide) (W3 m ρ)
      ⟨fun _ => .rfl, fun _ => .rfl, fun _ => .rfl, fun _ => .rfl⟩)

end Cert.Kernel25Ideal.Value

end
-- ==== Proof.Claims.Layers.lean ====
/- The optimiser's steps of the six large weights, both layers of each: their value claims. -/
module

public import proofs.«01_k».proof.Defs
public import proofs.«01_k».proof.Proof.Opt.K20
public import proofs.«01_k».proof.Proof.Gen.Reference20Ideal.Run
public import proofs.«01_k».proof.Proof.Opt.K21
public import proofs.«01_k».proof.Proof.Gen.Reference21Ideal.Run
public import proofs.«01_k».proof.Proof.Opt.K22
public import proofs.«01_k».proof.Proof.Gen.Reference22Ideal.Run
public import proofs.«01_k».proof.Proof.Opt.K23
public import proofs.«01_k».proof.Proof.Gen.Reference23Ideal.Run
public import proofs.«01_k».proof.Proof.Opt.K24
public import proofs.«01_k».proof.Proof.Gen.Reference24Ideal.Run
public import proofs.«01_k».proof.Proof.Opt.K25
public import proofs.«01_k».proof.Proof.Gen.Reference25Ideal.Run

@[expose] public section

noncomputable section

namespace Cert.Proof

open Idealize.ShloMosaic Idealize.SL.Sem Cert.Opt

/-- The claim of the output projections' step. -/
theorem algebraic_20 : Cert.algebraic_Kernel20Ideal_Reference20Ideal (hKernel20Ideal := Cert.Kernel20Ideal.Gen.facts) (hReference20Ideal := Cert.Reference20Ideal.Gen.facts) := by
  intro m g m' g' _ ha
  refine ⟨fun c => _, fun c => _, fun c => _, fun c => _, Cert.Kernel20Ideal.Value.run m g,
    (θ_run (Cert.Reference20Ideal.defs (F := Ideal)) _ _).mono (fun r h c => ⟨(h c).1.trans ?_, (h c).2.1.trans ?_, (h c).2.2.1.trans ?_, (h c).2.2.2.1.trans ?_, (h c).2.2.2.2⟩)
      (Cert.Reference20Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

/-- The claim of the attention branch's output weights' step. -/
theorem algebraic_21 : Cert.algebraic_Kernel21Ideal_Reference21Ideal (hKernel21Ideal := Cert.Kernel21Ideal.Gen.facts) (hReference21Ideal := Cert.Reference21Ideal.Gen.facts) := by
  intro m g m' g' _ ha
  refine ⟨fun c => _, fun c => _, fun c => _, fun c => _, Cert.Kernel21Ideal.Value.run m g,
    (θ_run (Cert.Reference21Ideal.defs (F := Ideal)) _ _).mono (fun r h c => ⟨(h c).1.trans ?_, (h c).2.1.trans ?_, (h c).2.2.1.trans ?_, (h c).2.2.2.1.trans ?_, (h c).2.2.2.2⟩)
      (Cert.Reference21Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

/-- The claim of the state-space branch's output weights' step. -/
theorem algebraic_22 : Cert.algebraic_Kernel22Ideal_Reference22Ideal (hKernel22Ideal := Cert.Kernel22Ideal.Gen.facts) (hReference22Ideal := Cert.Reference22Ideal.Gen.facts) := by
  intro m g m' g' _ ha
  refine ⟨fun c => _, fun c => _, fun c => _, fun c => _, Cert.Kernel22Ideal.Value.run m g,
    (θ_run (Cert.Reference22Ideal.defs (F := Ideal)) _ _).mono (fun r h c => ⟨(h c).1.trans ?_, (h c).2.1.trans ?_, (h c).2.2.1.trans ?_, (h c).2.2.2.1.trans ?_, (h c).2.2.2.2⟩)
      (Cert.Reference22Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

/-- The claim of the second feed-forward weights' step. -/
theorem algebraic_23 : Cert.algebraic_Kernel23Ideal_Reference23Ideal (hKernel23Ideal := Cert.Kernel23Ideal.Gen.facts) (hReference23Ideal := Cert.Reference23Ideal.Gen.facts) := by
  intro m g m' g' _ ha
  refine ⟨fun c => _, fun c => _, fun c => _, fun c => _, Cert.Kernel23Ideal.Value.run m g,
    (θ_run (Cert.Reference23Ideal.defs (F := Ideal)) _ _).mono (fun r h c => ⟨(h c).1.trans ?_, (h c).2.1.trans ?_, (h c).2.2.1.trans ?_, (h c).2.2.2.1.trans ?_, (h c).2.2.2.2⟩)
      (Cert.Reference23Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

/-- The claim of the input projections' step. -/
theorem algebraic_24 : Cert.algebraic_Kernel24Ideal_Reference24Ideal (hKernel24Ideal := Cert.Kernel24Ideal.Gen.facts) (hReference24Ideal := Cert.Reference24Ideal.Gen.facts) := by
  intro m g m' g' _ ha
  refine ⟨fun c => _, fun c => _, fun c => _, fun c => _, Cert.Kernel24Ideal.Value.run m g,
    (θ_run (Cert.Reference24Ideal.defs (F := Ideal)) _ _).mono (fun r h c => ⟨(h c).1.trans ?_, (h c).2.1.trans ?_, (h c).2.2.1.trans ?_, (h c).2.2.2.1.trans ?_, (h c).2.2.2.2⟩)
      (Cert.Reference24Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

/-- The claim of the first feed-forward weights' step. -/
theorem algebraic_25 : Cert.algebraic_Kernel25Ideal_Reference25Ideal (hKernel25Ideal := Cert.Kernel25Ideal.Gen.facts) (hReference25Ideal := Cert.Reference25Ideal.Gen.facts) := by
  intro m g m' g' _ ha
  refine ⟨fun c => _, fun c => _, fun c => _, fun c => _, Cert.Kernel25Ideal.Value.run m g,
    (θ_run (Cert.Reference25Ideal.defs (F := Ideal)) _ _).mono (fun r h c => ⟨(h c).1.trans ?_, (h c).2.1.trans ?_, (h c).2.2.1.trans ?_, (h c).2.2.2.1.trans ?_, (h c).2.2.2.2⟩)
      (Cert.Reference25Ideal.Value.run m' g')⟩
  · rw [(ha c).1, (ha c).2.1]
    exact both_host _ _ _ _ _ _ _
  · rw [(ha c).1, (ha c).2.1, (ha c).2.2.1, (ha c).2.2.2.1, (ha c).2.2.2.2]
    exact (change_host _ _ _ _ _ _ _).trans (congrArg (fun z => change _ z _ _ _) (both_host _ _ _ _ _ _ _))
  · rw [(ha c).1, (ha c).2.1, (ha c).2.2.2.1]
    exact (mean_host _ _ _ _ _).trans (congrArg (fun z => mean _ z _) (both_host _ _ _ _ _ _ _))
  · rw [(ha c).1, (ha c).2.1, (ha c).2.2.2.2]
    exact (square_host _ _ _ _ _).trans (congrArg (fun z => square _ z _) (both_host _ _ _ _ _ _ _))

end Cert.Proof

end
-- ==== Proof.Head.Total.lean ====
/- The loss as one sum: how the kernel's order of adding the squared differences and its one constant meet the reference's mean of every row. -/
module

public import Idealize.ShloMosaic.PureOps.Ideal.Laws
public import Idealize.ShloMosaic.Lib.IdealHost
public import Idealize.ShloMosaic.Lib.Pipeline.Value
public import proofs.«01_k».proof.Proof.Prod.Sums

@[expose] public section

noncomputable section

namespace Cert.Head

open Idealize.ShloMosaic Idealize.ShloMosaic.ValueIdx
open Cert.Prod
open scoped BigOperators

/-- A half, as its bits. -/
theorem half : Ideal.ofBits .f32 0x3F000000#32 = ((1 / 2 : ℝ) : EReal) := by
  simp [Ideal.ofBits, Ideal.ieee, -EReal.coe_mul]; norm_num

/-- Two, as its bits. -/
theorem two : Ideal.ofBits .f32 0x40000000#32 = ((2 : ℝ) : EReal) := by
  simp [Ideal.ofBits, Ideal.ieee, -EReal.coe_mul]; norm_num

/-- The number of features, as its bits. -/
theorem features : Ideal.ofBits .f32 0x44800000#32 = ((1024 : ℝ) : EReal) := by
  simp [Ideal.ofBits, Ideal.ieee, -EReal.coe_mul]; norm_num

/-- One over the number of features, as its bits. -/
theorem feature : Ideal.ofBits .f32 0x3A800000#32 = ((1 / 1024 : ℝ) : EReal) := by
  simp [Ideal.ofBits, Ideal.ieee, -EReal.coe_mul]; norm_num

/-- Half of one over the number of features, as its bits. -/
theorem halfFeature : Ideal.ofBits .f32 0x3A000000#32 = ((1 / 2048 : ℝ) : EReal) := by
  simp [Ideal.ofBits, Ideal.ieee, -EReal.coe_mul]; norm_num

/-- Division by the number of features is a product with one over it. -/
theorem div_features (x : EReal) : Ideal.div x ((1024 : ℝ) : EReal) = x * ((1 / 1024 : ℝ) : EReal) := by
  unfold Ideal.div
  rw [if_neg (by exact_mod_cast (by norm_num : (1024 : ℝ) ≠ 0)), ← EReal.coe_inv, one_div]

/-- A product with a number that is not negative goes into a sum. -/
theorem sum_scale (c : ℝ) (hc : 0 ≤ c) (f : ℕ → EReal) (n : ℕ) :
    ∑ i ∈ Finset.range n, f i * (c : EReal) = (∑ i ∈ Finset.range n, f i) * (c : EReal) := by
  induction n with
  | zero => simp
  | succ n ih =>
    rw [Finset.sum_range_succ, Finset.sum_range_succ, ih,
      EReal.right_distrib_of_nonneg_of_ne_top (by exact_mod_cast hc) (EReal.coe_ne_top c)]

/-- Half the sum of the rows' means is the sum of everything times half of one over the number of features. -/
theorem half_means (f : ℕ → EReal) (n : ℕ) :
    ((1 / 2 : ℝ) : EReal) * ∑ i ∈ Finset.range n, Ideal.div (f i) ((1024 : ℝ) : EReal)
      = ((1 / 2048 : ℝ) : EReal) * ∑ i ∈ Finset.range n, f i := by
  rw [Finset.sum_congr rfl fun i _ => div_features (f i), sum_scale _ (by norm_num), mul_comm (∑ i ∈ _, f i), ← mul_assoc, ← EReal.coe_mul]
  norm_num

/-- The gradient's two ways: the kernel's one product, and the reference's of half a feature's share with twice the difference. -/
theorem slope (e : EReal) :
    e * ((1 / 1024 : ℝ) : EReal) = Ideal.div (((1 / 2 : ℝ) : EReal) * 1) ((1024 : ℝ) : EReal) * (((2 : ℝ) : EReal) * e) := by
  rw [div_features, mul_one, ← mul_assoc, ← EReal.coe_mul, ← EReal.coe_mul, mul_comm e]
  norm_num

/-- A sum over blocks of `T` places, each block's places summed, is the sum over all places. -/
theorem sum_blocks (f : ℕ → EReal) (T n : ℕ) :
    ∑ j ∈ Finset.range n, ∑ l ∈ Finset.range T, f (T * j + l) = ∑ q ∈ Finset.range (T * n), f q := by
  induction n with
  | zero => simp
  | succ n ih => rw [Finset.sum_range_succ, ih, sum_more, Nat.mul_succ]

/-- Eight terms, added one after the other. -/
theorem sum_eight (g : ℕ → EReal) : ∑ j ∈ Finset.range 8, g j = g 0 + g 1 + g 2 + g 3 + g 4 + g 5 + g 6 + g 7 := by
  simp [Finset.sum_range_succ]

/-- The lanes' sums, each over the rows and the lane's columns, add up to the sum over the rows of whole rows. -/
theorem sum_lanes (f : ℕ → ℕ → EReal) (R n T : ℕ) :
    ∑ l ∈ Finset.range T, ∑ k ∈ Finset.range R, ∑ j ∈ Finset.range n, f k (T * j + l)
      = ∑ k ∈ Finset.range R, ∑ q ∈ Finset.range (T * n), f k q := by
  rw [Finset.sum_comm]
  exact Finset.sum_congr rfl fun k _ => (Finset.sum_comm).trans (sum_blocks (f k) T n)

end Cert.Head

end
-- ==== Proof.Head.K26.lean ====
/- The loss's head: the gradient of the last layer's output and the loss, of what the kernel's two arrays hold after its run. -/
module

public import proofs.«01_k».proof.Proof.Head.Total
public import Idealize.ShloMosaic.Lib.Pipeline.Value
public import Idealize.ShloMosaic.Lib.Pipeline.ValueKit.Acc
public import Idealize.ShloMosaic.Lib.StableHlo.RunRead
public import proofs.«01_k».proof.Proof.Gen.Kernel26Ideal.Frame
public import proofs.«01_k».proof.Proof.Gen.Reference26Ideal.Read

@[expose] public section

set_option maxRecDepth 16384

noncomputable section

namespace Cert.Kernel26Ideal.Value

open Cert.Kernel26Ideal Cert.Kernel26Ideal.Gen Idealize.ShloMosaic Idealize.ShloMosaic.TcCoe Idealize.ShloMosaic.ValueIdx Idealize.SL.Sem
open Cert.Prod Cert.Head
open scoped BigOperators

section
variable {F : FTy → Type} [FloatOps F] (c : Dev nD) (i : grid0.Coords)
  (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x128 .f32) (h4 : a4.IsWhole)
  (x0 x1 : Vec F S512x1024 .f32) (xo : Vec F S1x128 .f32)

/-- What the first point writes. -/
theorem first_point (hc0 : cond0_0 i) :
    out0_A_2 c i a1 h1 a2 h2 a3 h3 a4 h4 hc0 x0 x1 = k0_pay3 x0 x1
      ∧ out0_A_3 c i a1 h1 a2 h2 a3 h3 a4 h4 hc0 x0 x1 = k0_pay4 x0 x1 k0_pay1 := by
  unfold out0_A_2 out0_A_3
  rw [View.read_writes_eq_canon _ _ _ (cover0_A_2 c i a1 h1 a2 h2 a3 h3 a4 h4 hc0 x0 x1),
    View.read_writes_eq_canon _ _ _ (cover0_A_3 c i a1 h1 a2 h2 a3 h3 a4 h4 hc0 x0 x1)]
  unfold kernelRun0_A; dsimp only
  sl_unfold_words
  rw [View.canon_unit_zero (S := S512x1024) hz, View.canon_cons_unit_zero (S := S1x128) hz, View.readCov_unit_zero (S := S1x128) _ hz]
  simp only [View.readAt_eq_ld, h1.read_unread, h2.read_unread, View.ld_unit_zero (S := S512x1024) hz, and_self]

/-- What a later point writes, over what the lanes held. -/
theorem later_point (hc0 : ¬cond0_0 i) :
    out0_B_2 c i a1 h1 a2 h2 a3 h3 a4 h4 hc0 x0 x1 xo = k0_pay3 x0 x1
      ∧ out0_B_3 c i a1 h1 a2 h2 a3 h3 a4 h4 hc0 x0 x1 xo = k0_pay4 x0 x1 xo := by
  unfold out0_B_2 out0_B_3
  rw [View.read_writes_eq_canon _ _ _ (cover0_B_2 c i a1 h1 a2 h2 a3 h3 a4 h4 hc0 x0 x1 xo),
    View.read_writes_eq_canon _ _ _ (cover0_B_3 c i a1 h1 a2 h2 a3 h3 a4 h4 hc0 x0 x1 xo)]
  unfold kernelRun0_B; dsimp only
  sl_unfold_words
  rw [View.canon_unit_zero (S := S512x1024) hz, View.canon_unit_zero (S := S1x128) hz]
  simp only [View.readAt_eq_ld, h1.read_unread, h2.read_unread, h4.read_unread, View.ld_unit_zero (S := S512x1024) hz,
    View.ld_unit_zero (S := S1x128) hz, and_self]

end

/-- A lane's part of a block: the sum of one column over the block's rows. -/
theorem lane_apply (x : FVec Ideal S512x1024 .f32) (o : ℕ) (hs : S1x1024.Slices ![0, o] S1x128) (z : S1x128.Idx) :
    extractStridedSlice S1x128 ![0, o] (shapeCast S1x1024
        (multiReduction .add [0] S1024 x 0x00000000#32 reduces_S512x1024_S1024 (.inl rfl) rfl) shapeCasts_S1024_S1x1024) hs z
      = ∑ k ∈ Finset.range 512, at2 x k (o + (z 1).val) := by
  unfold extractStridedSlice
  refine (shapeCast_addUnit_apply ![1024] _ shapeCasts_S1024_S1x1024 _).trans ?_
  refine (Ideal.multiReduction_add_single x _ reduces_S512x1024_S1024 (.inl rfl) rfl _).trans ?_
  exact sum_fin 512 (fun k => at2 x k (o + (z 1).val)) _ fun k => at2_idx x _

/-- The squared differences. -/
abbrev squared {S : Shape} (x y : FVec Ideal S .f32) : FVec Ideal S .f32 := mulf (subf x y) (subf x y)

/-- A point adds to a lane its block's rows of the lane's eight columns. -/
theorem step_apply (x y : FVec Ideal S512x1024 .f32) (acc : FVec Ideal S1x128 .f32) (z : S1x128.Idx) :
    k0_pay4 x y acc z = acc z + ∑ k ∈ Finset.range 512, ∑ j ∈ Finset.range 8, at2 (squared x y) k (128 * j + (z 1).val) := by
  unfold k0_pay4 k0_pay2
  rw [shapeCast_self]
  refine congrArg (acc z + ·) ?_
  rw [Finset.sum_comm, sum_eight]
  exact congrArg₂ (· + ·) (congrArg₂ (· + ·) (congrArg₂ (· + ·) (congrArg₂ (· + ·) (congrArg₂ (· + ·) (congrArg₂ (· + ·)
    (congrArg₂ (· + ·) (lane_apply _ _ _ z) (lane_apply _ _ _ z)) (lane_apply _ _ _ z)) (lane_apply _ _ _ z)) (lane_apply _ _ _ z))
    (lane_apply _ _ _ z)) (lane_apply _ _ _ z)) (lane_apply _ _ _ z)

variable (m : (ℓ : Loc nD τ sig) → Buf (Elt Ideal) ℓ) (c : Dev nD)

/-- The last layer's output. -/
abbrev out : FVec Ideal S8192x1024 .f32 := m ((c.tc : Thread nD τ).loc main_arg0)
/-- The target. -/
abbrev target : FVec Ideal S8192x1024 .f32 := m ((c.tc : Thread nD τ).loc main_arg1)

/-- Which blocks a point reads. -/
theorem places : ∀ t : Fin cfg0.N, win0_0.index t (0 : Fin 2) = t.val ∧ win0_0.index t (1 : Fin 2) = 0 :=
  (by decide +kernel : ∀ t : Fin grid0.N, _)

/-- A block's squared differences are those of the whole arrays at the block's place. -/
theorem squared_block (t : Fin cfg0.N) (k q : ℕ) (hk : k < 512) (hq : q < 1024) :
    at2 (squared (S := S512x1024) (iblk m c 0 t) (iblk m c 1 t)) k q = at2 (squared (out m c) (target m c)) (512 * t.val + k) q :=
  (at2_block (squared (out m c) (target m c)) ((cfg0.win 0).blk t).view.emb _ _ (fun _ => rfl) (fun _ => rfl) (places t).1 (places t).2 k q hk hq).trans
    (congrArg (at2 _ _) (by omega))

/-- One row's part of a lane. -/
abbrev term (z : S1x128.Idx) (k : ℕ) : EReal :=
  ∑ j ∈ Finset.range 8, at2 (squared (out m c) (target m c)) k (128 * j + (z 1).val)

/-- What a point adds to a lane. -/
theorem added (t : Fin cfg0.N) (acc : FVec Ideal S1x128 .f32) (z : S1x128.Idx) :
    k0_pay4 (iblk m c 0 t) (iblk m c 1 t) acc z = acc z + ∑ k ∈ Finset.range 512, term m c z (512 * t.val + k) := by
  have hz1 : (z 1).val < 128 := (z 1).isLt
  refine (step_apply _ _ acc z).trans (congrArg (acc z + ·) ?_)
  exact Finset.sum_congr rfl fun k hk => Finset.sum_congr rfl fun j hj =>
    squared_block m c t k _ (Finset.mem_range.mp hk) (by have := Finset.mem_range.mp hj; omega)

/-- The lanes start at zero. -/
theorem zero_apply (z : S1x128.Idx) : (k0_pay1 : FVec Ideal S1x128 .f32) z = 0 := Ideal.ofBits_zero_f32

/-- The lanes after each point: the sum over the rows of the blocks so far. -/
theorem lanes_apply (z : S1x128.Idx) : ∀ (n : ℕ) (hn : n < cfg0.N),
    (outsAt0 m c n hn).2 z = ∑ k ∈ Finset.range (512 * (n % 16) + 512), term m c z k := by
  have hN : cfg0.N = 16 := N_0
  refine run_sum cfg0.N 16 512 (fun n hn => (outsAt0 m c n hn).2 z) (fun _ => term m c z) (fun n hn h => ?_) fun n hn h => ?_
  · rw [outsAt0_A m c ⟨n, hn⟩ h]
    dsimp only
    rw [(first_point c _ _ _ _ _ _ _ _ _ _ _ _).2, added, zero_apply, zero_add, Nat.mod_eq_of_lt (by omega)]
  · rw [outsAt0_B m c ⟨n + 1, hn⟩ h]
    dsimp only
    rw [(later_point c _ _ _ _ _ _ _ _ _ _ _ _ _).2, added, Nat.mod_eq_of_lt (by omega)]
    rfl

/-- The gradient's block after each point. -/
theorem slope_block (t : Fin cfg0.N) : (outsAt0 m c t.val t.isLt).1 = k0_pay3 (iblk m c 0 t) (iblk m c 1 t) := by
  by_cases h : t.val % 16 = 0
  · rw [outsAt0_A m c t h]
    dsimp only
    rw [(first_point (F := Ideal) c _ _ _ _ _ _ _ _ _ _ _ _).1]
  · rw [outsAt0_B m c t h]
    dsimp only
    rw [(later_point (F := Ideal) c _ _ _ _ _ _ _ _ _ _ _ _ _).1]

/-- The gradient. -/
abbrev gradient : FVec Ideal S8192x1024 .f32 := fun i => (out m c i - target m c i) * ((1 / 1024 : ℝ) : EReal)

/-- The lanes' sums over all rows. -/
abbrev lanes : FVec Ideal S1x128 .f32 := fun z => ∑ k ∈ Finset.range 8192, term m c z k

/-- Which blocks a point writes. -/
theorem written : ∀ t : Fin cfg0.N, (win0_2.index t (0 : Fin 2) = t.val ∧ win0_2.index t (1 : Fin 2) = 0)
    ∧ win0_3.index t (0 : Fin 2) = 0 ∧ win0_3.index t (1 : Fin 2) = 0 :=
  (by decide +kernel : ∀ t : Fin grid0.N, _)

/-- The lanes' block is the whole of their array. -/
theorem whole (t : Fin cfg0.N) (y : S1x128.Idx) : ((cfg0.win 3).blk t).view.emb y = y := by
  obtain ⟨_, e0, e1⟩ := written t
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Every row of the gradient is in a block. -/
theorem row_in (i : S8192x1024.Idx) : ∃ t : Fin cfg0.N, i ∈ ((cfg0.win 2).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  obtain ⟨⟨e0, e1⟩, _⟩ := written t
  have e : ((cfg0.win 2).blk t).view.emb (ix2 ⟨(i 0).val % 512, Nat.mod_lt _ (by decide)⟩ ⟨(i 1).val, (i 1).isLt⟩) = i := by
    funext a
    apply Fin.ext
    match a with
    | ⟨0, _⟩ =>
      show win0_2.index t (0 : Fin 2) * 512 + 1 * ((i 0).val % 512) = (i 0).val
      omega
    | ⟨1, _⟩ =>
      show win0_2.index t (1 : Fin 2) * 1024 + 1 * (i 1).val = (i 1).val
      omega
  exact ⟨t, e ▸ View.emb_mem_set _ _⟩

/-- The gradient's array after the run. -/
theorem gradient_array : (dats m 0 c).arrAt 2 cfg0.N = gradient m c := by
  refine (dats m 0 c).arrAt_eq_of_cover 2 (gradient m c) (fun t _ => funext fun y => ?_) fun i =>
    let ⟨t, h⟩ := row_in i; ⟨t, flush0_2 t, h⟩
  show (dats m 0 c).after 2 t ((cfg0.win 2).xinj (grid0.coords t) y) = _
  rw [after0_2, slope_block]
  exact congrArg (_ * ·) feature

/-- The lanes' array after the run. -/
theorem lanes_array : (dats m 0 c).arrAt 3 cfg0.N = lanes m c := by
  have hN : cfg0.N = 16 := N_0
  refine (dats m 0 c).arrAt_eq_of_cover 3 (lanes m c) (fun t h => funext fun y => ?_) fun i =>
    ⟨⟨15, by omega⟩, (flush0_3 _).mpr rfl, whole ⟨15, by omega⟩ i ▸ View.emb_mem_set _ _⟩
  show (dats m 0 c).after 3 t ((cfg0.win 3).xinj (grid0.coords t) y) = lanes m c (((cfg0.win 3).blk t).view.emb y)
  rw [after0_3, whole]
  exact (lanes_apply m c y t.val t.isLt).trans (by rw [(flush0_3 t).mp h])

/-- The sum of all squared differences. -/
abbrev total : EReal := ∑ k ∈ Finset.range 8192, ∑ q ∈ Finset.range 1024, at2 (squared (out m c) (target m c)) k q

/-- The sum of the lanes is the sum of everything. -/
theorem lanes_total : ∑ z : S1x128.Idx, lanes m c z = total m c := by
  refine (sum_idx2 _).trans ?_
  rw [Fin.sum_univ_one]
  refine (sum_fin 128 (fun l => ∑ k ∈ Finset.range 8192, ∑ j ∈ Finset.range 8, at2 (squared (out m c) (target m c)) k (128 * j + l)) _
    fun l => rfl).trans ?_
  exact sum_lanes (fun k q => at2 (squared (out m c) (target m c)) k q) 8192 8 128

/-- The loss. -/
abbrev loss : FVec Ideal S_ .f32 := fun _ => ((1 / 2048 : ℝ) : EReal) * total m c

/-- What the program's last lines leave in the loss. -/
theorem loss_read : Pipeline.afterTail₀ cfgs (dats m) 0 (V0 m) [hostOps1] c main_v2 = loss m c := by
  unfold Pipeline.afterTail₀
  have e : Pipeline.withArrays (cfgs 0).spec c (V0 m c) (fun w => (dats m 0 c).arrAt w (cfgs 0).N) (Proc.devRef .tc main_v0_1) = lanes m c :=
    (Pipeline.withArrays_arr spec0 winFacts0.arr_inj c (V0 m c) _ 3).trans (lanes_array m c)
  refine Eq.trans (b := mulf (constant S_ .f32 0x3A000000#32) (Host.reduceAdd (lanes m c) (constant (F := Ideal) S_ .f32 0x00000000#32) reducesTo_S1x128_S_d0_1 h_S_)) ?_ ?_
  · rw [← e]
    after_reads_simp
  funext i
  show Ideal.ofBits .f32 0x3A000000#32 * _ = _
  rw [halfFeature]
  refine congrArg (_ * ·) ?_
  simp only [Host.reduceAdd, Ideal.hostReduceAdd_def]
  refine (Ideal.hostReduceAdd_total reducesTo_S1x128_S_d0_1 (fun b => b.elim0) (lanes m c) _ i).trans ?_
  rw [lanes_total]
  refine Eq.trans (congrArg (· + _) Ideal.ofBits_zero_f32) (zero_add _)

variable (ρ : Dev nD → PrngReg)

/-- The head's results, of the memory it starts from. -/
theorem run : θ_run (defs (F := Ideal)) (onTc (τ := τ) (main (F := Ideal))) ⟨m, fun _ => 0, ρ⟩ (fun r => ∀ c : Dev nD,
    r.2.mem ((c.tc : Thread nD τ).loc main_v0_0) = gradient m c
      ∧ r.2.mem ((c.tc : Thread nD τ).loc main_v2) = loss m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c =>
    ⟨((h c).1 2).trans (gradient_array m c),
     ((h c).2 main_v2 (Pipeline.mem_restRefs_of main_v2 (by decide) (by decide))).trans (loss_read m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Kernel26Ideal.Value

namespace Cert.Reference26Ideal.Read

open Cert.Reference26Ideal Cert.Reference26Ideal.Gen Idealize.ShloMosaic Idealize.ShloMosaic.TcCoe Idealize.ShloMosaic.ValueIdx
open Cert.Prod Cert.Head
open scoped BigOperators

variable (x y : FVec Ideal S8192x1024 .f32)

/-- The reference's gradient at an entry. -/
theorem gradient_apply (i : S8192x1024.Idx) : val_main_v14 (F := Ideal) x y i = (x i - y i) * ((1 / 1024 : ℝ) : EReal) := by
  rw [val_main_v14_apply, val_main_v13_apply, val_main_v12_apply, val_main_v11_apply, val_main_v10_apply, val_main_v9_apply,
    val_main_v3_apply, val_main_v2_apply, val_main_v0_apply, val_main_cst_apply, val_main_cst_4_apply, val_main_cst_5_apply, val_main_cst_6_apply]
  show Ideal.div (Ideal.ofBits .f32 0x3F000000#32 * Ideal.ofBits .f32 0x3F800000#32) (Ideal.ofBits .f32 0x44800000#32)
    * (Ideal.ofBits .f32 0x40000000#32 * (x i - y i)) = _
  rw [half, two, features, Ideal.ofBits_one_f32]
  exact (slope _).symm

/-- A row's squared differences, summed. -/
theorem row_apply (i : S8192.Idx) : val_main_v4 (F := Ideal) x y i
    = ∑ q ∈ Finset.range 1024, at2 (mulf (subf x y) (subf x y)) (i 0).val q := by
  rw [val_main_v4_apply, val_main_cst_0_apply]
  refine Eq.trans (congrArg (· + _) Ideal.ofBits_zero_f32) ((zero_add _).trans ?_)
  exact sum_fin 1024 (fun q => at2 (mulf (subf x y) (subf x y)) (i 0).val q) _ fun q => at2_idx (mulf (subf x y) (subf x y)) (idx_main_v4 i q)

/-- The reference's loss. -/
theorem loss_apply (i : S_.Idx) : val_main_v8 (F := Ideal) x y i
    = ((1 / 2048 : ℝ) : EReal) * ∑ k ∈ Finset.range 8192, ∑ q ∈ Finset.range 1024, at2 (mulf (subf x y) (subf x y)) k q := by
  rw [val_main_v8_apply, val_main_v7_apply, val_main_cst_3_apply, val_main_cst_2_apply]
  show Ideal.ofBits .f32 0x3F000000#32 * (Ideal.ofBits .f32 0x00000000#32 + _) = _
  rw [half, Ideal.ofBits_zero_f32, zero_add, ← half_means]
  refine congrArg (_ * ·) ?_
  refine (Finset.sum_congr rfl fun k _ => ?_).trans (Fin.sum_idx1_range ![8192]
    fun k => Ideal.div (∑ q ∈ Finset.range 1024, at2 (mulf (subf x y) (subf x y)) k q) ((1024 : ℝ) : EReal))
  rw [val_main_v6_apply, row_apply, val_main_v5_apply, val_main_cst_1_apply]
  exact congrArg (Ideal.div _) features

end Cert.Reference26Ideal.Read

end
-- ==== Proof.Head.Norm.lean ====
/- The way back through a row's norm: the kernel's formula for the gradient of a row, and the one the chain rule gives. -/
module

public import proofs.«01_k».proof.Proof.Head.Total

@[expose] public section

noncomputable section

namespace Cert.Head

open Idealize.ShloMosaic
open scoped BigOperators

/-- The small number added to a row's mean square, as its bits. -/
theorem small : ∃ e : ℝ, 0 < e ∧ Ideal.ofBits .f32 0x358637BD#32 = (e : EReal) := by
  refine ⟨_, ?_, by simp [Ideal.ofBits, Ideal.ieee, -EReal.coe_mul]; rfl⟩
  norm_num

/-- Minus a half, as its bits. -/
theorem minusHalf : Ideal.ofBits .f32 0xBF000000#32 = ((-(1 / 2) : ℝ) : EReal) := by
  simp [Ideal.ofBits, Ideal.ieee, -EReal.coe_mul]; norm_num

/-- A square is not negative. -/
theorem square_nonneg (x : EReal) : 0 ≤ x * x := by
  induction x with
  | bot => simp
  | top => simp
  | coe r => exact_mod_cast mul_self_nonneg r

/-- A row's mean square and the small number. -/
def spread (x : ℕ → EReal) : EReal :=
  Ideal.div (∑ k ∈ Finset.range 1024, x k * x k) ((1024 : ℝ) : EReal) + Ideal.ofBits .f32 0x358637BD#32

/-- It is positive. -/
theorem spread_pos (x : ℕ → EReal) : 0 < spread x := by
  obtain ⟨e, he, h⟩ := small
  unfold spread
  rw [h, div_features]
  exact lt_of_lt_of_le (by exact_mod_cast he) (le_add_of_nonneg_left
    (mul_nonneg (Finset.sum_nonneg fun k _ => square_nonneg (x k)) (by exact_mod_cast (by norm_num : (0 : ℝ) ≤ 1 / 1024))))

/-- One over the root of a positive number is a number, and its quotient by the number is its cube. -/
theorem root (a : EReal) (h : 0 < a) :
    ∃ ρ : ℝ, 0 ≤ ρ ∧ Ideal.rsqrt a = (ρ : EReal) ∧ Ideal.div (Ideal.rsqrt a) a = (ρ : EReal) * ρ * ρ := by
  induction a with
  | bot => exact absurd h (by simp)
  | top =>
    refine ⟨0, le_refl 0, by simp, ?_⟩
    simp [Ideal.div]
  | coe r =>
    have hr : 0 < r := by exact_mod_cast h
    refine ⟨(Real.sqrt r)⁻¹, by positivity, ?_, ?_⟩
    · rw [Ideal.rsqrt_coe, if_neg (not_lt.mpr hr.le), if_neg hr.ne']
    · rw [Ideal.rsqrt_coe, if_neg (not_lt.mpr hr.le), if_neg hr.ne']
      unfold Ideal.div
      rw [if_neg (by exact_mod_cast hr.ne'), ← EReal.coe_inv, ← EReal.coe_mul, ← EReal.coe_mul, ← EReal.coe_mul]
      refine congrArg _ ?_
      rw [mul_assoc, show r⁻¹ = (Real.sqrt r)⁻¹ * (Real.sqrt r)⁻¹ by rw [← mul_inv, Real.mul_self_sqrt hr.le]]

/-- Half of the opposite, twice. -/
theorem halves (a : EReal) : a * ((-(1 / 2) : ℝ) : EReal) + a * ((-(1 / 2) : ℝ) : EReal) = -a := by
  have hn : (-(1 / 2) : ℝ) < 0 := by norm_num
  induction a with
  | bot => rw [EReal.bot_mul_coe_of_neg hn]; rfl
  | top => rw [EReal.top_mul_coe_of_neg hn]; rfl
  | coe r =>
    rw [← EReal.coe_mul, ← EReal.coe_add, ← EReal.coe_neg]
    exact congrArg _ (by ring)

/-- The gradient of a row through its norm, as the kernel takes it: of the row `x` and the gradient `d` of what the norm gives. -/
def back (x d : ℕ → EReal) (q : ℕ) : EReal :=
  Ideal.rsqrt (spread x) * (d q - x q * Ideal.rsqrt (spread x)
    * Ideal.div (∑ k ∈ Finset.range 1024, d k * (x k * Ideal.rsqrt (spread x))) ((1024 : ℝ) : EReal))

/-- The gradient of the mean square's share, as the chain rule gives it. -/
def share (x d : ℕ → EReal) : EReal :=
  Ideal.div ((∑ k ∈ Finset.range 1024, x k * d k) * (((-(1 / 2) : ℝ) : EReal) * Ideal.div (Ideal.rsqrt (spread x)) (spread x))) ((1024 : ℝ) : EReal)

/-- The two are the same. -/
theorem back_eq (x d : ℕ → EReal) (q : ℕ) :
    back x d q = d q * Ideal.rsqrt (spread x) + x q * share x d + share x d * x q := by
  obtain ⟨ρ, h0, h1, h2⟩ := root _ (spread_pos x)
  unfold back share
  rw [h2, h1, div_features, div_features, Finset.sum_congr rfl fun k _ => (mul_assoc (d k) (x k) (ρ : EReal)).symm, sum_scale ρ h0,
    Finset.sum_congr rfl fun k _ => mul_comm (d k) (x k)]
  generalize (∑ k ∈ Finset.range 1024, x k * d k) = S
  rw [sub_eq_add_neg, EReal.left_distrib_of_nonneg_of_ne_top (by exact_mod_cast h0) (EReal.coe_ne_top ρ), mul_neg, add_assoc, mul_comm (d q)]
  refine congrArg ((ρ : EReal) * d q + ·) ?_
  rw [show (ρ : EReal) * (x q * ρ * (S * ρ * ((1 / 1024 : ℝ) : EReal))) = x q * S * (ρ * ρ * ρ * ((1 / 1024 : ℝ) : EReal)) by ac_rfl, ← halves]
  generalize ((-(1 / 2) : ℝ) : EReal) = h
  generalize ((1 / 1024 : ℝ) : EReal) = t
  exact congrArg₂ (· + ·) (by ac_rfl) (by ac_rfl)

end Cert.Head

end
-- ==== Proof.Head.K27.lean ====
/- The end of the way back: the gradient through the first layer's first norm, and the norm's weights' gradient, of what the kernel's two arrays hold after its run. -/
module

public import proofs.«01_k».proof.Proof.Head.Norm
public import Idealize.ShloMosaic.Lib.Pipeline.Value
public import Idealize.ShloMosaic.Lib.StableHlo.RunRead
public import proofs.«01_k».proof.Proof.Gen.Kernel27Ideal.Value
public import proofs.«01_k».proof.Proof.Gen.Reference27Ideal.Read

@[expose] public section

set_option maxRecDepth 16384

noncomputable section

namespace Cert.Kernel27Ideal.Value

open Cert.Kernel27Ideal Cert.Kernel27Ideal.Gen Idealize.ShloMosaic Idealize.ShloMosaic.TcCoe Idealize.ShloMosaic.ValueIdx Idealize.SL.Sem
open Cert.Prod Cert.Head
open scoped BigOperators

section
variable {F : FTy → Type} [FloatOps F] (c : Dev nD) (i : grid0.Coords)
  (a1 : Memref sig .tc .vmem S512x1024 .f32) (h1 : a1.IsWhole) (a2 : Memref sig .tc .vmem S1x1024 .f32) (h2 : a2.IsWhole)
  (a3 : Memref sig .tc .vmem S512x1024 .bf16) (h3 : a3.IsWhole) (a4 : Memref sig .tc .vmem S512x1024 .f32) (h4 : a4.IsWhole)
  (a5 : Memref sig .tc .vmem S512x1024 .f32) (h5 : a5.IsWhole) (a6 : Memref sig .tc .vmem S1x1024 .f32) (h6 : a6.IsWhole)
  (x0 : Vec F S512x1024 .f32) (x1 : Vec F S1x1024 .f32) (x2 : Vec F S512x1024 .bf16) (x3 : Vec F S512x1024 .f32) (xo : Vec F S1x1024 .f32)

/-- What the first point writes. -/
theorem first_point (hc0 : cond0_0 i) :
    out0_A_4 c i a1 h1 a2 h2 a3 h3 a4 h4 a5 h5 a6 h6 hc0 x0 x1 x2 x3 = k0_pay6 x0 x2 x1 x3
      ∧ out0_A_5 c i a1 h1 a2 h2 a3 h3 a4 h4 a5 h5 a6 h6 hc0 x0 x1 x2 x3 = k0_pay1 (k0_pay7 k0_pay2) (k0_pay8 x0 x2) := by
  unfold out0_A_4 out0_A_5
  rw [View.read_writes_eq_canon _ _ _ (cover0_A_4 c i a1 h1 a2 h2 a3 h3 a4 h4 a5 h5 a6 h6 hc0 x0 x1 x2 x3),
    View.read_writes_eq_canon _ _ _ (cover0_A_5 c i a1 h1 a2 h2 a3 h3 a4 h4 a5 h5 a6 h6 hc0 x0 x1 x2 x3)]
  unfold kernelRun0_A; dsimp only
  sl_unfold_words
  rw [View.canon_unit_zero (S := S512x1024) hz, View.canon_cons_unit_zero (S := S1x1024) hz, View.readCov_unit_zero (S := S1x1024) _ hz]
  simp only [View.readAt_eq_ld, h1.read_unread, h2.read_unread, h3.read_unread, h4.read_unread, View.ld_unit_zero (S := S512x1024) hz,
    View.ld_unit_zero (S := S1x1024) hz, and_self]

/-- What a later point writes, over what the weights' row held. -/
theorem later_point (hc0 : ¬cond0_0 i) :
    out0_B_4 c i a1 h1 a2 h2 a3 h3 a4 h4 a5 h5 a6 h6 hc0 x0 x1 x2 x3 xo = k0_pay6 x0 x2 x1 x3
      ∧ out0_B_5 c i a1 h1 a2 h2 a3 h3 a4 h4 a5 h5 a6 h6 hc0 x0 x1 x2 x3 xo = k0_pay1 (k0_pay7 xo) (k0_pay8 x0 x2) := by
  unfold out0_B_4 out0_B_5
  rw [View.read_writes_eq_canon _ _ _ (cover0_B_4 c i a1 h1 a2 h2 a3 h3 a4 h4 a5 h5 a6 h6 hc0 x0 x1 x2 x3 xo),
    View.read_writes_eq_canon _ _ _ (cover0_B_5 c i a1 h1 a2 h2 a3 h3 a4 h4 a5 h5 a6 h6 hc0 x0 x1 x2 x3 xo)]
  unfold kernelRun0_B; dsimp only
  sl_unfold_words
  rw [View.canon_unit_zero (S := S512x1024) hz, View.canon_unit_zero (S := S1x1024) hz]
  simp only [View.readAt_eq_ld, h1.read_unread, h2.read_unread, h3.read_unread, h4.read_unread, h6.read_unread,
    View.ld_unit_zero (S := S512x1024) hz, View.ld_unit_zero (S := S1x1024) hz, and_self]

end

section
variable (x : FVec Ideal S512x1024 .f32) (y : FVec Ideal S512x1024 .bf16) (g : FVec Ideal S1x1024 .f32) (a : FVec Ideal S512x1024 .f32)

/-- The sums of a block's rows. -/
theorem row_sum (v : FVec Ideal S512x1024 .f32) (u : S512x1.Idx) :
    shapeCast S512x1 (multiReduction .add [1] S512 v 0x00000000#32 reduces_S512x1024_S512 (.inl rfl) rfl) shapeCasts_S512_S512x1 u
      = ∑ k ∈ Finset.range 1024, at2 v (u 0).val k := by
  have hu : (u 1).val < 1 := (u 1).isLt
  refine (shapeCast_apply _ shapeCasts_S512_S512x1 u (ix1 (n := 512) (u 0)) ?_).trans ?_
  · rw [Shape.rowMajor_val_one, Shape.rowMajor_val_two]
    show (u 0).val = (u 0).val * 1 + (u 1).val
    omega
  refine (Ideal.multiReduction_add_single v _ reduces_S512x1024_S512 (.inl rfl) rfl _).trans ?_
  exact sum_fin 1024 (fun k => at2 v (u 0).val k) _ fun k => at2_idx v _

/-- A column spread over a block. -/
theorem spread_col (v : FVec Ideal S512x1 .f32) (j : S512x1024.Idx) :
    broadcastTo S512x1024 v broadcasts_S512x1_S512x1024 j = v (ix2 (j 0) (0 : Fin 1)) :=
  broadcastTo_apply v broadcasts_S512x1_S512x1024 j (ix2 (j 0) (0 : Fin 1)) fun a => match a with
    | ⟨0, _⟩ => rfl
    | ⟨1, _⟩ => rfl

/-- The roots of a block's rows. -/
theorem root_apply (u : S512x1.Idx) : k0_pay4 (F := Ideal) x u = Ideal.rsqrt (spread (at2 x (u 0).val)) := by
  unfold k0_pay4 spread
  show Ideal.rsqrt (Ideal.div (shapeCast S512x1 _ _ u) (Ideal.ofBits .f32 0x44800000#32) + Ideal.ofBits .f32 0x358637BD#32) = _
  rw [row_sum, features]
  refine congrArg (fun s => Ideal.rsqrt (Ideal.div s _ + _)) (Finset.sum_congr rfl fun k hk => ?_)
  exact at2_of _ _ k (u 0).isLt (Finset.mem_range.mp hk) _ (congrArg₂ (· * ·) (at2_ix2 x (u 0) ⟨k, _⟩) (at2_ix2 x (u 0) ⟨k, _⟩))

/-- A block's rows, over their roots. -/
theorem normed_apply (j : S512x1024.Idx) : k0_pay5 x j = x j * Ideal.rsqrt (spread (at2 x (j 0).val)) := by
  unfold k0_pay5
  show x j * broadcastTo S512x1024 (k0_pay4 x) _ j = _
  rw [spread_col, root_apply]

/-- The gradient of a block's normed rows, through the weights. -/
abbrev through : FVec Ideal S512x1024 .f32 :=
  mulf (k0_pay3 y) (broadcastTo S512x1024 (shapeCast S1x1024 g shapeCasts_S1x1024_S1x1024) broadcasts_S1x1024_S512x1024)

/-- The same at an entry. -/
theorem through_apply (j : S512x1024.Idx) : through y g j = at2 y (j 0).val (j 1).val * at2 g 0 (j 1).val := by
  unfold through
  rw [shapeCast_self]
  refine congrArg₂ (· * ·) (at2_idx y j) ?_
  exact (broadcastTo_apply g broadcasts_S1x1024_S512x1024 j (ix2 (0 : Fin 1) (j 1)) fun a => match a with
    | ⟨0, _⟩ => rfl
    | ⟨1, _⟩ => rfl).trans (at2_ix2 g 0 (j 1))

/-- A row's sum of that gradient times the normed row. -/
theorem through_sum (j : S512x1024.Idx) : ∑ k ∈ Finset.range 1024, at2 (mulf (through y g) (k0_pay5 x)) (j 0).val k
    = ∑ k ∈ Finset.range 1024, at2 y (j 0).val k * at2 g 0 k * (at2 x (j 0).val k * Ideal.rsqrt (spread (at2 x (j 0).val))) := by
  refine Finset.sum_congr rfl fun k hk => at2_of _ _ k (j 0).isLt (Finset.mem_range.mp hk) _ ?_
  exact congrArg₂ (· * ·) (through_apply y g _) ((normed_apply x _).trans (congrArg₂ (· * ·) (at2_idx x _) rfl))

/-- The gradient's block at an entry. -/
theorem back_apply (j : S512x1024.Idx) :
    k0_pay6 (F := Ideal) x y g a j = back (at2 x (j 0).val) (fun k => at2 y (j 0).val k * at2 g 0 k) (j 1).val + a j := by
  have e : k0_pay6 (F := Ideal) x y g a j = broadcastTo S512x1024 (k0_pay4 x) broadcasts_S512x1_S512x1024 j * (through y g j - k0_pay5 x j
      * broadcastTo S512x1024 (divf (shapeCast S512x1 (multiReduction .add [1] S512 (mulf (through y g) (k0_pay5 x)) 0x00000000#32 reduces_S512x1024_S512 (.inl rfl) rfl)
          shapeCasts_S512_S512x1) (broadcast S512x1 (Ideal.ofBits .f32 0x44800000#32))) broadcasts_S512x1_S512x1024 j) + a j := rfl
  have d (u : S512x1.Idx) : divf (F := Ideal) (φ := .f32) (shapeCast S512x1 (multiReduction .add [1] S512 (mulf (through y g) (k0_pay5 x)) 0x00000000#32 reduces_S512x1024_S512 (.inl rfl) rfl)
      shapeCasts_S512_S512x1) (broadcast S512x1 (Ideal.ofBits .f32 0x44800000#32)) u
        = Ideal.div (∑ k ∈ Finset.range 1024, at2 (mulf (through y g) (k0_pay5 x)) (u 0).val k) ((1024 : ℝ) : EReal) := by
    rw [← row_sum, ← features]; rfl
  rw [e, spread_col, spread_col, root_apply, d, through_apply, normed_apply]
  have s := through_sum x y g j
  unfold back
  rw [← s, at2_idx x j]

/-- A row's part of the weights' gradient. -/
abbrev part (x y : ℕ → EReal) (q : ℕ) : EReal := y q * (x q * Ideal.rsqrt (spread x))

/-- A point adds to the weights' gradient the parts of its block's rows. -/
theorem step_apply (acc : FVec Ideal S1x1024 .f32) (z : S1x1024.Idx) :
    k0_pay1 (k0_pay7 acc) (k0_pay8 x y) z = acc z + ∑ k ∈ Finset.range 512, part (at2 x k) (at2 y k) (z 1).val := by
  unfold k0_pay1 k0_pay7 k0_pay8
  rw [shapeCast_self]
  refine congrArg (acc z + ·) ?_
  refine (shapeCast_addUnit_apply ![1024] _ shapeCasts_S1024_S1x1024 _).trans ?_
  refine (Ideal.multiReduction_add_single _ _ reduces_S512x1024_S1024 (.inl rfl) rfl _).trans ?_
  refine sum_fin 512 (fun k => part (at2 x k) (at2 y k) (z 1).val) _ fun k => ?_
  exact congrArg₂ (· * ·) (at2_idx y _) ((normed_apply x _).trans (congrArg (· * _) (at2_idx x _)))

end

variable (m : (ℓ : Loc nD τ sig) → Buf (Elt Ideal) ℓ) (c : Dev nD)

/-- The rows that were normed. -/
abbrev rowsIn : FVec Ideal S8192x1024 .f32 := m ((c.tc : Thread nD τ).loc main_arg0)
/-- The norm's weights, as a row. -/
abbrev weights : FVec Ideal S1x1024 .f32 := shapeCast S1x1024 (m ((c.tc : Thread nD τ).loc main_arg1)) shapeCasts_S1024_S1x1024
/-- The gradient of what the norm gave. -/
abbrev above : FVec Ideal S8192x1024 .bf16 := m ((c.tc : Thread nD τ).loc main_arg2)
/-- The gradient that passes the norm by. -/
abbrev passed : FVec Ideal S8192x1024 .f32 := m ((c.tc : Thread nD τ).loc main_arg3)

/-- The region finds the weights as a row. -/
theorem weights_found : V m c main_v0 = weights m c := by
  dsimp only [V, weights]
  after_reads_simp
  rfl

/-- Which blocks a point reads. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ win0_3.index t (0 : Fin 2) = t.val ∧ win0_3.index t (1 : Fin 2) = 0 :=
  (by decide +kernel : ∀ t : Fin grid0.N, _)

/-- A row of a block of 512 whole rows, the `n`-th, is the row of the whole array. -/
theorem block_row (v : (⟨2, ![8192, 1024]⟩ : Shape).Idx → EReal) (e : (⟨2, ![512, 1024]⟩ : Shape).Idx → (⟨2, ![8192, 1024]⟩ : Shape).Idx) (w w' n : ℕ)
    (h0 : ∀ y, (e y 0).val = w * 512 + 1 * (y 0).val) (h1 : ∀ y, (e y 1).val = w' * 1024 + 1 * (y 1).val)
    (hp : w = n) (hq : w' = 0) (k : ℕ) (hk : k < 512) :
    at2 (fun y => v (e y)) k = at2 v (512 * n + k) := by
  funext q
  by_cases hq' : q < 1024
  · exact (at2_block v e w w' h0 h1 hp hq k q hk hq').trans (congrArg (at2 v _) (by omega))
  · unfold at2
    rw [dif_neg fun h => hq' h.2, dif_neg fun h => hq' h.2]

/-- The rows of a point's blocks. -/
theorem rows_found (t : Fin cfg0.N) (k : ℕ) (hk : k < 512) :
    at2 (M := 512) (N := 1024) (iblk m c 0 t) k = at2 (rowsIn m c) (512 * t.val + k)
      ∧ at2 (M := 512) (N := 1024) (iblk m c 2 t) k = at2 (above m c) (512 * t.val + k) :=
  ⟨block_row (rowsIn m c) ((cfg0.win 0).blk t).view.emb _ _ _ (fun _ => rfl) (fun _ => rfl) (places t).1.1 (places t).1.2 k hk,
   block_row (above m c) ((cfg0.win 2).blk t).view.emb _ _ _ (fun _ => rfl) (fun _ => rfl) (places t).2.2.1.1 (places t).2.2.1.2 k hk⟩

/-- The weights' block is the whole row. -/
theorem weights_block (t : Fin cfg0.N) : iblk m c 1 t = weights m c := by
  obtain ⟨_, ⟨e0, e1⟩, _⟩ := places t
  rw [← weights_found m c]
  funext y
  refine congrArg (V m c main_v0) (funext fun a => Fin.ext ?_)
  match a with
  | ⟨0, _⟩ => show win0_1.index t (0 : Fin 2) * 1 + 1 * (y 0).val = (y 0).val; omega
  | ⟨1, _⟩ => show win0_1.index t (1 : Fin 2) * 1024 + 1 * (y 1).val = (y 1).val; omega

/-- What a point adds to the weights' gradient. -/
theorem added (t : Fin cfg0.N) (acc : FVec Ideal S1x1024 .f32) (z : S1x1024.Idx) :
    k0_pay1 (k0_pay7 acc) (k0_pay8 (iblk m c 0 t) (iblk m c 2 t)) z
      = acc z + ∑ k ∈ Finset.range 512, part (at2 (rowsIn m c) (512 * t.val + k)) (at2 (above m c) (512 * t.val + k)) (z 1).val := by
  refine (step_apply _ _ acc z).trans (congrArg (acc z + ·) (Finset.sum_congr rfl fun k hk => ?_))
  obtain ⟨e, e'⟩ := rows_found m c t k (Finset.mem_range.mp hk)
  exact congrArg₂ (fun u v => part u v (z 1).val) e e'

/-- The weights' gradient starts at zero. -/
theorem zero_apply (z : S1x1024.Idx) : (k0_pay2 : FVec Ideal S1x1024 .f32) z = 0 := Ideal.ofBits_zero_f32

/-- The weights' gradient after each point: the sum over the rows of the blocks so far. -/
theorem sums_apply (z : S1x1024.Idx) : ∀ (n : ℕ) (hn : n < cfg0.N),
    (outsAt0 m c n hn).2 z = ∑ k ∈ Finset.range (512 * (n % 16) + 512), part (at2 (rowsIn m c) k) (at2 (above m c) k) (z 1).val := by
  have hN : cfg0.N = 16 := N_0
  refine run_sum cfg0.N 16 512 (fun n hn => (outsAt0 m c n hn).2 z) (fun _ k => part (at2 (rowsIn m c) k) (at2 (above m c) k) (z 1).val)
    (fun n hn h => ?_) fun n hn h => ?_
  · rw [outsAt0_A m c ⟨n, hn⟩ h]
    dsimp only
    rw [(first_point c _ _ _ _ _ _ _ _ _ _ _ _ _ _ _ _ _ _).2, added, zero_apply, zero_add, Nat.mod_eq_of_lt (by omega)]
  · rw [outsAt0_B m c ⟨n + 1, hn⟩ h]
    dsimp only
    rw [(later_point c _ _ _ _ _ _ _ _ _ _ _ _ _ _ _ _ _ _ _).2, added, Nat.mod_eq_of_lt (by omega)]
    rfl

/-- The gradient's block after each point. -/
theorem back_block (t : Fin cfg0.N) :
    (outsAt0 m c t.val t.isLt).1 = k0_pay6 (iblk m c 0 t) (iblk m c 2 t) (iblk m c 1 t) (iblk m c 3 t) := by
  by_cases h : t.val % 16 = 0
  · rw [outsAt0_A m c t h]
    dsimp only
    rw [(first_point (F := Ideal) c _ _ _ _ _ _ _ _ _ _ _ _ _ _ _ _ _ _).1]
  · rw [outsAt0_B m c t h]
    dsimp only
    rw [(later_point (F := Ideal) c _ _ _ _ _ _ _ _ _ _ _ _ _ _ _ _ _ _ _).1]

/-- The gradient. -/
abbrev gradient : FVec Ideal S8192x1024 .f32 := fun i =>
  back (at2 (rowsIn m c) (i 0).val) (fun k => at2 (above m c) (i 0).val k * at2 (weights m c) 0 k) (i 1).val + passed m c i

/-- The weights' gradient. -/
abbrev weightsGradient : FVec Ideal S1x1024 .f32 := fun z =>
  ∑ k ∈ Finset.range 8192, part (at2 (rowsIn m c) k) (at2 (above m c) k) (z 1).val

/-- Which blocks a point writes. -/
theorem written : ∀ t : Fin cfg0.N, (win0_4.index t (0 : Fin 2) = t.val ∧ win0_4.index t (1 : Fin 2) = 0)
    ∧ win0_5.index t (0 : Fin 2) = 0 ∧ win0_5.index t (1 : Fin 2) = 0 :=
  (by decide +kernel : ∀ t : Fin grid0.N, _)

/-- The weights' gradient's block is the whole of its array. -/
theorem whole (t : Fin cfg0.N) (y : S1x1024.Idx) : ((cfg0.win 5).blk t).view.emb y = y := by
  obtain ⟨_, e0, e1⟩ := written t
  funext a
  apply Fin.ext
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- Every row of the gradient is in a block. -/
theorem row_in (i : S8192x1024.Idx) : ∃ t : Fin cfg0.N, i ∈ ((cfg0.win 4).blk t).view.set := by
  have h0 : (i 0).val < 8192 := (i 0).isLt
  have hN : cfg0.N = 16 := N_0
  obtain ⟨t, ht⟩ : ∃ t : Fin cfg0.N, t.val = (i 0).val / 512 := ⟨⟨(i 0).val / 512, by omega⟩, rfl⟩
  obtain ⟨⟨e0, e1⟩, _⟩ := written t
  have e : ((cfg0.win 4).blk t).view.emb (ix2 ⟨(i 0).val % 512, Nat.mod_lt _ (by decide)⟩ ⟨(i 1).val, (i 1).isLt⟩) = i := by
    funext a
    apply Fin.ext
    match a with
    | ⟨0, _⟩ =>
      show win0_4.index t (0 : Fin 2) * 512 + 1 * ((i 0).val % 512) = (i 0).val
      omega
    | ⟨1, _⟩ =>
      show win0_4.index t (1 : Fin 2) * 1024 + 1 * (i 1).val = (i 1).val
      omega
  exact ⟨t, e ▸ View.emb_mem_set _ _⟩

/-- The gradient's array after the run. -/
theorem gradient_array : (dats m 0 c).arrAt 4 cfg0.N = gradient m c := by
  refine (dats m 0 c).arrAt_eq_of_cover 4 (gradient m c) (fun t _ => funext fun y => ?_) fun i =>
    let ⟨t, h⟩ := row_in i; ⟨t, flush0_4 t, h⟩
  obtain ⟨⟨w0, w1⟩, _⟩ := written t
  obtain ⟨e, e'⟩ := rows_found m c t (y 0).val (y 0).isLt
  have r0 : (((cfg0.win 4).blk t).view.emb y 0).val = 512 * t.val + (y 0).val := by
    show win0_4.index t (0 : Fin 2) * 512 + 1 * (y 0).val = _; omega
  have r1 : (((cfg0.win 4).blk t).view.emb y 1).val = (y 1).val := by
    show win0_4.index t (1 : Fin 2) * 1024 + 1 * (y 1).val = _; omega
  show (dats m 0 c).after 4 t ((cfg0.win 4).xinj (grid0.coords t) y) = gradient m c (((cfg0.win 4).blk t).view.emb y)
  rw [after0_4, back_block, weights_block]
  refine (back_apply _ _ _ _ _).trans ?_
  show back (at2 _ (y 0).val) (fun k => at2 _ (y 0).val k * _) (y 1).val + passed m c (((cfg0.win 3).blk t).view.emb y) = _
  rw [e, e']
  dsimp only [gradient]
  rw [r0, r1]
  rfl

/-- The weights' gradient's array after the run. -/
theorem weights_array : (dats m 0 c).arrAt 5 cfg0.N = weightsGradient m c := by
  have hN : cfg0.N = 16 := N_0
  refine (dats m 0 c).arrAt_eq_of_cover 5 (weightsGradient m c) (fun t h => funext fun y => ?_) fun i =>
    ⟨⟨15, by omega⟩, (flush0_5 _).mpr rfl, whole ⟨15, by omega⟩ i ▸ View.emb_mem_set _ _⟩
  show (dats m 0 c).after 5 t ((cfg0.win 5).xinj (grid0.coords t) y) = weightsGradient m c (((cfg0.win 5).blk t).view.emb y)
  rw [after0_5, whole]
  exact (sums_apply m c y t.val t.isLt).trans (by rw [(flush0_5 t).mp h])

variable (ρ : Dev nD → PrngReg)

/-- The results, of the memory the program starts from. -/
theorem run : θ_run (defs (F := Ideal)) (onTc (τ := τ) (main (F := Ideal))) ⟨m, fun _ => 0, ρ⟩ (fun r => ∀ c : Dev nD,
    r.2.mem ((c.tc : Thread nD τ).loc main_v1_0) = gradient m c
      ∧ r.2.mem ((c.tc : Thread nD τ).loc main_v1_1) = weightsGradient m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨(h c).1.trans (gradient_array m c), (h c).2.1.trans (weights_array m c), (h c).2.2⟩) (run_blocks m ρ)

end Cert.Kernel27Ideal.Value

namespace Cert.Reference27Ideal.Read

open Cert.Reference27Ideal Cert.Reference27Ideal.Gen Idealize.ShloMosaic Idealize.ShloMosaic.TcCoe Idealize.ShloMosaic.ValueIdx
open Cert.Prod Cert.Head
open scoped BigOperators

variable (x : FVec Ideal S8192x1024 .f32) (g : FVec Ideal S1024 .f32) (y : FVec Ideal S8192x1024 .bf16) (a : FVec Ideal S8192x1024 .f32)
  (hs : S1024.ShapeCasts S1x1024)

/-- A row's mean square and the small number. -/
theorem spread_apply (u : S8192x1.Idx) : val_main_v6 (F := Ideal) x u = spread (at2 x (u 0).val) := by
  rw [val_main_v6_apply, val_main_v4_apply, val_main_v2_apply, val_main_v1_apply, val_main_v3_apply, val_main_v5_apply,
    val_main_cst_apply, val_main_cst_0_apply, val_main_cst_1_apply]
  show Ideal.div (Ideal.ofBits .f32 0x00000000#32 + _) (Ideal.ofBits .f32 0x44800000#32) + Ideal.ofBits .f32 0x358637BD#32 = _
  rw [Ideal.ofBits_zero_f32, zero_add, features]
  refine congrArg (fun s => Ideal.div s _ + _) (sum_fin 1024 (fun k => at2 x (u 0).val k * at2 x (u 0).val k) _ fun k => ?_)
  exact congrArg₂ (· * ·) (at2_idx x (idx_main_v1 _ k)) (at2_idx x (idx_main_v1 _ k))

/-- A row's root. -/
theorem root_apply (u : S8192x1.Idx) : val_main_v7 (F := Ideal) x u = Ideal.rsqrt (spread (at2 x (u 0).val)) := by
  rw [val_main_v7_apply, spread_apply]; rfl

/-- The gradient of the normed rows, through the weights. -/
theorem through_apply (i : S8192x1024.Idx) :
    val_main_v21 (F := Ideal) g y i = at2 y (i 0).val (i 1).val * at2 (shapeCast S1x1024 g hs) 0 (i 1).val := by
  rw [val_main_v21_apply, val_main_v16_apply, val_main_v20_apply, val_main_v13_apply]
  refine congrArg₂ (· * ·) (at2_idx y i) ?_
  refine Eq.trans ?_ (at2_ix2 (shapeCast S1x1024 g hs) 0 (i 1))
  refine Eq.trans ?_ (shapeCast_addUnit_apply ![1024] g hs (ix2 0 (i 1))).symm
  exact congrArg g (funext fun a => match a with | ⟨0, _⟩ => rfl)

/-- The mean square's share of the gradient. -/
theorem share_apply (i : S8192x1024.Idx) :
    val_main_v32 (F := Ideal) x g y i = share (at2 x (i 0).val) (fun k => at2 y (i 0).val k * at2 (shapeCast S1x1024 g hs) 0 k) := by
  rw [val_main_v32_apply, val_main_v31_apply, val_main_cst_7_apply, Fin.sum_univ_one, val_main_v30_apply, val_main_v28_apply, val_main_v25_apply,
    val_main_v24_apply, val_main_cst_5_apply, val_main_v10_apply, val_main_v9_apply, val_main_cst_2_apply, val_main_v8_apply, root_apply, spread_apply,
    val_main_v29_apply, val_main_cst_6_apply]
  show Ideal.ofBits .f32 0x00000000#32 + Ideal.div ((Ideal.ofBits .f32 0x00000000#32 + _) * (Ideal.ofBits .f32 0xBF000000#32 * _)) (Ideal.ofBits .f32 0x44800000#32) = _
  rw [Ideal.ofBits_zero_f32, zero_add, zero_add, features, minusHalf]
  unfold share
  refine congrArg (fun s => Ideal.div (s * _) _)
    (sum_fin 1024 (fun k => at2 x (i 0).val k * (at2 y (i 0).val k * at2 (shapeCast S1x1024 g hs) 0 k)) _ fun k => ?_)
  rw [val_main_v23_apply]
  have h0 : (idx_main_v24 (idx_main_v25 (idx_main_v31 (idx_main_v32 i) 0)) k 0).val = (i 0).val := by
    show (i 0).val * 1 + 0 = (i 0).val; omega
  have h1 : (idx_main_v24 (idx_main_v25 (idx_main_v31 (idx_main_v32 i) 0)) k 1).val = k.val := rfl
  generalize idx_main_v24 (idx_main_v25 (idx_main_v31 (idx_main_v32 i) 0)) k = p at h0 h1 ⊢
  rw [through_apply g y hs, at2_idx x p, h0, h1]
  rfl

/-- The reference's gradient. -/
theorem gradient_apply (i : S8192x1024.Idx) : val_main_v37 (F := Ideal) x g y a i
    = back (at2 x (i 0).val) (fun k => at2 y (i 0).val k * at2 (shapeCast S1x1024 g hs) 0 k) (i 1).val + a i := by
  rw [back_eq, val_main_v37_apply, val_main_v36_apply, val_main_v34_apply, val_main_v35_apply, val_main_v33_apply, val_main_v27_apply,
    val_main_v26_apply, root_apply, share_apply x g y hs, through_apply g y hs, at2_idx x i]
  rfl

/-- The reference's gradient of the weights. -/
theorem weights_apply (z : S1x1024.Idx) : val_main_v38 (F := Ideal) x y z
    = ∑ k ∈ Finset.range 8192, at2 y k (z 1).val * (at2 x k (z 1).val * Ideal.rsqrt (spread (at2 x k))) := by
  rw [val_main_v38_apply, val_main_v22_apply, val_main_cst_4_apply, Fin.sum_univ_one, val_main_v19_apply, val_main_v18_apply, val_main_cst_3_apply]
  show Ideal.ofBits .f32 0x00000000#32 + (Ideal.ofBits .f32 0x00000000#32 + _) = _
  rw [Ideal.ofBits_zero_f32, zero_add, zero_add]
  refine sum_fin 8192 (fun k => at2 y k (z 1).val * (at2 x k (z 1).val * Ideal.rsqrt (spread (at2 x k)))) _ fun k => ?_
  have hz : (z 0).val < 1 := (z 0).isLt
  have h0 : (idx_main_v18 (idx_main_v19 (idx_main_v22 (idx_main_v38 z) 0)) k 0).val = k.val := rfl
  have h1 : (idx_main_v18 (idx_main_v19 (idx_main_v22 (idx_main_v38 z) 0)) k 1).val = (z 1).val := by
    show 0 * 1024 + ((z 0).val * 1024 + (z 1).val) = (z 1).val; omega
  generalize idx_main_v18 (idx_main_v19 (idx_main_v22 (idx_main_v38 z) 0)) k = p at h0 h1 ⊢
  rw [val_main_v17_apply, val_main_v16_apply, val_main_v12_apply, val_main_v11_apply, root_apply, at2_idx x p, ← h0, ← h1]
  exact Eq.trans (mul_comm _ _) (congrArg₂ (· * ·) (at2_idx y p) rfl)

end Cert.Reference27Ideal.Read

end
-- ==== Proof.Claims.Head.lean ====
/- The claims of the loss's head and of the way back's last norm. -/
module

public import proofs.«01_k».proof.Defs
public import proofs.«01_k».proof.Proof.Head.K26
public import proofs.«01_k».proof.Proof.Head.K27
public import proofs.«01_k».proof.Proof.Gen.Reference26Ideal.Run
public import proofs.«01_k».proof.Proof.Gen.Reference27Ideal.Run

@[expose] public section

noncomputable section

namespace Cert.Proof

open Idealize.ShloMosaic Idealize.SL.Sem

/-- The claim of the loss and of the gradient it starts the way back with. -/
theorem algebraic_26 : Cert.algebraic_Kernel26Ideal_Reference26Ideal (hKernel26Ideal := Cert.Kernel26Ideal.Gen.facts) (hReference26Ideal := Cert.Reference26Ideal.Gen.facts) := by
  intro m g m' g' _ ha
  refine ⟨fun c => Cert.Kernel26Ideal.Value.gradient m c, fun c => Cert.Kernel26Ideal.Value.loss m c, Cert.Kernel26Ideal.Value.run m g,
    (θ_run (Cert.Reference26Ideal.defs (F := Ideal)) _ _).mono (fun r h c => ⟨(h c).1.trans ?_, (h c).2.1.trans ?_, (h c).2.2⟩)
      (Cert.Reference26Ideal.Value.run m' g')⟩
  · rw [(ha c).1, (ha c).2]
    exact funext fun i => Cert.Reference26Ideal.Read.gradient_apply _ _ i
  · rw [(ha c).1, (ha c).2]
    exact funext fun i => Cert.Reference26Ideal.Read.loss_apply _ _ i

/-- The claim of the gradient through the first layer's first norm, and of the norm's weights' gradient. -/
theorem algebraic_27 : Cert.algebraic_Kernel27Ideal_Reference27Ideal (hKernel27Ideal := Cert.Kernel27Ideal.Gen.facts) (hReference27Ideal := Cert.Reference27Ideal.Gen.facts) := by
  intro m g m' g' _ ha
  refine ⟨fun c => Cert.Kernel27Ideal.Value.gradient m c, fun c => Cert.Kernel27Ideal.Value.weightsGradient m c, Cert.Kernel27Ideal.Value.run m g,
    (θ_run (Cert.Reference27Ideal.defs (F := Ideal)) _ _).mono (fun r h c => ⟨(h c).1.trans ?_, (h c).2.1.trans ?_, (h c).2.2⟩)
      (Cert.Reference27Ideal.Value.run m' g')⟩
  · rw [(ha c).1, (ha c).2.1, (ha c).2.2.1, (ha c).2.2.2]
    exact funext fun i => Cert.Reference27Ideal.Read.gradient_apply _ _ _ _ _ i
  · rw [(ha c).1, (ha c).2.2.1]
    exact funext fun i => Cert.Reference27Ideal.Read.weights_apply _ _ i

end Cert.Proof

end
-- ==== Proof.lean ====
/- The claim: every kernel's frame, every reference's frame, and that each kernel computes what its reference computes. -/
module

public import proofs.«01_k».proof.Defs
public import proofs.«01_k».proof.Proof.Claims.Attention
public import proofs.«01_k».proof.Proof.Claims.Products
public import proofs.«01_k».proof.Proof.Claims.InProj
public import proofs.«01_k».proof.Proof.Claims.Optimiser
public import proofs.«01_k».proof.Proof.Claims.Layers
public import proofs.«01_k».proof.Proof.Claims.Head
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal.Frame
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem

/-! ## The references' frames -/

theorem reference_2 : Cert.quiescent_Reference2Ideal (hReference2Ideal := Cert.Reference2Ideal.Gen.facts) :=
  fun m g _ => (θ_run _ _ _).mono (fun r h => ⟨fun c => (h c).2, Idealize.ShloMosaic.sem_eq_zero_of_no_sems (by decide) r.2⟩) (Cert.Reference2Ideal.Value.run m g)

theorem reference_3 : Cert.quiescent_Reference3Ideal (hReference3Ideal := Cert.Reference3Ideal.Gen.facts) :=
  fun m g _ => (θ_run _ _ _).mono (fun r h => ⟨fun c => (h c).2, Idealize.ShloMosaic.sem_eq_zero_of_no_sems (by decide) r.2⟩) (Cert.Reference3Ideal.Value.run m g)

theorem reference_4 : Cert.quiescent_Reference4Ideal (hReference4Ideal := Cert.Reference4Ideal.Gen.facts) :=
  fun m g _ => (θ_run _ _ _).mono (fun r h => ⟨fun c => (h c).2, Idealize.ShloMosaic.sem_eq_zero_of_no_sems (by decide) r.2⟩) (Cert.Reference4Ideal.Value.run m g)

theorem reference_5 : Cert.quiescent_Reference5Ideal (hReference5Ideal := Cert.Reference5Ideal.Gen.facts) :=
  fun m g _ => (θ_run _ _ _).mono (fun r h => ⟨fun c => (h c).2, Idealize.ShloMosaic.sem_eq_zero_of_no_sems (by decide) r.2⟩) (Cert.Reference5Ideal.Value.run m g)

theorem reference_6 : Cert.quiescent_Reference6Ideal (hReference6Ideal := Cert.Reference6Ideal.Gen.facts) :=
  fun m g _ => (θ_run _ _ _).mono (fun r h => ⟨fun c => (h c).2, Idealize.ShloMosaic.sem_eq_zero_of_no_sems (by decide) r.2⟩) (Cert.Reference6Ideal.Value.run m g)

theorem reference_7 : Cert.quiescent_Reference7Ideal (hReference7Ideal := Cert.Reference7Ideal.Gen.facts) :=
  fun m g _ => (θ_run _ _ _).mono (fun r h => ⟨fun c => (h c).2, Idealize.ShloMosaic.sem_eq_zero_of_no_sems (by decide) r.2⟩) (Cert.Reference7Ideal.Value.run m g)

theorem reference_9 : Cert.quiescent_Reference9Ideal (hReference9Ideal := Cert.Reference9Ideal.Gen.facts) :=
  fun m g _ => (θ_run _ _ _).mono (fun r h => ⟨fun c => (h c).2, Idealize.ShloMosaic.sem_eq_zero_of_no_sems (by decide) r.2⟩) (Cert.Reference9Ideal.Value.run m g)

theorem reference_10 : Cert.quiescent_Reference10Ideal (hReference10Ideal := Cert.Reference10Ideal.Gen.facts) :=
  fun m g _ => (θ_run _ _ _).mono (fun r h => ⟨fun c => (h c).2, Idealize.ShloMosaic.sem_eq_zero_of_no_sems (by decide) r.2⟩) (Cert.Reference10Ideal.Value.run m g)

theorem reference_11 : Cert.quiescent_Reference11Ideal (hReference11Ideal := Cert.Reference11Ideal.Gen.facts) :=
  fun m g _ => (θ_run _ _ _).mono (fun r h => ⟨fun c => (h c).2, Idealize.ShloMosaic.sem_eq_zero_of_no_sems (by decide) r.2⟩) (Cert.Reference11Ideal.Value.run m g)

theorem reference_12 : Cert.quiescent_Reference12Ideal (hReference12Ideal := Cert.Reference12Ideal.Gen.facts) :=
  fun m g _ => (θ_run _ _ _).mono (fun r h => ⟨fun c => (h c).2, Idealize.ShloMosaic.sem_eq_zero_of_no_sems (by decide) r.2⟩) (Cert.Reference12Ideal.Value.run m g)

theorem reference_13 : Cert.quiescent_Reference13Ideal (hReference13Ideal := Cert.Reference13Ideal.Gen.facts) :=
  fun m g _ => (θ_run _ _ _).mono (fun r h => ⟨fun c => (h c).2.2, Idealize.ShloMosaic.sem_eq_zero_of_no_sems (by decide) r.2⟩) (Cert.Reference13Ideal.Value.run m g)

theorem reference_14 : Cert.quiescent_Reference14Ideal (hReference14Ideal := Cert.Reference14Ideal.Gen.facts) :=
  fun m g _ => (θ_run _ _ _).mono (fun r h => ⟨fun c => (h c).2, Idealize.ShloMosaic.sem_eq_zero_of_no_sems (by decide) r.2⟩) (Cert.Reference14Ideal.Value.run m g)

theorem reference_15 : Cert.quiescent_Reference15Ideal (hReference15Ideal := Cert.Reference15Ideal.Gen.facts) :=
  fun m g _ => (θ_run _ _ _).mono (fun r h => ⟨fun c => (h c).2.2, Idealize.ShloMosaic.sem_eq_zero_of_no_sems (by decide) r.2⟩) (Cert.Reference15Ideal.Value.run m g)

theorem reference_16 : Cert.quiescent_Reference16Ideal (hReference16Ideal := Cert.Reference16Ideal.Gen.facts) :=
  fun m g _ => (θ_run _ _ _).mono (fun r h => ⟨fun c => (h c).2, Idealize.ShloMosaic.sem_eq_zero_of_no_sems (by decide) r.2⟩) (Cert.Reference16Ideal.Value.run m g)

theorem reference_17 : Cert.quiescent_Reference17Ideal (hReference17Ideal := Cert.Reference17Ideal.Gen.facts) :=
  fun m g _ => (θ_run _ _ _).mono (fun r h => ⟨fun c => (h c).2, Idealize.ShloMosaic.sem_eq_zero_of_no_sems (by decide) r.2⟩) (Cert.Reference17Ideal.Value.run m g)

theorem reference_18 : Cert.quiescent_Reference18Ideal (hReference18Ideal := Cert.Reference18Ideal.Gen.facts) :=
  fun m g _ => (θ_run _ _ _).mono (fun r h => ⟨fun c => (h c).2.2.2.2, Idealize.ShloMosaic.sem_eq_zero_of_no_sems (by decide) r.2⟩) (Cert.Reference18Ideal.Value.run m g)

theorem reference_19 : Cert.quiescent_Reference19Ideal (hReference19Ideal := Cert.Reference19Ideal.Gen.facts) :=
  fun m g _ => (θ_run _ _ _).mono (fun r h => ⟨fun c => (h c).2.2.2.2, Idealize.ShloMosaic.sem_eq_zero_of_no_sems (by decide) r.2⟩) (Cert.Reference19Ideal.Value.run m g)

theorem reference_20 : Cert.quiescent_Reference20Ideal (hReference20Ideal := Cert.Reference20Ideal.Gen.facts) :=
  fun m g _ => (θ_run _ _ _).mono (fun r h => ⟨fun c => (h c).2.2.2.2, Idealize.ShloMosaic.sem_eq_zero_of_no_sems (by decide) r.2⟩) (Cert.Reference20Ideal.Value.run m g)

theorem reference_21 : Cert.quiescent_Reference21Ideal (hReference21Ideal := Cert.Reference21Ideal.Gen.facts) :=
  fun m g _ => (θ_run _ _ _).mono (fun r h => ⟨fun c => (h c).2.2.2.2, Idealize.ShloMosaic.sem_eq_zero_of_no_sems (by decide) r.2⟩) (Cert.Reference21Ideal.Value.run m g)

theorem reference_22 : Cert.quiescent_Reference22Ideal (hReference22Ideal := Cert.Reference22Ideal.Gen.facts) :=
  fun m g _ => (θ_run _ _ _).mono (fun r h => ⟨fun c => (h c).2.2.2.2, Idealize.ShloMosaic.sem_eq_zero_of_no_sems (by decide) r.2⟩) (Cert.Reference22Ideal.Value.run m g)

theorem reference_23 : Cert.quiescent_Reference23Ideal (hReference23Ideal := Cert.Reference23Ideal.Gen.facts) :=
  fun m g _ => (θ_run _ _ _).mono (fun r h => ⟨fun c => (h c).2.2.2.2, Idealize.ShloMosaic.sem_eq_zero_of_no_sems (by decide) r.2⟩) (Cert.Reference23Ideal.Value.run m g)

theorem reference_24 : Cert.quiescent_Reference24Ideal (hReference24Ideal := Cert.Reference24Ideal.Gen.facts) :=
  fun m g _ => (θ_run _ _ _).mono (fun r h => ⟨fun c => (h c).2.2.2.2, Idealize.ShloMosaic.sem_eq_zero_of_no_sems (by decide) r.2⟩) (Cert.Reference24Ideal.Value.run m g)

theorem reference_25 : Cert.quiescent_Reference25Ideal (hReference25Ideal := Cert.Reference25Ideal.Gen.facts) :=
  fun m g _ => (θ_run _ _ _).mono (fun r h => ⟨fun c => (h c).2.2.2.2, Idealize.ShloMosaic.sem_eq_zero_of_no_sems (by decide) r.2⟩) (Cert.Reference25Ideal.Value.run m g)

theorem reference_26 : Cert.quiescent_Reference26Ideal (hReference26Ideal := Cert.Reference26Ideal.Gen.facts) :=
  fun m g _ => (θ_run _ _ _).mono (fun r h => ⟨fun c => (h c).2.2, Idealize.ShloMosaic.sem_eq_zero_of_no_sems (by decide) r.2⟩) (Cert.Reference26Ideal.Value.run m g)

theorem reference_27 : Cert.quiescent_Reference27Ideal (hReference27Ideal := Cert.Reference27Ideal.Gen.facts) :=
  fun m g _ => (θ_run _ _ _).mono (fun r h => ⟨fun c => (h c).2.2, Idealize.ShloMosaic.sem_eq_zero_of_no_sems (by decide) r.2⟩) (Cert.Reference27Ideal.Value.run m g)

theorem reference_8 : Cert.quiescent_Reference8Ideal (hReference8Ideal := Cert.Reference8Ideal.Gen.facts) :=
  fun m g _ => (θ_run _ _ _).mono (fun r h => ⟨fun c => (h c).2.2.2.2, Idealize.ShloMosaic.sem_eq_zero_of_no_sems (by decide) r.2⟩) (Cert.Reference8Ideal.Value.run m g)

/-! ## The claim -/

theorem claim : Cert.Claim :=
  ⟨Cert.Kernel.Gen.facts, Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel8.Gen.facts, Cert.Kernel8Ideal.Gen.facts, Cert.Reference8Ideal.Gen.facts,
    frame_attention,
    frame_attention_ideal,
    fun m g _ => Cert.Kernel2.Gen.frame m g,
    fun m g _ => Cert.Kernel2Ideal.Gen.frame m g,
    reference_2,
    fun m g _ => Cert.Kernel3.Gen.frame m g,
    fun m g _ => Cert.Kernel3Ideal.Gen.frame m g,
    reference_3,
    fun m g _ => Cert.Kernel4.Gen.frame m g,
    fun m g _ => Cert.Kernel4Ideal.Gen.frame m g,
    reference_4,
    fun m g _ => Cert.Kernel5.Gen.frame m g,
    fun m g _ => Cert.Kernel5Ideal.Gen.frame m g,
    reference_5,
    fun m g _ => Cert.Kernel6.Gen.frame m g,
    fun m g _ => Cert.Kernel6Ideal.Gen.frame m g,
    reference_6,
    fun m g _ => Cert.Kernel7.Gen.frame m g,
    fun m g _ => Cert.Kernel7Ideal.Gen.frame m g,
    reference_7,
    fun m g _ => Cert.Kernel9.Gen.frame m g,
    fun m g _ => Cert.Kernel9Ideal.Gen.frame m g,
    reference_9,
    fun m g _ => Cert.Kernel10.Gen.frame m g,
    fun m g _ => Cert.Kernel10Ideal.Gen.frame m g,
    reference_10,
    fun m g _ => Cert.Kernel11.Gen.frame m g,
    fun m g _ => Cert.Kernel11Ideal.Gen.frame m g,
    reference_11,
    fun m g _ => Cert.Kernel12.Gen.frame m g,
    fun m g _ => Cert.Kernel12Ideal.Gen.frame m g,
    reference_12,
    fun m g _ => Cert.Kernel13.Gen.frame m g,
    fun m g _ => Cert.Kernel13Ideal.Gen.frame m g,
    reference_13,
    fun m g _ => Cert.Kernel14.Gen.frame m g,
    fun m g _ => Cert.Kernel14Ideal.Gen.frame m g,
    reference_14,
    frame_15,
    frame_15_ideal,
    reference_15,
    fun m g _ => Cert.Kernel16.Gen.frame m g,
    fun m g _ => Cert.Kernel16Ideal.Gen.frame m g,
    reference_16,
    fun m g _ => Cert.Kernel17.Gen.frame m g,
    fun m g _ => Cert.Kernel17Ideal.Gen.frame m g,
    reference_17,
    fun m g _ => Cert.Kernel18.Gen.frame m g,
    fun m g _ => Cert.Kernel18Ideal.Gen.frame m g,
    reference_18,
    fun m g _ => Cert.Kernel19.Gen.frame m g,
    fun m g _ => Cert.Kernel19Ideal.Gen.frame m g,
    reference_19,
    fun m g _ => Cert.Kernel20.Gen.frame m g,
    fun m g _ => Cert.Kernel20Ideal.Gen.frame m g,
    reference_20,
    fun m g _ => Cert.Kernel21.Gen.frame m g,
    fun m g _ => Cert.Kernel21Ideal.Gen.frame m g,
    reference_21,
    fun m g _ => Cert.Kernel22.Gen.frame m g,
    fun m g _ => Cert.Kernel22Ideal.Gen.frame m g,
    reference_22,
    fun m g _ => Cert.Kernel23.Gen.frame m g,
    fun m g _ => Cert.Kernel23Ideal.Gen.frame m g,
    reference_23,
    fun m g _ => Cert.Kernel24.Gen.frame m g,
    fun m g _ => Cert.Kernel24Ideal.Gen.frame m g,
    reference_24,
    fun m g _ => Cert.Kernel25.Gen.frame m g,
    fun m g _ => Cert.Kernel25Ideal.Gen.frame m g,
    reference_25,
    fun m g _ => Cert.Kernel26.Gen.frame m g,
    fun m g _ => Cert.Kernel26Ideal.Gen.frame m g,
    reference_26,
    fun m g _ => Cert.Kernel27.Gen.frame m g,
    fun m g _ => Cert.Kernel27Ideal.Gen.frame m g,
    reference_27,
    fun m g _ => Cert.Kernel8.Gen.frame m g,
    fun m g _ => Cert.Kernel8Ideal.Gen.frame m g,
    reference_8,
    preserves_attention, trivial, algebraic_2, trivial, algebraic_3, trivial, algebraic_4, trivial, algebraic_5, trivial, algebraic_6, trivial, algebraic_7, trivial, algebraic_9, trivial, algebraic_10, trivial, algebraic_11, trivial, algebraic_12, trivial, algebraic_13, trivial, algebraic_14, trivial, algebraic_15, trivial, algebraic_16, trivial, algebraic_17, trivial, algebraic_18, trivial, algebraic_19, trivial, algebraic_20, trivial, algebraic_21, trivial, algebraic_22, trivial, algebraic_23, trivial, algebraic_24, trivial, algebraic_25, trivial, algebraic_26, trivial, algebraic_27, trivial⟩

end Cert.Proof

end
